-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v31) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S8192x4096 : Shape := ⟨2, ![8192, 4096]⟩
abbrev S8192x19712 : Shape := ⟨2, ![8192, 19712]⟩
abbrev S32 : Shape := ⟨1, ![32]⟩
abbrev S2048 : Shape := ⟨1, ![2048]⟩
abbrev S128 : Shape := ⟨1, ![128]⟩
abbrev S128x1 : Shape := ⟨2, ![128, 1]⟩
abbrev S_ : Shape := ⟨0, ![]⟩
abbrev S1x2048 : Shape := ⟨2, ![1, 2048]⟩
abbrev S128x2048 : Shape := ⟨2, ![128, 2048]⟩
abbrev S32x64 : Shape := ⟨2, ![32, 64]⟩
abbrev S1x128 : Shape := ⟨2, ![1, 128]⟩
abbrev S1 : Shape := ⟨1, ![1]⟩
abbrev S2 : Shape := ⟨1, ![2]⟩
abbrev S8192x2048 : Shape := ⟨2, ![8192, 2048]⟩
abbrev S128x1024 : Shape := ⟨2, ![128, 1024]⟩
abbrev S128x128 : Shape := ⟨2, ![128, 128]⟩
abbrev S8x128x256 : Shape := ⟨3, ![8, 128, 256]⟩
abbrev S64x64 : Shape := ⟨2, ![64, 64]⟩
abbrev S64x2048 : Shape := ⟨2, ![64, 2048]⟩
abbrev S256x256 : Shape := ⟨2, ![256, 256]⟩
abbrev S64x128 : Shape := ⟨2, ![64, 128]⟩
abbrev S256x128 : Shape := ⟨2, ![256, 128]⟩
abbrev S64x256 : Shape := ⟨2, ![64, 256]⟩
abbrev S1x128x256 : Shape := ⟨3, ![1, 128, 256]⟩
abbrev S128x256 : Shape := ⟨2, ![128, 256]⟩
abbrev S1x256 : Shape := ⟨2, ![1, 256]⟩
abbrev S64 : Shape := ⟨1, ![64]⟩
abbrev S64x1 : Shape := ⟨2, ![64, 1]⟩

abbrev nBuf : Space → Nat
  | .hbm => 56
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S8192x19712, .bf16⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048, .f32⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S2048, .i32⟩
  | .hbm, ⟨12, _⟩ => ⟨S1x2048, .i32⟩
  | .hbm, ⟨13, _⟩ => ⟨S_, .i32⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S1x2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S1x2048, .i1⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048, .i32⟩
  | .hbm, ⟨31, _⟩ => ⟨S128x2048, .i32⟩
  | .hbm, ⟨32, _⟩ => ⟨S128x2048, .i32⟩
  | .hbm, ⟨33, _⟩ => ⟨S128x2048, .i1⟩
  | .hbm, ⟨34, _⟩ => ⟨S128x2048, .bf16⟩
  | .hbm, ⟨35, _⟩ => ⟨S32x64, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S1x128, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S1x128, .f32⟩
  | .hbm, ⟨54, _⟩ => ⟨S1x2048, .f32⟩
  | .hbm, ⟨55, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x128, .bf16⟩
  | .local _ .vmem, ⟨7, _⟩ => ⟨S128x128, .bf16⟩
  | .local _ .vmem, ⟨8, _⟩ => ⟨S128x2048, .bf16⟩
  | .local _ .vmem, ⟨9, _⟩ => ⟨S128x2048, .bf16⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S8x128x256, .f32⟩
  | .local _ .vmem, ⟨18, _⟩ => ⟨S128x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c152_i32 : BitVec 32 := 152#32
  let c0_i32 : BitVec 32 := 0#32
  ![v1.toNat, c152_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x4096 : Shape := ⟨2, ![8192, 4096]⟩
abbrev S8192x19712 : Shape := ⟨2, ![8192, 19712]⟩
abbrev S32 : Shape := ⟨1, ![32]⟩
abbrev S2048 : Shape := ⟨1, ![2048]⟩
abbrev S8192x2048 : Shape := ⟨2, ![8192, 2048]⟩
abbrev S2x64x64x8x4x64 : Shape := ⟨6, ![2, 64, 64, 8, 4, 64]⟩
abbrev S8192x1024 : Shape := ⟨2, ![8192, 1024]⟩
abbrev S2x64x64x8x128 : Shape := ⟨5, ![2, 64, 64, 8, 128]⟩
abbrev S8192x32 : Shape := ⟨2, ![8192, 32]⟩
abbrev S1x32 : Shape := ⟨2, ![1, 32]⟩
abbrev S_ : Shape := ⟨0, ![]⟩
abbrev S2x64x64x8x4 : Shape := ⟨5, ![2, 64, 64, 8, 4]⟩
abbrev S8x4 : Shape := ⟨2, ![8, 4]⟩
abbrev S2x8x4x64x128 : Shape := ⟨5, ![2, 8, 4, 64, 128]⟩
abbrev S64x2x64x8x4x64 : Shape := ⟨6, ![64, 2, 64, 8, 4, 64]⟩
abbrev S64x2x64x8x4 : Shape := ⟨5, ![64, 2, 64, 8, 4]⟩
abbrev S64x2x64x8x128 : Shape := ⟨5, ![64, 2, 64, 8, 128]⟩
abbrev S1x2x64x8x4x64 : Shape := ⟨6, ![1, 2, 64, 8, 4, 64]⟩
abbrev S2x64x8x4x64 : Shape := ⟨5, ![2, 64, 8, 4, 64]⟩
abbrev S1x2x64x8x4 : Shape := ⟨5, ![1, 2, 64, 8, 4]⟩
abbrev S2x64x8x4 : Shape := ⟨4, ![2, 64, 8, 4]⟩
abbrev S1x2x64x8x128 : Shape := ⟨5, ![1, 2, 64, 8, 128]⟩
abbrev S2x64x8x128 : Shape := ⟨4, ![2, 64, 8, 128]⟩
abbrev S1x1x8x4 : Shape := ⟨4, ![1, 1, 8, 4]⟩
abbrev S2x64x8x4x1 : Shape := ⟨5, ![2, 64, 8, 4, 1]⟩
abbrev S2x64x1x8x4 : Shape := ⟨5, ![2, 64, 1, 8, 4]⟩
abbrev S2x1x64x8x4 : Shape := ⟨5, ![2, 1, 64, 8, 4]⟩
abbrev S64x64 : Shape := ⟨2, ![64, 64]⟩
abbrev S64x64x1x1 : Shape := ⟨4, ![64, 64, 1, 1]⟩
abbrev S2x8x64x64 : Shape := ⟨4, ![2, 8, 64, 64]⟩
abbrev S2x64x64x8 : Shape := ⟨4, ![2, 64, 64, 8]⟩
abbrev S2x64x64x8x1 : Shape := ⟨5, ![2, 64, 64, 8, 1]⟩
abbrev S2x8x4x64x64 : Shape := ⟨5, ![2, 8, 4, 64, 64]⟩
abbrev S2x1x8x4 : Shape := ⟨4, ![2, 1, 8, 4]⟩
abbrev S2x8x4 : Shape := ⟨3, ![2, 8, 4]⟩
abbrev S2x8x4x1x1 : Shape := ⟨5, ![2, 8, 4, 1, 1]⟩
abbrev S8192x32x64 : Shape := ⟨3, ![8192, 32, 64]⟩
abbrev S32x1 : Shape := ⟨2, ![32, 1]⟩
abbrev S1x32x1 : Shape := ⟨3, ![1, 32, 1]⟩
abbrev S8192 : Shape := ⟨1, ![8192]⟩
abbrev S8192x1 : Shape := ⟨2, ![8192, 1]⟩
abbrev S1x2048 : Shape := ⟨2, ![1, 2048]⟩

abbrev nBuf : Space → Nat
  | .hbm => 191
  | .vmem => 0
  | .smem => 0
  | _ => 0

abbrev hbmTy0_0 (i : Nat) : BufTy := match i % 128 with
  | 0 => ⟨S8192x4096, .bf16⟩
  | 1 => ⟨S8192x19712, .bf16⟩
  | 2 => ⟨S32, .f32⟩
  | 3 => ⟨S32, .f32⟩
  | 4 => ⟨S32, .f32⟩
  | 5 => ⟨S2048, .f32⟩
  | 6 => ⟨S8192x2048, .bf16⟩
  | 7 => ⟨S8192x2048, .f32⟩
  | 8 => ⟨S2x64x64x8x4x64, .f32⟩
  | 9 => ⟨S8192x1024, .bf16⟩
  | 10 => ⟨S8192x1024, .f32⟩
  | 11 => ⟨S2x64x64x8x128, .f32⟩
  | 12 => ⟨S8192x1024, .bf16⟩
  | 13 => ⟨S8192x1024, .f32⟩
  | 14 => ⟨S2x64x64x8x128, .f32⟩
  | 15 => ⟨S8192x32, .bf16⟩
  | 16 => ⟨S8192x32, .f32⟩
  | 17 => ⟨S1x32, .f32⟩
  | 18 => ⟨S8192x32, .f32⟩
  | 19 => ⟨S8192x32, .f32⟩
  | 20 => ⟨S_, .f32⟩
  | 21 => ⟨S8192x32, .f32⟩
  | 22 => ⟨S8192x32, .f32⟩
  | 23 => ⟨S8192x32, .f32⟩
  | 24 => ⟨S8192x32, .f32⟩
  | 25 => ⟨S8192x32, .i1⟩
  | 26 => ⟨S8192x32, .f32⟩
  | 27 => ⟨S8192x32, .f32⟩
  | 28 => ⟨S8192x32, .f32⟩
  | 29 => ⟨S8192x32, .f32⟩
  | 30 => ⟨S8192x32, .f32⟩
  | 31 => ⟨S8192x32, .f32⟩
  | 32 => ⟨S8192x32, .f32⟩
  | 33 => ⟨S8192x32, .f32⟩
  | 34 => ⟨S2x64x64x8x4, .f32⟩
  | 35 => ⟨S32, .f32⟩
  | 36 => ⟨S8x4, .f32⟩
  | 37 => ⟨S8x4, .f32⟩
  | 38 => ⟨S_, .f32⟩
  | 39 => ⟨S2x8x4x64x128, .f32⟩
  | 40 => ⟨S64x2x64x8x4x64, .f32⟩
  | 41 => ⟨S64x2x64x8x4, .f32⟩
  | 42 => ⟨S64x2x64x8x128, .f32⟩
  | 43 => ⟨S64x2x64x8x128, .f32⟩
  | 44 => ⟨S_, .f32⟩
  | 45 => ⟨S64x2x64x8x4x64, .f32⟩
  | 46 => ⟨S_, .i32⟩
  | 47 => ⟨S64x2x64x8x4x64, .f32⟩
  | 48 => ⟨S64x2x64x8x4, .f32⟩
  | 49 => ⟨S64x2x64x8x128, .f32⟩
  | 50 => ⟨S64x2x64x8x128, .f32⟩
  | 51 => ⟨S8x4, .f32⟩
  | 52 => ⟨S_, .i32⟩
  | 53 => ⟨S2x8x4x64x128, .f32⟩
  | 54 => ⟨S64x2x64x8x4x64, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x2x64x8x4x64, .f32⟩
  | 63 => ⟨S2x64x8x4x64, .f32⟩
  | 64 => ⟨S_, .i32⟩
  | 65 => ⟨S_, .i32⟩
  | 66 => ⟨S_, .i32⟩
  | 67 => ⟨S_, .i32⟩
  | 68 => ⟨S1x2x64x8x4, .f32⟩
  | 69 => ⟨S2x64x8x4, .f32⟩
  | 70 => ⟨S_, .i32⟩
  | 71 => ⟨S_, .i32⟩
  | 72 => ⟨S_, .i32⟩
  | 73 => ⟨S_, .i32⟩
  | 74 => ⟨S1x2x64x8x128, .f32⟩
  | 75 => ⟨S2x64x8x128, .f32⟩
  | 76 => ⟨S_, .i32⟩
  | 77 => ⟨S_, .i32⟩
  | 78 => ⟨S_, .i32⟩
  | 79 => ⟨S_, .i32⟩
  | 80 => ⟨S1x2x64x8x128, .f32⟩
  | 81 => ⟨S2x64x8x128, .f32⟩
  | 82 => ⟨S1x1x8x4, .f32⟩
  | 83 => ⟨S2x64x8x4, .f32⟩
  | 84 => ⟨S2x64x8x4, .f32⟩
  | 85 => ⟨S_, .f32⟩
  | 86 => ⟨S_, .f32⟩
  | 87 => ⟨S2x64x8x4, .f32⟩
  | 88 => ⟨S2x64x8x4x1, .f32⟩
  | 89 => ⟨S2x64x8x4x64, .f32⟩
  | 90 => ⟨S2x64x8x4x64, .f32⟩
  | 91 => ⟨S2x64x1x8x4, .f32⟩
  | 92 => ⟨S2x1x64x8x4, .f32⟩
  | 93 => ⟨S2x64x64x8x4, .f32⟩
  | 94 => ⟨S2x64x64x8x4, .f32⟩
  | 95 => ⟨S2x64x64x8x4, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S64x64x1x1, .i1⟩
  | 108 => ⟨S_, .f32⟩
  | 109 => ⟨S2x64x64x8x4, .i1⟩
  | 110 => ⟨S2x64x64x8x4, .f32⟩
  | 111 => ⟨S2x64x64x8x4, .f32⟩
  | 112 => ⟨S2x64x64x8x4, .f32⟩
  | 113 => ⟨S2x8x64x64, .f32⟩
  | 114 => ⟨S2x64x64x8, .f32⟩
  | 115 => ⟨S2x64x64x8x1, .f32⟩
  | 116 => ⟨S2x64x64x8x4, .f32⟩
  | 117 => ⟨S2x64x64x8x4, .f32⟩
  | 118 => ⟨S2x8x4x64x64, .f32⟩
  | 119 => ⟨S2x64x8x4x64, .f32⟩
  | 120 => ⟨S2x1x8x4, .f32⟩
  | 121 => ⟨S2x64x8x4, .f32⟩
  | 122 => ⟨S2x64x8x4, .f32⟩
  | 123 => ⟨S2x64x8x4, .f32⟩
  | 124 => ⟨S2x64x8x4x1, .f32⟩
  | 125 => ⟨S2x64x8x4x64, .f32⟩
  | 126 => ⟨S2x64x8x4x64, .f32⟩
  | 127 => ⟨S2x8x4x64x128, .f32⟩
  | _ => ⟨S8192x4096, .bf16⟩

abbrev hbmTy0_1 (i : Nat) : BufTy := match i % 128 with
  | 0 => ⟨S2x1x8x4, .f32⟩
  | 1 => ⟨S2x8x4, .f32⟩
  | 2 => ⟨S2x8x4, .f32⟩
  | 3 => ⟨S2x8x4x64x64, .f32⟩
  | 4 => ⟨S2x64x8x4x64, .f32⟩
  | 5 => ⟨S2x64x8x4, .f32⟩
  | 6 => ⟨S2x64x8x4x1, .f32⟩
  | 7 => ⟨S2x64x8x4x64, .f32⟩
  | 8 => ⟨S2x64x8x4x64, .f32⟩
  | 9 => ⟨S2x8x4x1x1, .f32⟩
  | 10 => ⟨S2x8x4x64x128, .f32⟩
  | 11 => ⟨S2x8x4x64x128, .f32⟩
  | 12 => ⟨S2x8x4x64x128, .f32⟩
  | 13 => ⟨S2x64x8x4x64, .f32⟩
  | 14 => ⟨S1x2x64x8x4x64, .f32⟩
  | 15 => ⟨S_, .i32⟩
  | 16 => ⟨S_, .i32⟩
  | 17 => ⟨S_, .i32⟩
  | 18 => ⟨S_, .i32⟩
  | 19 => ⟨S_, .i32⟩
  | 20 => ⟨S64x2x64x8x4x64, .f32⟩
  | 21 => ⟨S_, .i32⟩
  | 22 => ⟨S_, .i32⟩
  | 23 => ⟨S2x64x64x8x4x64, .f32⟩
  | 24 => ⟨S8192x32x64, .f32⟩
  | 25 => ⟨S32x1, .f32⟩
  | 26 => ⟨S8192x2048, .bf16⟩
  | 27 => ⟨S8192x2048, .f32⟩
  | 28 => ⟨S8192x32x64, .f32⟩
  | 29 => ⟨S1x32x1, .f32⟩
  | 30 => ⟨S8192x32x64, .f32⟩
  | 31 => ⟨S8192x32x64, .f32⟩
  | 32 => ⟨S8192x32x64, .f32⟩
  | 33 => ⟨S8192x2048, .f32⟩
  | 34 => ⟨S8192x2048, .bf16⟩
  | 35 => ⟨S8192x2048, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x2048, .f32⟩
  | 58 => ⟨S8192x2048, .f32⟩
  | 59 => ⟨S1x2048, .f32⟩
  | 60 => ⟨S8192x2048, .f32⟩
  | 61 => ⟨S8192x2048, .f32⟩
  | 62 => ⟨S8192x2048, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_c : Ref sig .tc := ⟨.hbm, 46, rfl⟩
abbrev main_v25_0 : Ref sig .tc := ⟨.hbm, 47, rfl⟩
abbrev main_v25_1 : Ref sig .tc := ⟨.hbm, 48, rfl⟩
abbrev main_v25_2 : Ref sig .tc := ⟨.hbm, 49, rfl⟩
abbrev main_v25_3 : Ref sig .tc := ⟨.hbm, 50, rfl⟩
abbrev main_v25_4 : Ref sig .tc := ⟨.hbm, 51, rfl⟩
abbrev main_v25_5 : Ref sig .tc := ⟨.hbm, 52, rfl⟩
abbrev main_v25_6 : Ref sig .tc := ⟨.hbm, 53, rfl⟩
abbrev main_v25_7 : Ref sig .tc := ⟨.hbm, 54, rfl⟩
abbrev main_while0c_c_11 : Ref sig .tc := ⟨.hbm, 55, rfl⟩
abbrev main_while0c_v55 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_c_1 : Ref sig .tc := ⟨.hbm, 59, rfl⟩
abbrev main_while0b_call1_c_2 : Ref sig .tc := ⟨.hbm, 60, rfl⟩
abbrev main_while0b_call1_c_3 : Ref sig .tc := ⟨.hbm, 61, rfl⟩
abbrev main_while0b_call1_v0 : Ref sig .tc := ⟨.hbm, 62, rfl⟩
abbrev main_while0b_v55 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_call2_c_2 : Ref sig .tc := ⟨.hbm, 67, rfl⟩
abbrev main_while0b_call2_v0 : Ref sig .tc := ⟨.hbm, 68, rfl⟩
abbrev main_while0b_v56 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_c_2 : Ref sig .tc := ⟨.hbm, 73, rfl⟩
abbrev main_while0b_call3_v0 : Ref sig .tc := ⟨.hbm, 74, rfl⟩
abbrev main_while0b_v57 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_c_2 : Ref sig .tc := ⟨.hbm, 79, rfl⟩
abbrev main_while0b_call4_v0 : Ref sig .tc := ⟨.hbm, 80, rfl⟩
abbrev main_while0b_v58 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_call5_call0_cst : Ref sig .tc := ⟨.hbm, 85, rfl⟩
abbrev main_while0b_call5_call0_v0 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_c_11 : Ref sig .tc := ⟨.hbm, 96, rfl⟩
abbrev main_while0b_v71 : Ref sig .tc := ⟨.hbm, 97, rfl⟩
abbrev main_while0b_call6_v0 : Ref sig .tc := ⟨.hbm, 98, rfl⟩
abbrev main_while0b_call6_c : Ref sig .tc := ⟨.hbm, 99, rfl⟩
abbrev main_while0b_call6_v1 : Ref sig .tc := ⟨.hbm, 100, rfl⟩
abbrev main_while0b_call6_v2 : Ref sig .tc := ⟨.hbm, 101, rfl⟩
abbrev main_while0b_call6_v3 : Ref sig .tc := ⟨.hbm, 102, rfl⟩
abbrev main_while0b_call6_v4 : Ref sig .tc := ⟨.hbm, 103, rfl⟩
abbrev main_while0b_call6_c_0 : Ref sig .tc := ⟨.hbm, 104, rfl⟩
abbrev main_while0b_call6_v5 : Ref sig .tc := ⟨.hbm, 105, rfl⟩
abbrev main_while0b_v72 : Ref sig .tc := ⟨.hbm, 106, rfl⟩
abbrev main_while0b_v73 : Ref sig .tc := ⟨.hbm, 107, rfl⟩
abbrev main_while0b_cst_12 : Ref sig .tc := ⟨.hbm, 108, rfl⟩
abbrev main_while0b_call7_v0 : Ref sig .tc := ⟨.hbm, 109, rfl⟩
abbrev main_while0b_call7_v1 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_v102 : Ref sig .tc := ⟨.hbm, 139, rfl⟩
abbrev main_while0b_v103 : Ref sig .tc := ⟨.hbm, 140, rfl⟩
abbrev main_while0b_v104 : Ref sig .tc := ⟨.hbm, 141, rfl⟩
abbrev main_while0b_call8_v0 : Ref sig .tc := ⟨.hbm, 142, rfl⟩
abbrev main_while0b_call8_c : Ref sig .tc := ⟨.hbm, 143, rfl⟩
abbrev main_while0b_call8_c_0 : Ref sig .tc := ⟨.hbm, 144, rfl⟩
abbrev main_while0b_call8_c_1 : Ref sig .tc := ⟨.hbm, 145, rfl⟩
abbrev main_while0b_call8_c_2 : Ref sig .tc := ⟨.hbm, 146, rfl⟩
abbrev main_while0b_call8_c_3 : Ref sig .tc := ⟨.hbm, 147, rfl⟩
abbrev main_while0b_v105 : Ref sig .tc := ⟨.hbm, 148, rfl⟩
abbrev main_while0b_c_13 : Ref sig .tc := ⟨.hbm, 149, rfl⟩
abbrev main_while0b_v106 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_call9_v0 : Ref sig .tc := ⟨.hbm, 164, rfl⟩
abbrev main_call9_v1 : Ref sig .tc := ⟨.hbm, 165, rfl⟩
abbrev main_call9_cst : Ref sig .tc := ⟨.hbm, 166, rfl⟩
abbrev main_call9_v2 : Ref sig .tc := ⟨.hbm, 167, rfl⟩
abbrev main_call9_v3 : Ref sig .tc := ⟨.hbm, 168, rfl⟩
abbrev main_call9_cst_0 : Ref sig .tc := ⟨.hbm, 169, rfl⟩
abbrev main_call9_v4 : Ref sig .tc := ⟨.hbm, 170, rfl⟩
abbrev main_call9_v5 : Ref sig .tc := ⟨.hbm, 171, rfl⟩
abbrev main_v39 : Ref sig .tc := ⟨.hbm, 172, rfl⟩
abbrev main_v40 : Ref sig .tc := ⟨.hbm, 173, rfl⟩
abbrev main_v41 : Ref sig .tc := ⟨.hbm, 174, rfl⟩
abbrev main_cst_1 : Ref sig .tc := ⟨.hbm, 175, rfl⟩
abbrev main_v42 : Ref sig .tc := ⟨.hbm, 176, rfl⟩
abbrev main_v43 : Ref sig .tc := ⟨.hbm, 177, rfl⟩
abbrev main_cst_2 : Ref sig .tc := ⟨.hbm, 178, rfl⟩
abbrev main_v44 : Ref sig .tc := ⟨.hbm, 179, rfl⟩
abbrev main_v45 : Ref sig .tc := ⟨.hbm, 180, rfl⟩
abbrev main_cst_3 : Ref sig .tc := ⟨.hbm, 181, rfl⟩
abbrev main_v46 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S4x2048x19712 : Shape := ⟨3, ![4, 2048, 19712]⟩
abbrev S8192x19712 : Shape := ⟨2, ![8192, 19712]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x19712, .bf16⟩
  | .hbm, ⟨2, _⟩ => ⟨S8192x19712, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S4x2048x19712 : Shape := ⟨3, ![4, 2048, 19712]⟩
abbrev S1x2048x19712 : Shape := ⟨3, ![1, 2048, 19712]⟩
abbrev S2048x19712 : Shape := ⟨2, ![2048, 19712]⟩
abbrev S8192x19712 : Shape := ⟨2, ![8192, 19712]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x19712, .bf16⟩
  | .hbm, ⟨2, _⟩ => ⟨S8192x2048, .f32⟩
  | .hbm, ⟨3, _⟩ => ⟨S1x2048x19712, .bf16⟩
  | .hbm, ⟨4, _⟩ => ⟨S2048x19712, .bf16⟩
  | .hbm, ⟨5, _⟩ => ⟨S2048x19712, .f32⟩
  | .hbm, ⟨6, _⟩ => ⟨S8192x19712, .f32⟩
  | .hbm, ⟨7, _⟩ => ⟨S8192x19712, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S4x2048x5632 : Shape := ⟨3, ![4, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel4.lean ====
abbrev S8192x5632 : Shape := ⟨2, ![8192, 5632]⟩
abbrev S4x5632x2048 : Shape := ⟨3, ![4, 5632, 2048]⟩
abbrev S8192x2048 : Shape := ⟨2, ![8192, 2048]⟩
abbrev S2x6x2048 : Shape := ⟨3, ![2, 6, 2048]⟩
abbrev S512x5632 : Shape := ⟨2, ![512, 5632]⟩
abbrev S1x5632x512 : Shape := ⟨3, ![1, 5632, 512]⟩
abbrev S512x512 : Shape := ⟨2, ![512, 512]⟩
abbrev S1x6x512 : Shape := ⟨3, ![1, 6, 512]⟩
abbrev S5632x512 : Shape := ⟨2, ![5632, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S2x6x2048, .f32⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x6x512, .f32⟩
  | .local _ .vmem, ⟨7, _⟩ => ⟨S1x6x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x5632 : Shape := ⟨2, ![8192, 5632]⟩
abbrev S4x5632x2048 : Shape := ⟨3, ![4, 5632, 2048]⟩
abbrev S8192x2048 : Shape := ⟨2, ![8192, 2048]⟩
abbrev S2x6x2048 : Shape := ⟨3, ![2, 6, 2048]⟩
abbrev S1x5632x2048 : Shape := ⟨3, ![1, 5632, 2048]⟩
abbrev S5632x2048 : Shape := ⟨2, ![5632, 2048]⟩
abbrev S2x4096x2048 : Shape := ⟨3, ![2, 4096, 2048]⟩
abbrev S2x1x2048 : Shape := ⟨3, ![2, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S2x6x2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S8192x19712 : Shape := ⟨2, ![8192, 19712]⟩
abbrev S4x3x2048 : Shape := ⟨3, ![4, 3, 2048]⟩
abbrev S4x2048x2048 : Shape := ⟨3, ![4, 2048, 2048]⟩
abbrev S4x1024x2048 : Shape := ⟨3, ![4, 1024, 2048]⟩
abbrev S1024x2048 : Shape := ⟨2, ![1024, 2048]⟩
abbrev S1024x1024 : Shape := ⟨2, ![1024, 1024]⟩
abbrev S1024x512 : Shape := ⟨2, ![1024, 512]⟩
abbrev S1x3x512 : Shape := ⟨3, ![1, 3, 512]⟩
abbrev S1x2048x512 : Shape := ⟨3, ![1, 2048, 512]⟩
abbrev S1x1024x512 : Shape := ⟨3, ![1, 1024, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 9
  | .vmem => 25
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x19712, .bf16⟩
  | .hbm, ⟨4, _⟩ => ⟨S4x3x2048, .f32⟩
  | .hbm, ⟨5, _⟩ => ⟨S4x2048x2048, .f32⟩
  | .hbm, ⟨6, _⟩ => ⟨S4x1024x2048, .f32⟩
  | .hbm, ⟨7, _⟩ => ⟨S4x1024x2048, .f32⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x3x512, .f32⟩
  | .local _ .vmem, ⟨13, _⟩ => ⟨S1x3x512, .f32⟩
  | .local _ .vmem, ⟨14, _⟩ => ⟨S1x2048x512, .f32⟩
  | .local _ .vmem, ⟨15, _⟩ => ⟨S1x2048x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1024x512, .bf16⟩
  | .local _ .vmem, ⟨21, _⟩ => ⟨S1024x512, .bf16⟩
  | .local _ .vmem, ⟨22, _⟩ => ⟨S2048x512, .bf16⟩
  | .local _ .vmem, ⟨23, _⟩ => ⟨S1024x512, .bf16⟩
  | .local _ .vmem, ⟨24, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8192x2048 : Shape := ⟨2, ![8192, 2048]⟩
abbrev S8192x1024 : Shape := ⟨2, ![8192, 1024]⟩
abbrev S8192x19712 : Shape := ⟨2, ![8192, 19712]⟩
abbrev S4x3x2048 : Shape := ⟨3, ![4, 3, 2048]⟩
abbrev S4x2048x2048 : Shape := ⟨3, ![4, 2048, 2048]⟩
abbrev S4x1024x2048 : Shape := ⟨3, ![4, 1024, 2048]⟩
abbrev S8192x6144 : Shape := ⟨2, ![8192, 6144]⟩
abbrev S8192x3x2048 : Shape := ⟨3, ![8192, 3, 2048]⟩
abbrev S1x3x2048 : Shape := ⟨3, ![1, 3, 2048]⟩
abbrev S3x2048 : Shape := ⟨2, ![3, 2048]⟩
abbrev S_ : Shape := ⟨0, ![]⟩
abbrev S8192x1x2048 : Shape := ⟨3, ![8192, 1, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x19712, .bf16⟩
  | .hbm, ⟨4, _⟩ => ⟨S4x3x2048, .f32⟩
  | .hbm, ⟨5, _⟩ => ⟨S4x2048x2048, .f32⟩
  | .hbm, ⟨6, _⟩ => ⟨S4x1024x2048, .f32⟩
  | .hbm, ⟨7, _⟩ => ⟨S4x1024x2048, .f32⟩
  | .hbm, ⟨8, _⟩ => ⟨S8192x6144, .bf16⟩
  | .hbm, ⟨9, _⟩ => ⟨S8192x6144, .f32⟩
  | .hbm, ⟨10, _⟩ => ⟨S8192x3x2048, .f32⟩
  | .hbm, ⟨11, _⟩ => ⟨S1x3x2048, .f32⟩
  | .hbm, ⟨12, _⟩ => ⟨S3x2048, .f32⟩
  | .hbm, ⟨13, _⟩ => ⟨S1x3x2048, .f32⟩
  | .hbm, ⟨14, _⟩ => ⟨S8192x3x2048, .f32⟩
  | .hbm, ⟨15, _⟩ => ⟨S8192x3x2048, .f32⟩
  | .hbm, ⟨16, _⟩ => ⟨S8192x3x2048, .f32⟩
  | .hbm, ⟨17, _⟩ => ⟨S8192x3x2048, .f32⟩
  | .hbm, ⟨18, _⟩ => ⟨S_, .f32⟩
  | .hbm, ⟨19, _⟩ => ⟨S8192x3x2048, .f32⟩
  | .hbm, ⟨20, _⟩ => ⟨S8192x3x2048, .f32⟩
  | .hbm, ⟨21, _⟩ => ⟨S_, .f32⟩
  | .hbm, ⟨22, _⟩ => ⟨S8192x3x2048, .f32⟩
  | .hbm, ⟨23, _⟩ => ⟨S8192x3x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S1x2048x2048, .f32⟩
  | .hbm, ⟨28, _⟩ => ⟨S2048x2048, .f32⟩
  | .hbm, ⟨29, _⟩ => ⟨S8192x2048, .f32⟩
  | .hbm, ⟨30, _⟩ => ⟨S8192x2048, .f32⟩
  | .hbm, ⟨31, _⟩ => ⟨S8192x1x2048, .f32⟩
  | .hbm, ⟨32, _⟩ => ⟨S8192x2048, .f32⟩
  | .hbm, ⟨33, _⟩ => ⟨S8192x1024, .f32⟩
  | .hbm, ⟨34, _⟩ => ⟨S1x1024x2048, .f32⟩
  | .hbm, ⟨35, _⟩ => ⟨S1024x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1x2048, .f32⟩
  | .hbm, ⟨40, _⟩ => ⟨S8192x2048, .f32⟩
  | .hbm, ⟨41, _⟩ => ⟨S8192x1024, .f32⟩
  | .hbm, ⟨42, _⟩ => ⟨S1x1024x2048, .f32⟩
  | .hbm, ⟨43, _⟩ => ⟨S1024x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel6.lean ====
abbrev S8192x2048 : Shape := ⟨2, ![8192, 2048]⟩
abbrev S4x2048x2048 : Shape := ⟨3, ![4, 2048, 2048]⟩
abbrev S2x6x2048 : Shape := ⟨3, ![2, 6, 2048]⟩
abbrev S1024x2048 : Shape := ⟨2, ![1024, 2048]⟩
abbrev S1x2048x512 : Shape := ⟨3, ![1, 2048, 512]⟩
abbrev S1024x512 : Shape := ⟨2, ![1024, 512]⟩
abbrev S1x6x512 : Shape := ⟨3, ![1, 6, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S2x6x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x2048 : Shape := ⟨2, ![8192, 2048]⟩
abbrev S4x2048x2048 : Shape := ⟨3, ![4, 2048, 2048]⟩
abbrev S2x6x2048 : Shape := ⟨3, ![2, 6, 2048]⟩
abbrev S1x2048x2048 : Shape := ⟨3, ![1, 2048, 2048]⟩
abbrev S2048x2048 : Shape := ⟨2, ![2048, 2048]⟩
abbrev S2x4096x2048 : Shape := ⟨3, ![2, 4096, 2048]⟩
abbrev S2x1x2048 : Shape := ⟨3, ![2, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S2x6x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S2x6x2048 : Shape := ⟨3, ![2, 6, 2048]⟩
abbrev S1x2048 : Shape := ⟨2, ![1, 2048]⟩
abbrev S512x2048 : Shape := ⟨2, ![512, 2048]⟩
abbrev S1x6x2048 : Shape := ⟨3, ![1, 6, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x6x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x2048 : Shape := ⟨2, ![8192, 2048]⟩
abbrev S2048 : Shape := ⟨1, ![2048]⟩
abbrev S2x6x2048 : Shape := ⟨3, ![2, 6, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x4096x2048 : Shape := ⟨3, ![2, 4096, 2048]⟩
abbrev S2x1x2048 : Shape := ⟨3, ![2, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x6x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2x4096x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S2x6x2048 : Shape := ⟨3, ![2, 6, 2048]⟩
abbrev S1x2048 : Shape := ⟨2, ![1, 2048]⟩
abbrev S512x2048 : Shape := ⟨2, ![512, 2048]⟩
abbrev S1x6x2048 : Shape := ⟨3, ![1, 6, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x6x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x2048 : Shape := ⟨2, ![8192, 2048]⟩
abbrev S2048 : Shape := ⟨1, ![2048]⟩
abbrev S2x6x2048 : Shape := ⟨3, ![2, 6, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x4096x2048 : Shape := ⟨3, ![2, 4096, 2048]⟩
abbrev S2x1x2048 : Shape := ⟨3, ![2, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x6x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2x4096x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel10.lean ====
abbrev S2x2048 : Shape := ⟨2, ![2, 2048]⟩
abbrev S4x2048x12288 : Shape := ⟨3, ![4, 2048, 12288]⟩
abbrev S4x12288 : Shape := ⟨2, ![4, 12288]⟩
abbrev S2x2048x1 : Shape := ⟨3, ![2, 2048, 1]⟩
abbrev S2x2048x128 : Shape := ⟨3, ![2, 2048, 128]⟩
abbrev S4x1x12288 : Shape := ⟨3, ![4, 1, 12288]⟩
abbrev S4x2x12288 : Shape := ⟨3, ![4, 2, 12288]⟩
abbrev S1x2048x1024 : Shape := ⟨3, ![1, 2048, 1024]⟩
abbrev S1x1x1024 : Shape := ⟨3, ![1, 1, 1024]⟩
abbrev S1x2x1024 : Shape := ⟨3, ![1, 2, 1024]⟩
abbrev S2048x1024 : Shape := ⟨2, ![2048, 1024]⟩
abbrev S1x2048x128 : Shape := ⟨3, ![1, 2048, 128]⟩
abbrev S2048x128 : Shape := ⟨2, ![2048, 128]⟩
abbrev S128 : Shape := ⟨1, ![128]⟩
abbrev S1x128 : Shape := ⟨2, ![1, 128]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S2x2048x1, .f32⟩
  | .hbm, ⟨4, _⟩ => ⟨S2x2048x128, .f32⟩
  | .hbm, ⟨5, _⟩ => ⟨S4x1x12288, .f32⟩
  | .hbm, ⟨6, _⟩ => ⟨S4x2x12288, .f32⟩
  | .local _ .vmem, ⟨0, _⟩ => ⟨S2x2048x128, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x2048 : Shape := ⟨2, ![2, 2048]⟩
abbrev S4x2048x12288 : Shape := ⟨3, ![4, 2048, 12288]⟩
abbrev S4x12288 : Shape := ⟨2, ![4, 12288]⟩
abbrev S_ : Shape := ⟨0, ![]⟩
abbrev S4x12288x2 : Shape := ⟨3, ![4, 12288, 2]⟩
abbrev S4x2x12288 : Shape := ⟨3, ![4, 2, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S4x12288x2, .f32⟩
  | .hbm, ⟨13, _⟩ => ⟨S4x2x12288, .f32⟩
  | .hbm, ⟨14, _⟩ => ⟨S4x1x12288, .f32⟩
  | .hbm, ⟨15, _⟩ => ⟨S4x2x12288, .f32⟩
  | .hbm, ⟨16, _⟩ => ⟨S4x2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S8192x19712 : Shape := ⟨2, ![8192, 19712]⟩
abbrev S3x1024 : Shape := ⟨2, ![3, 1024]⟩
abbrev S8192x1024 : Shape := ⟨2, ![8192, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩

abbrev nBuf : Space → Nat
  | .hbm => 3
  | .vmem => 14
  | .smem => 0
  | _ => 0

abbrev bufTy : (tb : Table) → Fin (tcTables nBuf tb) → BufTy
  | .hbm, ⟨0, _⟩ => ⟨S8192x19712, .bf16⟩
  | .hbm, ⟨1, _⟩ => ⟨S3x1024, .f32⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S512x1024, .bf16⟩
  | .local _ .vmem, ⟨12, _⟩ => ⟨S512x1024, .bf16⟩
  | .local _ .vmem, ⟨13, _⟩ => ⟨S528x1024, .f32⟩
  | _, _ => ⟨S8192x19712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c12_i32 : BitVec 32 := 12#32
  let c0_i32 : BitVec 32 := 0#32
  ![v1.toNat, c12_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c13_i32 : BitVec 32 := 13#32
  let c0_i32 : BitVec 32 := 0#32
  ![v1.toNat, c13_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c14_i32 : BitVec 32 := 14#32
  let c0_i32 : BitVec 32 := 0#32
  ![v1.toNat, c14_i32.toNat]

def cc0_transform_3 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c512_i32 : BitVec 32 := 512#32
  let v1 : BitVec 32 := Scalar.muli arg1 c512_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c13_i32 : BitVec 32 := 13#32
  let c0_i32_6 : BitVec 32 := 0#32
  ![v21.toNat, c13_i32.toNat]

def cc0_transform_4 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c512_i32 : BitVec 32 := 512#32
  let v1 : BitVec 32 := Scalar.muli arg1 c512_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c14_i32 : BitVec 32 := 14#32
  let c0_i32_6 : BitVec 32 := 0#32
  ![v21.toNat, c14_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S8192x19712 : Shape := ⟨2, ![8192, 19712]⟩
abbrev S3x1024 : Shape := ⟨2, ![3, 1024]⟩
abbrev S8192x1024 : Shape := ⟨2, ![8192, 1024]⟩
abbrev S2x4096x1024 : Shape := ⟨3, ![2, 4096, 1024]⟩
abbrev S_ : Shape := ⟨0, ![]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x19712, .bf16⟩
  | .hbm, ⟨1, _⟩ => ⟨S3x1024, .f32⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S2x4096x1024, .f32⟩
  | .hbm, ⟨10, _⟩ => ⟨S_, .i32⟩
  | .hbm, ⟨11, _⟩ => ⟨S_, .f32⟩
  | .hbm, ⟨12, _⟩ => ⟨S2x4098x1024, .f32⟩
  | .hbm, ⟨13, _⟩ => ⟨S1x1024, .f32⟩
  | .hbm, ⟨14, _⟩ => ⟨S1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S1x1024, .f32⟩
  | .hbm, ⟨20, _⟩ => ⟨S1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S1x1024, .f32⟩
  | .hbm, ⟨27, _⟩ => ⟨S1024, .f32⟩
  | .hbm, ⟨28, _⟩ => ⟨S2x4096x1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x19712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Kernel12.lean ====
abbrev S8192x19712 : Shape := ⟨2, ![8192, 19712]⟩
abbrev S4x4096 : Shape := ⟨2, ![4, 4096]⟩
abbrev S4096 : Shape := ⟨1, ![4096]⟩
abbrev S1x4096 : Shape := ⟨2, ![1, 4096]⟩
abbrev S8192x4096 : Shape := ⟨2, ![8192, 4096]⟩
abbrev S512x1024 : Shape := ⟨2, ![512, 1024]⟩
abbrev S16x1024 : Shape := ⟨2, ![16, 1024]⟩
abbrev S4x1024 : Shape := ⟨2, ![4, 1024]⟩
abbrev S1x1024 : Shape := ⟨2, ![1, 1024]⟩
abbrev S528x1024 : Shape := ⟨2, ![528, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x19712, .bf16⟩
  | .hbm, ⟨1, _⟩ => ⟨S4x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S528x1024, .f32⟩
  | _, _ => ⟨S8192x19712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.addi c8_i32_0 arg2
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4096_i32 : BitVec 32 := 4096#32
  let v0 : BitVec 32 := Scalar.muli arg0 c4096_i32
  let c512_i32 : BitVec 32 := 512#32
  let v1 : BitVec 32 := Scalar.muli arg1 c512_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c8_i32 : BitVec 32 := 8#32
  let v22 : BitVec 32 := Scalar.addi c8_i32 arg2
  let c0_i32_6 : BitVec 32 := 0#32
  ![v21.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference12Ideal.lean ====
abbrev S8192x19712 : Shape := ⟨2, ![8192, 19712]⟩
abbrev S4x4096 : Shape := ⟨2, ![4, 4096]⟩
abbrev S4096 : Shape := ⟨1, ![4096]⟩
abbrev S8192x4096 : Shape := ⟨2, ![8192, 4096]⟩
abbrev S2x4096x4096 : Shape := ⟨3, ![2, 4096, 4096]⟩
abbrev S_ : Shape := ⟨0, ![]⟩
abbrev S2x4099x4096 : Shape := ⟨3, ![2, 4099, 4096]⟩
abbrev S1x4096 : Shape := ⟨2, ![1, 4096]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x19712, .bf16⟩
  | .hbm, ⟨1, _⟩ => ⟨S4x4096, .f32⟩
  | .hbm, ⟨2, _⟩ => ⟨S4096, .f32⟩
  | .hbm, ⟨3, _⟩ => ⟨S8192x4096, .bf16⟩
  | .hbm, ⟨4, _⟩ => ⟨S8192x4096, .f32⟩
  | .hbm, ⟨5, _⟩ => ⟨S2x4096x4096, .f32⟩
  | .hbm, ⟨6, _⟩ => ⟨S_, .i32⟩
  | .hbm, ⟨7, _⟩ => ⟨S_, .f32⟩
  | .hbm, ⟨8, _⟩ => ⟨S2x4099x4096, .f32⟩
  | .hbm, ⟨9, _⟩ => ⟨S1x4096, .f32⟩
  | .hbm, ⟨10, _⟩ => ⟨S4096, .f32⟩
  | .hbm, ⟨11, _⟩ => ⟨S2x4096x4096, .f32⟩
  | .hbm, ⟨12, _⟩ => ⟨S1x1x4096, .f32⟩
  | .hbm, ⟨13, _⟩ => ⟨S2x4096x4096, .f32⟩
  | .hbm, ⟨14, _⟩ => ⟨S2x4096x4096, .f32⟩
  | .hbm, ⟨15, _⟩ => ⟨S1x4096, .f32⟩
  | .hbm, ⟨16, _⟩ => ⟨S4096, .f32⟩
  | .hbm, ⟨17, _⟩ => ⟨S2x4096x4096, .f32⟩
  | .hbm, ⟨18, _⟩ => ⟨S1x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S1x4096, .f32⟩
  | .hbm, ⟨23, _⟩ => ⟨S4096, .f32⟩
  | .hbm, ⟨24, _⟩ => ⟨S2x4096x4096, .f32⟩
  | .hbm, ⟨25, _⟩ => ⟨S1x1x4096, .f32⟩
  | .hbm, ⟨26, _⟩ => ⟨S2x4096x4096, .f32⟩
  | .hbm, ⟨27, _⟩ => ⟨S2x4096x4096, .f32⟩
  | .hbm, ⟨28, _⟩ => ⟨S2x4096x4096, .f32⟩
  | .hbm, ⟨29, _⟩ => ⟨S1x4096, .f32⟩
  | .hbm, ⟨30, _⟩ => ⟨S4096, .f32⟩
  | .hbm, ⟨31, _⟩ => ⟨S2x4096x4096, .f32⟩
  | .hbm, ⟨32, _⟩ => ⟨S1x1x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S1x1x4096, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S2x4096x4096, .f32⟩
  | .hbm, ⟨41, _⟩ => ⟨S_, .f32⟩
  | .hbm, ⟨42, _⟩ => ⟨S2x4096x4096, .f32⟩
  | .hbm, ⟨43, _⟩ => ⟨S2x4096x4096, .f32⟩
  | .hbm, ⟨44, _⟩ => ⟨S_, .f32⟩
  | .hbm, ⟨45, _⟩ => ⟨S2x4096x4096, .f32⟩
  | .hbm, ⟨46, _⟩ => ⟨S2x4096x4096, .f32⟩
  | .hbm, ⟨47, _⟩ => ⟨S2x4096x4096, .f32⟩
  | .hbm, ⟨48, _⟩ => ⟨S8192x4096, .f32⟩
  | .hbm, ⟨49, _⟩ => ⟨S8192x4096, .bf16⟩
  | _, _ => ⟨S8192x19712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel13.lean ====
abbrev S4x2048x19568 : Shape := ⟨3, ![4, 2048, 19568]⟩
abbrev S4x2048x19712 : Shape := ⟨3, ![4, 2048, 19712]⟩
abbrev S1x128x19568 : Shape := ⟨3, ![1, 128, 19568]⟩
abbrev S1x128x19712 : Shape := ⟨3, ![1, 128, 19712]⟩
abbrev S1x128x1024 : Shape := ⟨3, ![1, 128, 1024]⟩
abbrev S128x1024 : Shape := ⟨2, ![128, 1024]⟩
abbrev S1x128x64 : Shape := ⟨3, ![1, 128, 64]⟩
abbrev S128x64 : Shape := ⟨2, ![128, 64]⟩
abbrev S1x128x32 : Shape := ⟨3, ![1, 128, 32]⟩
abbrev S128x32 : Shape := ⟨2, ![128, 32]⟩
abbrev S1x128x16 : Shape := ⟨3, ![1, 128, 16]⟩
abbrev S128x16 : Shape := ⟨2, ![128, 16]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x19568, .f32⟩
  | .hbm, ⟨1, _⟩ => ⟨S4x2048x19712, .bf16⟩
  | .local _ .vmem, ⟨0, _⟩ => ⟨S1x128x19568, .f32⟩
  | .local _ .vmem, ⟨1, _⟩ => ⟨S1x128x19568, .f32⟩
  | .local _ .vmem, ⟨2, _⟩ => ⟨S1x128x19712, .bf16⟩
  | .local _ .vmem, ⟨3, _⟩ => ⟨S1x128x19712, .bf16⟩
  | _, _ => ⟨S4x2048x19568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x19568 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x19712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference13Ideal.lean ====
abbrev S4x2048x19568 : Shape := ⟨3, ![4, 2048, 19568]⟩
abbrev S_ : Shape := ⟨0, ![]⟩
abbrev S4x2048x80 : Shape := ⟨3, ![4, 2048, 80]⟩
abbrev S4x2048x2048 : Shape := ⟨3, ![4, 2048, 2048]⟩
abbrev S4x2048x6144 : Shape := ⟨3, ![4, 2048, 6144]⟩
abbrev S4x2048x4096 : Shape := ⟨3, ![4, 2048, 4096]⟩
abbrev S4x2048x7168 : Shape := ⟨3, ![4, 2048, 7168]⟩
abbrev S4x2048x64 : Shape := ⟨3, ![4, 2048, 64]⟩
abbrev S4x2048x32 : Shape := ⟨3, ![4, 2048, 32]⟩
abbrev S4x2048x16 : Shape := ⟨3, ![4, 2048, 16]⟩
abbrev S4x2048x19712 : Shape := ⟨3, ![4, 2048, 19712]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x19568, .f32⟩
  | .hbm, ⟨1, _⟩ => ⟨S_, .f32⟩
  | .hbm, ⟨2, _⟩ => ⟨S4x2048x80, .f32⟩
  | .hbm, ⟨3, _⟩ => ⟨S4x2048x2048, .f32⟩
  | .hbm, ⟨4, _⟩ => ⟨S4x2048x6144, .f32⟩
  | .hbm, ⟨5, _⟩ => ⟨S4x2048x4096, .f32⟩
  | .hbm, ⟨6, _⟩ => ⟨S4x2048x7168, .f32⟩
  | .hbm, ⟨7, _⟩ => ⟨S4x2048x64, .f32⟩
  | .hbm, ⟨8, _⟩ => ⟨S4x2048x32, .f32⟩
  | .hbm, ⟨9, _⟩ => ⟨S4x2048x16, .f32⟩
  | .hbm, ⟨10, _⟩ => ⟨S4x2048x64, .f32⟩
  | .hbm, ⟨11, _⟩ => ⟨S4x2048x19712, .f32⟩
  | .hbm, ⟨12, _⟩ => ⟨S4x2048x19712, .bf16⟩
  | _, _ => ⟨S4x2048x19568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.SsdFacts.lean ====
module

public import Idealize.ShloMosaic.PureOps.Ideal
public import Mathlib.Data.EReal.Operations

@[expose] public section

noncomputable section

/-! Facts about extended reals that the scan's proof uses: the softplus is at least 0 and below infinity, and a number cut
into three rounded parts adds up to itself. -/

namespace Cert.Proofs.Ssd

open Idealize.ShloMosaic

/-- The softplus of `x`, in the form both programs compute it in. -/
def softplus (x : EReal) : EReal := max x 0 + Ideal.log (1 + Ideal.exp (-(max x (-x))))

/-- An exponential is at least 0. -/
theorem exp_nonneg (x : EReal) : 0 ≤ Ideal.exp x := by
  induction x with
  | bot => simp
  | top => simp
  | coe r => rw [Ideal.exp_coe]; exact EReal.coe_nonneg.mpr (Real.exp_pos r).le

/-- The softplus of a real number is a real number at least 0. -/
theorem softplus_coe (r : ℝ) : softplus (r : EReal)
    = ((max r 0 + Real.log (1 + Real.exp (-(max r (-r)))) : ℝ) : EReal) := by
  have h : ¬ (1 + Real.exp (-(max r (-r))) ≤ 0) := by have := Real.exp_pos (-(max r (-r))); linarith
  unfold softplus
  rw [← EReal.coe_neg, ← EReal.coe_zero, ← EReal.coe_strictMono.monotone.map_max, ← EReal.coe_strictMono.monotone.map_max,
    ← EReal.coe_neg, Ideal.exp_coe, ← EReal.coe_one, ← EReal.coe_add]
  show ((max r 0 : ℝ) : EReal) + (if 1 + Real.exp (-(max r (-r))) ≤ 0 then ⊥ else ((Real.log (1 + Real.exp (-(max r (-r)))) : ℝ) : EReal)) = _
  rw [if_neg h, ← EReal.coe_add]

/-- The softplus is at least 0. -/
theorem softplus_nonneg (x : EReal) : 0 ≤ softplus x := by
  induction x with
  | bot =>
    have h : softplus ⊥ = 0 := by
      unfold softplus
      rw [EReal.neg_bot, max_eq_right bot_le, max_eq_right bot_le, EReal.neg_top, Ideal.exp_bot, add_zero, zero_add]
      show (if (1 : ℝ) ≤ 0 then (⊥ : EReal) else ((Real.log 1 : ℝ) : EReal)) = 0
      rw [if_neg (by norm_num), Real.log_one]; rfl
    rw [h]
  | top =>
    unfold softplus
    rw [EReal.neg_top, max_eq_left bot_le, max_eq_left le_top, EReal.neg_top, Ideal.exp_bot, add_zero]
    show (0 : EReal) ≤ ⊤ + (if (1 : ℝ) ≤ 0 then (⊥ : EReal) else ((Real.log 1 : ℝ) : EReal))
    rw [if_neg (by norm_num), EReal.top_add_coe]
    exact le_top
  | coe r =>
    rw [softplus_coe]
    exact EReal.coe_nonneg.mpr (add_nonneg (le_max_right _ _) (Real.log_nonneg (by have := Real.exp_pos (-(max r (-r))); linarith)))

/-- Below infinity, the softplus is below infinity. -/
theorem softplus_ne_top {x : EReal} (h : x ≠ ⊤) : softplus x ≠ ⊤ := by
  induction x with
  | bot =>
    unfold softplus
    rw [EReal.neg_bot, max_eq_right bot_le, max_eq_right bot_le, EReal.neg_top, Ideal.exp_bot, add_zero, zero_add]
    show (if (1 : ℝ) ≤ 0 then (⊥ : EReal) else ((Real.log 1 : ℝ) : EReal)) ≠ ⊤
    rw [if_neg (by norm_num)]
    exact EReal.coe_ne_top _
  | top => exact absurd rfl h
  | coe r => rw [softplus_coe]; exact EReal.coe_ne_top _

/-- A number at least 0 times the negative of a number at least 0 is at most 0. -/
theorem mul_neg_nonpos {x y : EReal} (hx : 0 ≤ x) (hy : 0 ≤ y) : x * -y ≤ 0 := by
  rw [mul_neg]
  have h := EReal.neg_le_neg_iff.mpr (EReal.mul_nonneg hx hy)
  rwa [neg_zero] at h

/-- The sum of a number's three parts. It is the number, save that infinity's remainder is `⊤ - ⊤ = ⊥` and makes `⊥` of it. -/
def cut (x : EReal) : EReal := x + (x - x) + ((x - x) - (x - x))

/-- A number below infinity is the sum of its rounded part and of the two remainders, when rounding changes nothing. -/
theorem parts {x : EReal} (h : x ≠ ⊤) : x + (x - x) + ((x - x) - (x - x)) = x := by
  induction x with
  | bot => simp
  | top => exact absurd rfl h
  | coe r => norm_cast; simp

/-- A selection, by 0 or 1, of the three parts of a number selects the number. -/
theorem parts_sel {s x : EReal} (hs : s = 0 ∨ s = 1) (h : x ≠ ⊤) :
    s * x + s * (x - x) + s * ((x - x) - (x - x)) = s * x := by
  rcases hs with rfl | rfl
  · simp
  · simpa using parts h

/-- Three selecting sums, one for each part, are one selecting sum. -/
theorem sum_parts {ι : Type*} [Fintype ι] (s x : ι → EReal) (hs : ∀ k, s k = 0 ∨ s k = 1) (h : ∀ k, x k ≠ ⊤) :
    ∑ k, s k * x k + ∑ k, s k * (x k - x k) + ∑ k, s k * ((x k - x k) - (x k - x k)) = ∑ k, s k * x k := by
  rw [← Finset.sum_add_distrib, ← Finset.sum_add_distrib]
  exact Finset.sum_congr rfl fun k _ => parts_sel (hs k) (h k)

/-- The same with the selecting factor on the right. -/
theorem sum_parts' {ι : Type*} [Fintype ι] (s x : ι → EReal) (hs : ∀ k, s k = 0 ∨ s k = 1) (h : ∀ k, x k ≠ ⊤) :
    ∑ k, x k * s k + ∑ k, (x k - x k) * s k + ∑ k, ((x k - x k) - (x k - x k)) * s k = ∑ k, x k * s k := by
  have e := sum_parts s x hs h
  simpa only [mul_comm] using e

/-- A sum of terms at most 0 is below infinity. -/
theorem sum_ne_top {ι : Type*} [Fintype ι] (f : ι → EReal) (h : ∀ k, f k ≤ 0) : ∑ k, f k ≠ ⊤ := fun e =>
  absurd (e ▸ Finset.sum_nonpos fun k _ => h k) (by simp)

end Cert.Proofs.Ssd

end

end
-- ==== Proof.SsdSpec.lean ====
module

public import proofs.«01_k».proof.Proof.SsdFacts
public import Idealize.ShloMosaic.Lib.Pointwise

@[expose] public section

set_option maxRecDepth 16384

noncomputable section

namespace Cert.Proofs.Ssd

open Idealize.ShloMosaic Idealize.ShloMosaic.TcCoe Idealize.SL.Sem

/-- The running sum of the step times the decay rate, through row `t` of a chunk. -/
def acs (D : Fin 64 → EReal) (A : EReal) (t : Fin 64) : EReal := ∑ s : Fin 64, if s.val ≤ t.val then D s * A else 0

/-- How much of row `s` is left at row `t` of the same chunk: nothing of a later row. -/
def decay (D : Fin 64 → EReal) (A : EReal) (t s : Fin 64) : EReal :=
  Ideal.exp (if s.val ≤ t.val then acs D A t - acs D A s else Ideal.ofBits FTy.f32 4286578688#32)

/-- One column of one chunk's output: what the chunk's own rows give, and what the state before the chunk gives. -/
def ychunk (D : Fin 64 → EReal) (A : EReal) (X : Fin 64 → EReal) (B C : Fin 64 → Fin 128 → EReal) (H : Fin 128 → EReal)
    (t : Fin 64) : EReal :=
  (∑ s, (∑ n, C t n * B s n) * decay D A t s * (X s * D s)) + (∑ n, C t n * H n) * Ideal.exp (acs D A t)

/-- One column of the state after a chunk, from the state before it. -/
def hchunk (D : Fin 64 → EReal) (A : EReal) (X : Fin 64 → EReal) (B : Fin 64 → Fin 128 → EReal) (H : Fin 128 → EReal)
    (n : Fin 128) : EReal :=
  H n * Ideal.exp (acs D A 63) + ∑ s, B s n * (X s * D s * Ideal.exp (acs D A 63 - acs D A s))

/-- A chunk's output where each step multiplies the inputs by the sum of its parts. -/
def ycut (D : Fin 64 → EReal) (A : EReal) (X : Fin 64 → EReal) (B C : Fin 64 → Fin 128 → EReal) (H : Fin 128 → EReal)
    (t : Fin 64) : EReal :=
  (∑ s, (∑ n, C t n * B s n) * decay D A t s * (X s * cut (D s))) + (∑ n, C t n * H n) * Ideal.exp (acs D A t)

/-- A chunk's state where each step multiplies the inputs by the sum of its parts. -/
def hcut (D : Fin 64 → EReal) (A : EReal) (X : Fin 64 → EReal) (B : Fin 64 → Fin 128 → EReal) (H : Fin 128 → EReal)
    (n : Fin 128) : EReal :=
  H n * Ideal.exp (acs D A 63) + ∑ s, B s n * (X s * cut (D s) * Ideal.exp (acs D A 63 - acs D A s))

/-- One column of the state after `k` chunks, from zero, where each step multiplies the inputs by the sum of its parts. -/
def cstate (D : ℕ → Fin 64 → EReal) (A : EReal) (X : ℕ → Fin 64 → EReal) (B : ℕ → Fin 64 → Fin 128 → EReal) :
    ℕ → Fin 128 → EReal
  | 0 => fun _ => 0
  | k + 1 => hcut (D k) A (X k) (B k) (cstate D A X B k)

/-- One column of the state after `k` chunks, from zero. -/
def hstate (D : ℕ → Fin 64 → EReal) (A : EReal) (X : ℕ → Fin 64 → EReal) (B : ℕ → Fin 64 → Fin 128 → EReal) :
    ℕ → Fin 128 → EReal
  | 0 => fun _ => 0
  | k + 1 => hchunk (D k) A (X k) (B k) (hstate D A X B k)

/-- Row `t` of chunk `k` of sequence `b`, counted through all the sequences. -/
def rowOf (b : Fin 2) (k : ℕ) (t : Fin 64) : Fin 8192 := ⟨(b.val * 4096 + k * 64 + t.val) % 8192, Nat.mod_lt _ (by decide)⟩

/-- The small column, of all the projected columns, that head `h`'s step is read from. -/
def dtCol (h : Fin 32) : Fin 19712 := ⟨19520 + h.val, by omega⟩

/-- The head of a column. -/
def headOf (c : Fin 2048) : Fin 32 := ⟨c.val / 64, by omega⟩

/-- The columns that hold `B` of a column's group. -/
def bCol (c : Fin 2048) (n : Fin 128) : Fin 4096 := ⟨2048 + 128 * (c.val / 256) + n.val, by omega⟩

/-- The columns that hold `C` of a column's group. -/
def cCol (c : Fin 2048) (n : Fin 128) : Fin 4096 := ⟨3072 + 128 * (c.val / 256) + n.val, by omega⟩

/-- The column's own place among the columns of `xbc`. -/
def xCol (c : Fin 2048) : Fin 4096 := ⟨c.val, by omega⟩

/-- The column's gate among the projected columns. -/
def zCol (c : Fin 2048) : Fin 19712 := ⟨c.val, by omega⟩

section Whole

variable (xbc : (⟨2, ![8192, 4096]⟩ : Shape).Idx → EReal) (proj : (⟨2, ![8192, 19712]⟩ : Shape).Idx → EReal)
  (dtb alog dsk : (⟨1, ![32]⟩ : Shape).Idx → EReal) (ng : (⟨1, ![2048]⟩ : Shape).Idx → EReal) (b : Fin 2) (c : Fin 2048)

/-- The step of column `c`'s head. -/
def dOf (k : ℕ) (t : Fin 64) : EReal := softplus (proj (ix2 (rowOf b k t) (dtCol (headOf c))) + dtb (ix1 (headOf c)))

/-- The decay rate of column `c`'s head. -/
def aOf : EReal := -Ideal.exp (alog (ix1 (headOf c)))

def xOf (k : ℕ) (t : Fin 64) : EReal := xbc (ix2 (rowOf b k t) (xCol c))
def bOf (k : ℕ) (t : Fin 64) (n : Fin 128) : EReal := xbc (ix2 (rowOf b k t) (bCol c n))
def cOf (k : ℕ) (t : Fin 64) (n : Fin 128) : EReal := xbc (ix2 (rowOf b k t) (cCol c n))

/-- The state of column `c` before chunk `k`. -/
def hOf (k : ℕ) : Fin 128 → EReal := hstate (dOf proj dtb b c) (aOf alog c) (xOf xbc b c) (bOf xbc b c) k

/-- The scan's output. -/
def yOf (k : ℕ) (t : Fin 64) : EReal :=
  ychunk (dOf proj dtb b c k) (aOf alog c) (xOf xbc b c k) (bOf xbc b c k) (cOf xbc b c k) (hOf xbc proj dtb alog b c k) t

/-- The scan's output with the skip, gated. -/
def gated (k : ℕ) (t : Fin 64) : EReal :=
  (yOf xbc proj dtb alog b c k t + dsk (ix1 (headOf c)) * xbc (ix2 (rowOf b k t) (xCol c)))
    * (proj (ix2 (rowOf b k t) (zCol c)) * Ideal.div 1 (1 + Ideal.exp (-proj (ix2 (rowOf b k t) (zCol c)))))

/-- The scan's result: gated, and normed over the columns. -/
def outOf (k : ℕ) (t : Fin 64) : EReal :=
  gated xbc proj dtb alog dsk b c k t
    * Ideal.rsqrt (Ideal.div (∑ x, gated xbc proj dtb alog dsk b x k t * gated xbc proj dtb alog dsk b x k t)
        (Ideal.ofBits FTy.f32 1157627904#32) + Ideal.ofBits FTy.f32 897988541#32)
    * ng (ix1 c)

end Whole

end Cert.Proofs.Ssd

end

end
-- ==== Proof.SsdStage.lean ====
module

public import proofs.«01_k».proof.Proof.SsdSpec
public import proofs.«01_k».proof.Proof.Gen.KernelIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proofs.Ssd

open Idealize.ShloMosaic Idealize.ShloMosaic.TcCoe Idealize.SL.Sem
open Cert.KernelIdeal Cert.KernelIdeal.Gen

/-- The running sum is at most 0 where the steps are at least 0 and the rate at most 0. -/
theorem acs_term_nonpos {D : Fin 64 → EReal} {x : EReal} (hD : ∀ s, 0 ≤ D s) (hx : 0 ≤ x) (t s : Fin 64) :
    (if s.val ≤ t.val then D s * -x else 0) ≤ 0 := by
  split
  · exact mul_neg_nonpos (hD s) hx
  · exact le_rfl

/-- The lane of the small columns that column `c` takes its step from: its head's. -/
def lane (c : Fin 2048) : Fin 128 := ⟨64 + c.val / 64, by omega⟩

/-- The mask of the lanes that hold a step. -/
theorem dt_word (l : Fin 128) : IntOp.andi (IntOp.cmpi .sge (BitVec.ofNat 32 l.val) 64#32) (IntOp.cmpi .slt (BitVec.ofNat 32 l.val) 96#32)
    = if 64 ≤ l.val ∧ l.val < 96 then 1#1 else 0#1 := by
  revert l; decide +kernel

/-- The mask of the rows up to a row. -/
theorem le_word (x t : Fin 64) : IntOp.cmpi .sle (BitVec.ofNat 32 x.val) (BitVec.ofNat 32 t.val)
    = if x.val ≤ t.val then 1#1 else 0#1 := by
  revert x t; decide +kernel

theorem eq_word (x t : Fin 64) : IntOp.cmpi .eq (BitVec.ofNat 32 x.val) (BitVec.ofNat 32 t.val)
    = if x.val = t.val then 1#1 else 0#1 := by
  revert x t; decide +kernel

theorem select_ite {α : Type} (p : Prop) [Decidable p] (a b : α) :
    Scalar.select (if p then 1#1 else 0#1) a b = if p then a else b := by
  split <;> rfl

/-- The step of lane `l` at row `t`: the softplus, on the lanes that hold one. -/
def stp (sm : Vec Ideal S64x128 .bf16) (b : Vec Ideal S1x128 .f32) (t : Fin 64) (l : Fin 128) : EReal :=
  if 64 ≤ l.val ∧ l.val < 96 then softplus (sm (ix2 t l) + b (ix2 0 l)) else 0

theorem stp_nonneg (sm : Vec Ideal S64x128 .bf16) (b : Vec Ideal S1x128 .f32) (t l) : 0 ≤ stp sm b t l := by
  unfold stp; split
  · exact softplus_nonneg _
  · exact le_rfl

theorem dt_apply (sm : Vec Ideal S64x128 .bf16) (b : Vec Ideal S1x128 .f32) (t : Fin 64) (l : Fin 128) :
    k0_pay19 (F := Ideal) k0_pay3 sm b (ix2 t l) = stp sm b t l := by
  pointwise [k0_pay19, k0_pay3]
  rw [dt_word, select_ite]
  simp only [zero_sub]
  rfl

/-- The decay rate of lane `l`. -/
def rate (a : Vec Ideal S1x128 .f32) (l : Fin 128) : EReal := if 64 ≤ l.val ∧ l.val < 96 then -(Ideal.exp (a (ix2 0 l))) else 0

theorem rate_apply (a : Vec Ideal S1x128 .f32) (l : Fin 128) : k0_pay4 (F := Ideal) a (ix2 0 l) = rate a l := by
  pointwise [k0_pay4, k0_pay3]
  rw [dt_word, select_ite]
  simp only [zero_sub]
  rfl

theorem rate_le (a : Vec Ideal S1x128 .f32) (l : Fin 128) : ∃ x, 0 ≤ x ∧ rate a l = -x := by
  unfold rate; split
  · exact ⟨_, exp_nonneg _, rfl⟩
  · exact ⟨0, le_rfl, neg_zero.symm⟩

theorem term_nonpos (sm : Vec Ideal S64x128 .bf16) (b a : Vec Ideal S1x128 .f32) (x t : Fin 64) (l : Fin 128) :
    (if x.val ≤ t.val then stp sm b x l * rate a l else 0) ≤ 0 := by
  obtain ⟨r, hr, e⟩ := rate_le a l
  rw [e]
  exact acs_term_nonpos (D := fun s => stp sm b s l) (fun s => stp_nonneg sm b s l) hr t x

/-- A number at most 0 is below infinity. -/
theorem ne_top_of_nonpos {x : EReal} (h : x ≤ 0) : x ≠ ⊤ := fun e => absurd (e ▸ h) (by simp)

/-- The running sums of the kernel's chunk, made by a product with a triangle of ones from three parts. -/
theorem acs_apply (sm : Vec Ideal S64x128 .bf16) (b a : Vec Ideal S1x128 .f32) (t : Fin 64) (l : Fin 128) :
    k0_pay20 (F := Ideal) k0_pay3 (k0_pay4 a) k0_pay5 sm b (ix2 t l) = acs (fun s => stp sm b s l) (rate a l) t := by
  pointwise [k0_pay20, k0_pay5]
  simp only [le_word, select_ite, dt_apply, rate_apply]
  unfold acs
  rw [← Finset.sum_add_distrib, ← Finset.sum_add_distrib]
  refine Finset.sum_congr rfl fun x _ => ?_
  have h := term_nonpos sm b a x t l
  split
  · rename_i hx
    rw [if_pos hx] at h
    exact parts (ne_top_of_nonpos h)
  · simp

theorem acs_ne_top (sm : Vec Ideal S64x128 .bf16) (b a : Vec Ideal S1x128 .f32) (t : Fin 64) (l : Fin 128) :
    acs (fun s => stp sm b s l) (rate a l) t ≠ ⊤ := sum_ne_top _ fun x => term_nonpos sm b a x t l

/-- The 0/1 array that hands each column its head's lane. -/
def IsSel (e : Vec Ideal S128x2048 .bf16) : Prop :=
  ∀ (l : Fin 128) (c : Fin 2048), e (ix2 l c) = if l = lane c then (1 : EReal) else 0

theorem sel_sum {e : Vec Ideal S128x2048 .bf16} (he : IsSel e) (f : Fin 128 → EReal) (hf : ∀ l, f l ≠ ⊤) (c : Fin 2048) :
    ∑ l, f l * e (ix2 l c) + ∑ l, (f l - f l) * e (ix2 l c) + ∑ l, ((f l - f l) - (f l - f l)) * e (ix2 l c) = f (lane c) := by
  rw [sum_parts' (fun l => e (ix2 l c)) f (fun l => by rw [he]; split <;> simp) hf]
  rw [Finset.sum_eq_single (lane c) (fun l _ h => by rw [he, if_neg h, mul_zero]) (fun h => absurd (Finset.mem_univ _) h)]
  rw [he, if_pos rfl, mul_one]

/-- The running sums handed to the columns. -/
theorem acol_apply {e : Vec Ideal S128x2048 .bf16} (he : IsSel e) (sm : Vec Ideal S64x128 .bf16) (b a : Vec Ideal S1x128 .f32) (t : Fin 64) (c : Fin 2048) :
    k0_pay23 (F := Ideal) (k0_pay18 e) (k0_pay20 k0_pay3 (k0_pay4 a) k0_pay5 sm b) (k0_pay21 k0_pay3 (k0_pay4 a) k0_pay5 sm b)
      (k0_pay22 k0_pay3 (k0_pay4 a) k0_pay5 sm b) (ix2 t c) = acs (fun s => stp sm b s (lane c)) (rate a (lane c)) t := by
  rw [show k0_pay21 (F := Ideal) k0_pay3 (k0_pay4 a) k0_pay5 sm b = k0_pay20 (F := Ideal) k0_pay3 (k0_pay4 a) k0_pay5 sm b from rfl,
    show k0_pay22 (F := Ideal) k0_pay3 (k0_pay4 a) k0_pay5 sm b = k0_pay20 (F := Ideal) k0_pay3 (k0_pay4 a) k0_pay5 sm b from rfl]
  pointwise [k0_pay23, k0_pay18]
  simp only [acs_apply]
  exact sel_sum he (fun l => acs (fun s => stp sm b s l) (rate a l) t) (fun l => acs_ne_top sm b a t l) c

/-- Selecting each of the three parts of any number gives the sum of the parts. -/
theorem sel_cut {e : Vec Ideal S128x2048 .bf16} (he : IsSel e) (f : Fin 128 → EReal) (c : Fin 2048) :
    ∑ l, f l * e (ix2 l c) + ∑ l, (f l - f l) * e (ix2 l c) + ∑ l, ((f l - f l) - (f l - f l)) * e (ix2 l c) = cut (f (lane c)) := by
  have one : ∀ v : Fin 128 → EReal, ∑ l, v l * e (ix2 l c) = v (lane c) := fun v => by
    rw [Finset.sum_eq_single (lane c) (fun l _ h => by rw [he, if_neg h, mul_zero]) (fun h => absurd (Finset.mem_univ _) h), he, if_pos rfl, mul_one]
  rw [one f, one fun l => f l - f l, one fun l => (f l - f l) - (f l - f l)]
  rfl

/-- The steps handed to the columns. -/
theorem dtx_apply {e : Vec Ideal S128x2048 .bf16} (he : IsSel e) (sm : Vec Ideal S64x128 .bf16) (b : Vec Ideal S1x128 .f32) (t : Fin 64) (c : Fin 2048) :
    k0_pay24 (F := Ideal) (k0_pay18 e) (k0_pay19 k0_pay3 sm b) (ix2 t c) = cut (stp sm b t (lane c)) := by
  pointwise [k0_pay24, k0_pay18]
  simp only [dt_apply]
  exact sel_cut he (fun l => stp sm b t l) c

end Cert.Proofs.Ssd

end

end
-- ==== Proof.SsdChunk.lean ====
module

public import proofs.«01_k».proof.Proof.SsdStage

@[expose] public section

set_option maxRecDepth 16384

noncomputable section

namespace Cert.Proofs.Ssd

open Idealize.ShloMosaic Idealize.ShloMosaic.TcCoe Idealize.SL.Sem
open Cert.KernelIdeal Cert.KernelIdeal.Gen

/-- The mask of the rows that are a column's place in its head. -/
abbrev maskE : IVec S64x2048 1 := k0_pay11 (iota .tc S64x2048 32 [0] iota_S64x2048_d0_w32) k0_pay7 k0_pay8 k0_pay9

/-- The mask of the rows from a column's place in its head on. -/
abbrev maskC : IVec S64x2048 1 := k0_pay12 (iota .tc S64x2048 32 [0] iota_S64x2048_d0_w32) k0_pay7 k0_pay8 k0_pay9

/-- The mask of the blocks of 64 on the diagonal. -/
abbrev maskB : IVec S256x256 1 := k0_pay17 k0_pay13 k0_pay14 k0_pay15 k0_pay16

/-- A column's place in its head. -/
def place (c : Fin 2048) : Fin 64 := ⟨c.val % 64, by omega⟩

theorem place_word (c : Fin 2048) (t : Fin 64) : k0_pay10 k0_pay7 k0_pay8 k0_pay9 (ix2 t c) = BitVec.ofNat 32 (place c).val := by
  pointwise [k0_pay10, k0_pay7, k0_pay8, k0_pay9]
  clear t
  revert c; decide +kernel

theorem maskE_apply (t : Fin 64) (c : Fin 2048) : maskE (ix2 t c) = if (place c).val = t.val then 1#1 else 0#1 := by
  have h : maskE (ix2 t c) = IntOp.cmpi .eq (k0_pay10 k0_pay7 k0_pay8 k0_pay9 (ix2 t c)) (BitVec.ofNat 32 t.val) := by
    unfold maskE k0_pay11; pointwise
  rw [h, place_word, eq_word]

theorem maskC_apply (t : Fin 64) (c : Fin 2048) : maskC (ix2 t c) = if (place c).val ≤ t.val then 1#1 else 0#1 := by
  have h : maskC (ix2 t c) = IntOp.cmpi .sle (k0_pay10 k0_pay7 k0_pay8 k0_pay9 (ix2 t c)) (BitVec.ofNat 32 t.val) := by
    unfold maskC k0_pay12; pointwise
  rw [h, place_word, le_word]

theorem block_word0 (i j : Fin 256) : k0_pay13 (ix2 i j) = BitVec.ofNat 32 (i.val / 64) := by
  pointwise [k0_pay13]
  clear j
  revert i; decide +kernel

theorem block_word1 (i j : Fin 256) : Scalar.select (IntOp.andi (k0_pay15 (ix2 i j)) (IntOp.cmpi .ne (k0_pay16 (ix2 i j)) 0#32))
    (IntOp.subi (k0_pay14 (ix2 i j)) 1#32) (k0_pay14 (ix2 i j)) = BitVec.ofNat 32 (j.val / 64) := by
  pointwise [k0_pay14, k0_pay15, k0_pay16]
  clear i
  revert j; decide +kernel

theorem block_eq (a b : Fin 4) : IntOp.cmpi .eq (BitVec.ofNat 32 a.val) (BitVec.ofNat 32 b.val) = if a.val = b.val then 1#1 else 0#1 := by
  revert a b; decide +kernel

theorem maskB_apply (i j : Fin 256) : maskB (ix2 i j) = if i.val / 64 = j.val / 64 then 1#1 else 0#1 := by
  have h : maskB (ix2 i j) = IntOp.cmpi .eq (k0_pay13 (ix2 i j)) (Scalar.select (IntOp.andi (k0_pay15 (ix2 i j)) (IntOp.cmpi .ne (k0_pay16 (ix2 i j)) 0#32))
    (IntOp.subi (k0_pay14 (ix2 i j)) 1#32) (k0_pay14 (ix2 i j))) := by
    unfold maskB k0_pay17; pointwise
  rw [h, block_word0, block_word1]
  exact block_eq ⟨i.val / 64, by omega⟩ ⟨j.val / 64, by omega⟩

section Arrays

variable (e : Vec Ideal S128x2048 .bf16) (sm : Vec Ideal S64x128 .bf16) (b a : Vec Ideal S1x128 .f32) (x : Vec Ideal S64x2048 .bf16)

/-- The running sums handed to the columns, as the kernel makes them. -/
def kCol : Vec Ideal S64x2048 .f32 := k0_pay23 (k0_pay18 e) (k0_pay20 k0_pay3 (k0_pay4 a) k0_pay5 sm b) (k0_pay21 k0_pay3 (k0_pay4 a) k0_pay5 sm b)
  (k0_pay22 k0_pay3 (k0_pay4 a) k0_pay5 sm b)

/-- The steps handed to the columns. -/
def kDt : Vec Ideal S64x2048 .f32 := k0_pay24 (k0_pay18 e) (k0_pay19 k0_pay3 sm b)

/-- The decays between the rows of the chunk, every head's beside the others. -/
def kDec : Vec Ideal S64x2048 .f32 := k0_pay25 k0_pay6 maskE maskC (k0_pay18 e) (k0_pay20 k0_pay3 (k0_pay4 a) k0_pay5 sm b)
  (k0_pay21 k0_pay3 (k0_pay4 a) k0_pay5 sm b) (k0_pay22 k0_pay3 (k0_pay4 a) k0_pay5 sm b)

/-- The decays from the chunk's start. -/
def kFrom : Vec Ideal S64x2048 .f32 := k0_pay28 (k0_pay18 e) (k0_pay20 k0_pay3 (k0_pay4 a) k0_pay5 sm b)
  (k0_pay21 k0_pay3 (k0_pay4 a) k0_pay5 sm b) (k0_pay22 k0_pay3 (k0_pay4 a) k0_pay5 sm b)

/-- The decays to the chunk's end. -/
def kEnd : Vec Ideal S64x2048 .f32 := k0_pay27 (k0_pay18 e) (k0_pay20 k0_pay3 (k0_pay4 a) k0_pay5 sm b)
  (k0_pay21 k0_pay3 (k0_pay4 a) k0_pay5 sm b) (k0_pay22 k0_pay3 (k0_pay4 a) k0_pay5 sm b)

/-- The decay through the whole chunk. -/
def kAll : Vec Ideal S1x2048 .f32 := k0_pay29 (k0_pay18 e) (k0_pay20 k0_pay3 (k0_pay4 a) k0_pay5 sm b)
  (k0_pay21 k0_pay3 (k0_pay4 a) k0_pay5 sm b) (k0_pay22 k0_pay3 (k0_pay4 a) k0_pay5 sm b)

/-- The rows times their steps. -/
def kX : Vec Ideal S64x2048 .bf16 := k0_pay32 (kDt e sm b) x

/-- The same, decayed to the chunk's end. -/
def kXEnd : Vec Ideal S64x2048 .bf16 := k0_pay33 (kDt e sm b) (kEnd e sm b a) x

/-- The steps of a column's head. -/
def dS (c : Fin 2048) (s : Fin 64) : EReal := stp sm b s (lane c)

variable {e} (he : IsSel e)
include he

theorem kCol_apply (t : Fin 64) (c : Fin 2048) : kCol e sm b a (ix2 t c) = acs (dS sm b c) (rate a (lane c)) t := acol_apply he sm b a t c

theorem kFrom_apply (t : Fin 64) (c : Fin 2048) : kFrom e sm b a (ix2 t c) = Ideal.exp (acs (dS sm b c) (rate a (lane c)) t) := by
  have h : kFrom e sm b a (ix2 t c) = Ideal.exp (kCol e sm b a (ix2 t c)) := by unfold kFrom k0_pay28; pointwise; rfl
  rw [h, kCol_apply sm b a he]

theorem kEnd_apply (t : Fin 64) (c : Fin 2048) : kEnd e sm b a (ix2 t c)
    = Ideal.exp (acs (dS sm b c) (rate a (lane c)) 63 - acs (dS sm b c) (rate a (lane c)) t) := by
  have h : kEnd e sm b a (ix2 t c) = Ideal.exp (kCol e sm b a (ix2 63 c) - kCol e sm b a (ix2 t c)) := by
    unfold kEnd k0_pay27 k0_pay26; pointwise; rfl
  rw [h, kCol_apply sm b a he, kCol_apply sm b a he]

theorem kAll_apply (c : Fin 2048) : kAll e sm b a (ix2 0 c) = Ideal.exp (acs (dS sm b c) (rate a (lane c)) 63) := by
  have h : kAll e sm b a (ix2 0 c) = Ideal.exp (kCol e sm b a (ix2 63 c)) := by
    unfold kAll k0_pay29 k0_pay26; pointwise; rfl
  rw [h, kCol_apply sm b a he]

theorem kDec_apply (t : Fin 64) (c : Fin 2048) : kDec e sm b a (ix2 t c) = decay (dS sm b c) (rate a (lane c)) t (place c) := by
  have h : kDec e sm b a (ix2 t c) = Ideal.exp (Scalar.select (maskC (ix2 t c)) (kCol e sm b a (ix2 t c)
      - ((∑ x : Fin 64, Scalar.select (maskE (ix2 x c)) (kCol e sm b a (ix2 x c)) 0)
        + (∑ x : Fin 64, (Scalar.select (maskE (ix2 x c)) (kCol e sm b a (ix2 x c)) 0 - Scalar.select (maskE (ix2 x c)) (kCol e sm b a (ix2 x c)) 0))
        + (∑ x : Fin 64, ((Scalar.select (maskE (ix2 x c)) (kCol e sm b a (ix2 x c)) 0 - Scalar.select (maskE (ix2 x c)) (kCol e sm b a (ix2 x c)) 0)
          - (Scalar.select (maskE (ix2 x c)) (kCol e sm b a (ix2 x c)) 0 - Scalar.select (maskE (ix2 x c)) (kCol e sm b a (ix2 x c)) 0)))))
      (Ideal.ofBits FTy.f32 4286578688#32)) := by
    unfold kDec
    generalize maskE = mE
    generalize maskC = mC
    pointwise [k0_pay25, k0_pay6]
    rfl
  rw [h]
  simp only [maskC_apply, maskE_apply, kCol_apply sm b a he, select_ite]
  unfold decay
  have hs := sum_parts (fun _ : Fin 64 => (1 : EReal)) (fun s => if (place c).val = s.val then acs (dS sm b c) (rate a (lane c)) s else 0)
    (fun _ => Or.inr rfl) (fun s => by
      show (if (place c).val = s.val then acs (dS sm b c) (rate a (lane c)) s else 0) ≠ ⊤
      split
      · exact acs_ne_top sm b a s (lane c)
      · simp)
  simp only [one_mul] at hs
  rw [hs, Finset.sum_eq_single (place c) (fun s _ hne => if_neg fun h => hne (Fin.ext h.symm)) (fun h => absurd (Finset.mem_univ _) h), if_pos rfl]

theorem kDt_apply (t : Fin 64) (c : Fin 2048) : kDt e sm b (ix2 t c) = cut (dS sm b c t) := dtx_apply he sm b t c

theorem kX_apply (t : Fin 64) (c : Fin 2048) : kX e sm b x (ix2 t c) = x (ix2 t c) * cut (dS sm b c t) := by
  have h : kX e sm b x (ix2 t c) = x (ix2 t c) * kDt e sm b (ix2 t c) := by unfold kX; pointwise [k0_pay32, k0_pay31, k0_pay30]
  rw [h, kDt_apply sm b he]

theorem kXEnd_apply (t : Fin 64) (c : Fin 2048) : kXEnd e sm b a x (ix2 t c)
    = x (ix2 t c) * cut (dS sm b c t) * Ideal.exp (acs (dS sm b c) (rate a (lane c)) 63 - acs (dS sm b c) (rate a (lane c)) t) := by
  have h : kXEnd e sm b a x (ix2 t c) = x (ix2 t c) * kDt e sm b (ix2 t c) * kEnd e sm b a (ix2 t c) := by
    unfold kXEnd; pointwise [k0_pay33, k0_pay31, k0_pay30]
  rw [h, kDt_apply sm b he, kEnd_apply sm b a he]

end Arrays

/-- Column `l` of group `g`. -/
def col (g : Fin 8) (l : Fin 256) : Fin 2048 := ⟨256 * g.val + l.val, by omega⟩

theorem sl_fits (g : Fin 8) (n : ℕ) : (⟨2, ![n, 2048]⟩ : Shape).Slices ![0, 256 * g.val] ⟨2, ![n, 256]⟩ := by
  refine ⟨rfl, fun i => ?_⟩
  fin_cases i
  · exact (Nat.zero_add n).le
  · show 256 * g.val + 256 ≤ 2048
    omega

/-- A group's columns. -/
def sl {α : Type} (g : Fin 8) (v : S64x2048.Idx → α) : S64x256.Idx → α :=
  extractStridedSlice S64x256 ![0, 256 * g.val] v (sl_fits g 64)

theorem sl_apply {α : Type} (g : Fin 8) (v : S64x2048.Idx → α) (t : Fin 64) (l : Fin 256) : sl g v (ix2 t l) = v (ix2 t (col g l)) := by
  unfold sl; pointwise; rfl

/-- A group's columns of one row. -/
def sl1 {α : Type} (g : Fin 8) (v : S1x2048.Idx → α) : S1x256.Idx → α :=
  extractStridedSlice S1x256 ![0, 256 * g.val] v (sl_fits g 1)

theorem sl1_apply {α : Type} (g : Fin 8) (v : S1x2048.Idx → α) (l : Fin 256) : sl1 g v (ix2 0 l) = v (ix2 0 (col g l)) := by
  unfold sl1; pointwise; rfl

/-- A group's rows of output, as the kernel makes them: one product for the group's four heads at once, the heads kept apart by a mask
    of blocks, and one with the state. -/
def yGroup (g : Fin 8) (dec fr : Vec Ideal S64x2048 .f32) (xd : Vec Ideal S64x2048 .bf16) (B C : Vec Ideal S64x128 .bf16)
    (H : Vec Ideal S1x128x256 .f32) : Vec Ideal S64x256 .f32 :=
  let cb : FVec Ideal S64x256 .f32 := matmul (φ₁ := .bf16) (φ₂ := .bf16) dot_S64x128_S256x128_S64x256_1_1_0_0_n_n none C
    (concatenate S256x128 0 [⟨S64x128, B⟩, ⟨S64x128, B⟩, ⟨S64x128, B⟩, ⟨S64x128, B⟩] concatenates_S64x128_S64x128_S64x128_S64x128_S256x128_d0)
    (constant S64x256 .f32 0x00000000#32)
  let att : FVec Ideal S64x256 .bf16 := truncf .bf16 (mulf (φ := .f32) cb (sl g dec)) bitsLt_bf16_f32
  let xs : FVec Ideal S256x256 .bf16 := select maskB
    (concatenate S256x256 0 [⟨S64x256, sl g xd⟩, ⟨S64x256, sl g xd⟩, ⟨S64x256, sl g xd⟩, ⟨S64x256, sl g xd⟩]
      concatenates_S64x256_S64x256_S64x256_S64x256_S256x256_d0) (broadcast S256x256 (Scalar.ofBits (F := Ideal) .bf16 0x0000#16))
  let own : FVec Ideal S64x256 .f32 := matmul (φ₁ := .bf16) (φ₂ := .bf16) dot_S64x256_S256x256_S64x256_1_0_0_1_n_n none att xs (constant S64x256 .f32 0x00000000#32)
  let hb : FVec Ideal S128x256 .bf16 := truncf .bf16 (φ := .f32) (shapeCast S128x256 H shapeCasts_S1x128x256_S128x256) bitsLt_bf16_f32
  let old : FVec Ideal S64x256 .f32 := matmul (φ₁ := .bf16) (φ₂ := .bf16) dot_S64x128_S128x256_S64x256_1_0_0_1_n_n none C hb (constant S64x256 .f32 0x00000000#32)
  let sum : FVec Ideal S64x256 .f32 := addf own (mulf (φ := .f32) old (sl g fr))
  shapeCast S64x256 sum shapeCasts_S64x256_S64x256

/-- A group's state after a chunk, as the kernel makes it. -/
def hGroup (g : Fin 8) (al : Vec Ideal S1x2048 .f32) (xe : Vec Ideal S64x2048 .bf16) (B : Vec Ideal S64x128 .bf16)
    (H : Vec Ideal S1x128x256 .f32) : Vec Ideal S1x128x256 .f32 :=
  let was : FVec Ideal S128x256 .f32 := mulf (φ := .f32) (shapeCast S128x256 H shapeCasts_S1x128x256_S128x256)
    (broadcastTo S128x256 (sl1 g al) broadcasts_S1x256_S128x256)
  let new : FVec Ideal S128x256 .f32 := matmul (φ₁ := .bf16) (φ₂ := .bf16) dot_S64x128_S64x256_S128x256_0_0_1_1_n_n none B (sl g xe) (constant S128x256 .f32 0x00000000#32)
  let sum : FVec Ideal S128x256 .f32 := addf was new
  shapeCast S1x128x256 sum shapeCasts_S128x256_S1x128x256

/-- Four copies under one another, read at a row. -/
theorem cat4 {β : Type} (f : Fin 64 → β) (x : Fin 256) :
    (if h : x.val < 64 then f ⟨x.val, h⟩ else if h : x.val - 64 < 64 then f ⟨x.val - 64, h⟩
      else if h : x.val - 64 - 64 < 64 then f ⟨x.val - 64 - 64, h⟩ else f ⟨x.val - 64 - 64 - 64, by omega⟩) = f ⟨x.val % 64, by omega⟩ := by
  split_ifs <;> exact congrArg f (Fin.ext (by dsimp only; omega))

/-- A sum over four blocks of 64 that keeps one block. -/
theorem sum_block (f : Fin 256 → EReal) (r : ℕ) (hr : r < 4) :
    (∑ x : Fin 256, if x.val / 64 = r then f x else 0) = ∑ s : Fin 64, f ⟨64 * r + s.val, by omega⟩ := by
  rw [← Equiv.sum_comp (finProdFinEquiv : Fin 4 × Fin 64 ≃ Fin 256), Fintype.sum_prod_type]
  rw [Finset.sum_eq_single (⟨r, hr⟩ : Fin 4)]
  · refine Finset.sum_congr rfl fun s _ => ?_
    have hv : ((finProdFinEquiv : Fin 4 × Fin 64 ≃ Fin 256) (⟨r, hr⟩, s)).val = s.val + 64 * r := rfl
    rw [if_pos (by rw [hv]; omega)]
    exact congrArg f (Fin.ext (by rw [hv]; exact Nat.add_comm _ _))
  · intro q _ hq
    refine Finset.sum_eq_zero fun s _ => if_neg fun h => hq (Fin.ext ?_)
    have hv : ((finProdFinEquiv : Fin 4 × Fin 64 ≃ Fin 256) (q, s)).val = s.val + 64 * q.val := rfl
    rw [hv] at h
    show q.val = r
    omega
  · exact fun h => absurd (Finset.mem_univ _) h

theorem yGroup_apply (g dec fr xd B C H) (t : Fin 64) (l : Fin 256) : yGroup g dec fr xd B C H (ix2 t l)
    = (∑ s : Fin 64, (∑ n, C (ix2 t n) * B (ix2 s n)) * dec (ix2 t (col g ⟨64 * (l.val / 64) + s.val, by omega⟩)) * xd (ix2 s (col g l)))
      + (∑ n, C (ix2 t n) * H (ix3 0 n l)) * fr (ix2 t (col g l)) := by
  have h : yGroup g dec fr xd B C H (ix2 t l) = (∑ x : Fin 256, if x.val / 64 = l.val / 64 then
      (∑ n, C (ix2 t n) * B (ix2 (⟨x.val % 64, by omega⟩ : Fin 64) n)) * dec (ix2 t (col g x)) * xd (ix2 (⟨x.val % 64, by omega⟩ : Fin 64) (col g l)) else 0)
      + (∑ n, C (ix2 t n) * H (ix3 0 n l)) * fr (ix2 t (col g l)) := by
    unfold yGroup
    generalize hM : maskB = M
    pointwise
    subst hM
    simp only [maskB_apply, sl_apply, select_ite]
    refine congrArg₂ (· + ·) (Finset.sum_congr rfl fun x _ => if_congr Iff.rfl ?_ rfl) rfl
    refine congrArg₂ (· * ·) (congrArg₂ (· * ·) (Finset.sum_congr rfl fun n _ => congrArg₂ (· * ·) rfl ?_) rfl) ?_
    · exact cat4 (fun s => B (ix2 s n)) x
    · exact cat4 (fun s => xd (ix2 s (col g l))) x
  rw [h, sum_block _ _ (by omega)]
  refine congrArg₂ (· + ·) (Finset.sum_congr rfl fun s _ => ?_) rfl
  have hm : (⟨(64 * (l.val / 64) + s.val) % 64, by omega⟩ : Fin 64) = s := Fin.ext (by show (64 * (l.val / 64) + s.val) % 64 = s.val; omega)
  simp only [hm]

theorem hGroup_apply (g al xe B H) (n : Fin 128) (l : Fin 256) : hGroup g al xe B H (ix3 0 n l)
    = H (ix3 0 n l) * al (ix2 0 (col g l)) + ∑ s : Fin 64, B (ix2 s n) * xe (ix2 s (col g l)) := by
  unfold hGroup
  pointwise
  simp only [sl_apply, sl1_apply]

section Chunk

variable {e : Vec Ideal S128x2048 .bf16} (he : IsSel e) {sm : Vec Ideal S64x128 .bf16} {b : Vec Ideal S1x128 .f32}
  (a : Vec Ideal S1x128 .f32) (x : Vec Ideal S64x2048 .bf16) (B C : Vec Ideal S64x128 .bf16) (H : Vec Ideal S1x128x256 .f32) (g : Fin 8)

include he

/-- A group's rows of output are the chunk's, column by column. -/
theorem y_chunk (t : Fin 64) (l : Fin 256) : yGroup g (kDec e sm b a) (kFrom e sm b a) (kX e sm b x) B C H (ix2 t l)
    = ycut (dS sm b (col g l)) (rate a (lane (col g l))) (fun s => x (ix2 s (col g l))) (fun s n => B (ix2 s n)) (fun s n => C (ix2 s n))
      (fun n => H (ix3 0 n l)) t := by
  rw [yGroup_apply]
  unfold ycut
  refine congrArg₂ (· + ·) (Finset.sum_congr rfl fun s _ => ?_) ?_
  · have hp : place (col g ⟨64 * (l.val / 64) + s.val, by omega⟩) = s := Fin.ext (by
      show (256 * g.val + (64 * (l.val / 64) + s.val)) % 64 = s.val; omega)
    have hl : lane (col g ⟨64 * (l.val / 64) + s.val, by omega⟩) = lane (col g l) := Fin.ext (by
      show 64 + (256 * g.val + (64 * (l.val / 64) + s.val)) / 64 = 64 + (256 * g.val + l.val) / 64; omega)
    rw [kDec_apply sm b a he, kX_apply sm b x he, hp]
    unfold dS
    rw [hl]
  · rw [kFrom_apply sm b a he]

/-- A group's state after a chunk is the chunk's, column by column. -/
theorem h_chunk (n : Fin 128) (l : Fin 256) : hGroup g (kAll e sm b a) (kXEnd e sm b a x) B H (ix3 0 n l)
    = hcut (dS sm b (col g l)) (rate a (lane (col g l))) (fun s => x (ix2 s (col g l))) (fun s n => B (ix2 s n))
      (fun n => H (ix3 0 n l)) n := by
  rw [hGroup_apply]
  unfold hcut
  rw [kAll_apply sm b a he]
  simp only [kXEnd_apply sm b a x he]

end Chunk

end Cert.Proofs.Ssd

end

end
-- ==== Proof.SsdState.lean ====
module

public import proofs.«01_k».proof.Proof.SsdChunk

@[expose] public section

set_option maxRecDepth 16384

noncomputable section

namespace Cert.Proofs.Ssd

open Idealize.ShloMosaic Idealize.ShloMosaic.TcCoe Idealize.SL.Sem
open Cert.KernelIdeal Cert.KernelIdeal.Gen

/-- Row `s` of half `q` of a block. -/
def rr (q : Fin 2) (s : Fin 64) : Fin 128 := ⟨64 * q.val + s.val, by omega⟩

/-- Column `n` of group `g`'s. -/
def gc (g : Fin 8) (n : Fin 128) : Fin 1024 := ⟨128 * g.val + n.val, by omega⟩

/-- The rows of half `q` of a block. -/
def half {n : ℕ} {α : Type} (q : Fin 2) (v : (⟨2, ![128, n]⟩ : Shape).Idx → α) : (⟨2, ![64, n]⟩ : Shape).Idx → α :=
  fun i => v (ix2 (rr q (i 0)) (i 1))

section Half

variable (x0 : Vec Ideal S128x2048 .bf16) (x1 x2 : Vec Ideal S128x1024 .bf16) (x3 : Vec Ideal S128x128 .bf16) (x5 x6 : Vec Ideal S1x128 .f32)

/-- One column of the state after half `q` of a block. -/
def hHalf (q : Fin 2) (c : Fin 2048) (g : Fin 8) (F : Fin 128 → EReal) : Fin 128 → EReal :=
  hcut (dS (half q x3) x5 c) (rate x6 (lane c)) (fun s => x0 (ix2 (rr q s) c)) (fun s n => x1 (ix2 (rr q s) (gc g n))) F

/-- One column of the output over half `q` of a block. -/
def yHalf (q : Fin 2) (c : Fin 2048) (g : Fin 8) (F : Fin 128 → EReal) : Fin 64 → EReal :=
  ycut (dS (half q x3) x5 c) (rate x6 (lane c)) (fun s => x0 (ix2 (rr q s) c)) (fun s n => x1 (ix2 (rr q s) (gc g n)))
    (fun s n => x2 (ix2 (rr q s) (gc g n))) F

end Half

variable (m : (ℓ : Loc nD τ sig) → Buf (Elt Ideal) ℓ) (c : Dev nD)

/-- The state a point leaves, from the one it found. -/
def hPoint (t : Fin cfg0.N) (S : Vec Ideal S8x128x256 .f32) : Vec Ideal S8x128x256 .f32 := fun i =>
  hHalf (iblk m c 0 t) (iblk m c 1 t) (iblk m c 3 t) (iblk m c 5 t) (iblk m c 6 t) 1 (col (i 0) (i 2)) (i 0)
    (hHalf (iblk m c 0 t) (iblk m c 1 t) (iblk m c 3 t) (iblk m c 5 t) (iblk m c 6 t) 0 (col (i 0) (i 2)) (i 0)
      (fun n => S (ix3 (i 0) n (i 2)))) (i 1)

/-- A window's rows of half `q`, from a column on. -/
theorem ld_half {α : EltTy} {N K : ℕ} (q : Fin 2) (o : ℕ) (v : (⟨2, ![128, N]⟩ : Shape).Idx → Elt Ideal α)
    (h : ∀ a, ![64 * q.val, o] a + ![64, K] a ≤ (⟨2, ![128, N]⟩ : Shape).size a) (s : Fin 64) (j : Fin K) (p : Fin N) (hp : p.val = o + j.val) :
    View.ld v (Rect.unit ![64 * q.val, o] ![64, K] h) (ix2 s j) = v (ix2 (rr q s) p) := by
  refine congrArg v (funext fun a => Fin.ext ?_)
  match a with
  | ⟨0, _⟩ => show 64 * q.val + 1 * s.val = 64 * q.val + s.val; omega
  | ⟨1, _⟩ => show o + 1 * j.val = p.val; omega

/-- The small columns of half `q`. -/
theorem ld_small (q : Fin 2) (v : Vec Ideal S128x128 .bf16) (h : ∀ a, ![64 * q.val, 0] a + ![64, 128] a ≤ S128x128.size a) :
    (View.ld v (Rect.unit ![64 * q.val, 0] ![64, 128] h) : Vec Ideal S64x128 .bf16) = half q v := by
  refine funext fun (i : S64x128.Idx) => ?_
  have hi : i = ix2 (i 0) (i 1) := by
    funext a
    match a with
    | ⟨0, _⟩ => rfl
    | ⟨1, _⟩ => rfl
  rw [hi]
  exact ld_half q 0 v h (i 0) (i 1) (i 1) (Nat.zero_add _).symm

/-- A slab of the state. -/
theorem ld_slab (g : Fin 8) (v : Vec Ideal S8x128x256 .f32) (h : ∀ a, ![g.val, 0, 0] a + ![1, 128, 256] a ≤ S8x128x256.size a) (z : Fin 1) (n : Fin 128) (l : Fin 256) :
    View.ld v (Rect.unit ![g.val, 0, 0] ![1, 128, 256] h) (ix3 z n l) = v (ix3 g n l) := by
  refine congrArg v (funext fun a => Fin.ext ?_)
  match a with
  | ⟨0, _⟩ => show g.val + 1 * z.val = g.val; omega
  | ⟨1, _⟩ => show 0 + 1 * n.val = n.val; omega
  | ⟨2, _⟩ => show 0 + 1 * l.val = l.val; omega

/-- A slab's place in the state. -/
theorem slab_at (G : Vec Ideal S8x128x256 .f32) (g : Fin 8) (h : ∀ a, ![g.val, 0, 0] a + ![1, 128, 256] a ≤ S8x128x256.size a) (z : Fin 1) (n : Fin 128) (l : Fin 256) :
    G ((Rect.unit (s := S8x128x256) ![g.val, 0, 0] ![1, 128, 256] h).emb (ix3 z n l : S1x128x256.Idx)) = G (ix3 g n l) := ld_slab g G h z n l

section Pieces

variable {m c} {t : Fin cfg0.N} (he : IsSel (iblk m c 9 t))
include he

/-- One group's slab of the state after the first half. -/
theorem slab_first (g : Fin 8) {sm : Vec Ideal S64x128 .bf16} (hs : sm = half 0 (iblk m c 3 t)) {X : Vec Ideal S64x2048 .bf16}
    (hX : ∀ s j, X (ix2 s j) = iblk m c 0 t (ix2 (rr 0 s) j)) {B : Vec Ideal S64x128 .bf16}
    (hB : ∀ s n, B (ix2 s n) = iblk m c 1 t (ix2 (rr 0 s) (gc g n))) {O : Vec Ideal S1x128x256 .f32} (S : Vec Ideal S8x128x256 .f32)
    (hO : ∀ n l, O (ix3 0 n l) = S (ix3 g n l)) (n : Fin 128) (l : Fin 256) :
    hGroup g (kAll (iblk m c 9 t) sm (iblk m c 5 t) (iblk m c 6 t)) (kXEnd (iblk m c 9 t) sm (iblk m c 5 t) (iblk m c 6 t) X) B O (ix3 0 n l)
      = hHalf (iblk m c 0 t) (iblk m c 1 t) (iblk m c 3 t) (iblk m c 5 t) (iblk m c 6 t) 0 (col g l) g (fun n => S (ix3 g n l)) n := by
  subst hs
  rw [h_chunk he]
  simp only [hX, hB, hO]
  rfl

/-- One group's slab of the state after both halves. -/
theorem slab_second (g : Fin 8) {sm sm' : Vec Ideal S64x128 .bf16} (hs : sm = half 0 (iblk m c 3 t)) (hs' : sm' = half 1 (iblk m c 3 t))
    {X X' : Vec Ideal S64x2048 .bf16} (hX : ∀ s j, X (ix2 s j) = iblk m c 0 t (ix2 (rr 0 s) j)) (hX' : ∀ s j, X' (ix2 s j) = iblk m c 0 t (ix2 (rr 1 s) j))
    {B B' : Vec Ideal S64x128 .bf16}
    (hB : ∀ s n, B (ix2 s n) = iblk m c 1 t (ix2 (rr 0 s) (gc g n))) (hB' : ∀ s n, B' (ix2 s n) = iblk m c 1 t (ix2 (rr 1 s) (gc g n)))
    {O : Vec Ideal S1x128x256 .f32} (S : Vec Ideal S8x128x256 .f32) (hO : ∀ n l, O (ix3 0 n l) = S (ix3 g n l)) (n : Fin 128) (l : Fin 256) :
    hGroup g (kAll (iblk m c 9 t) sm' (iblk m c 5 t) (iblk m c 6 t)) (kXEnd (iblk m c 9 t) sm' (iblk m c 5 t) (iblk m c 6 t) X') B'
      (hGroup g (kAll (iblk m c 9 t) sm (iblk m c 5 t) (iblk m c 6 t)) (kXEnd (iblk m c 9 t) sm (iblk m c 5 t) (iblk m c 6 t) X) B O) (ix3 0 n l)
      = hPoint m c t S (ix3 g n l) := by
  subst hs'
  rw [h_chunk he]
  simp only [hX', hB', slab_first he g hs hX hB S hO]
  rfl

/-- One group's slab of the state, as the point makes it from its windows. -/
theorem slab_piece (g : Fin 8) (S : Vec Ideal S8x128x256 .f32)
    (i0 : ∀ a, ![64 * (0 : Fin 2).val, 0] a + ![64, 128] a ≤ S128x128.size a) (i1 : ∀ a, ![64 * (1 : Fin 2).val, 0] a + ![64, 128] a ≤ S128x128.size a)
    (j0 : ∀ a, ![64 * (0 : Fin 2).val, 0] a + ![64, 2048] a ≤ S128x2048.size a) (j1 : ∀ a, ![64 * (1 : Fin 2).val, 0] a + ![64, 2048] a ≤ S128x2048.size a)
    (k0 : ∀ a, ![64 * (0 : Fin 2).val, 128 * g.val] a + ![64, 128] a ≤ S128x1024.size a)
    (k1 : ∀ a, ![64 * (1 : Fin 2).val, 128 * g.val] a + ![64, 128] a ≤ S128x1024.size a)
    (h : ∀ a, ![g.val, 0, 0] a + ![1, 128, 256] a ≤ S8x128x256.size a) (x : S1x128x256.Idx) :
    hGroup g (kAll (iblk m c 9 t) (View.ld (iblk m c 3 t) (Rect.unit ![64 * (1 : Fin 2).val, 0] ![64, 128] i1)) (iblk m c 5 t) (iblk m c 6 t))
        (kXEnd (iblk m c 9 t) (View.ld (iblk m c 3 t) (Rect.unit ![64 * (1 : Fin 2).val, 0] ![64, 128] i1)) (iblk m c 5 t) (iblk m c 6 t)
          (View.ld (iblk m c 0 t) (Rect.unit ![64 * (1 : Fin 2).val, 0] ![64, 2048] j1)))
        (View.ld (iblk m c 1 t) (Rect.unit ![64 * (1 : Fin 2).val, 128 * g.val] ![64, 128] k1))
        (hGroup g (kAll (iblk m c 9 t) (View.ld (iblk m c 3 t) (Rect.unit ![64 * (0 : Fin 2).val, 0] ![64, 128] i0)) (iblk m c 5 t) (iblk m c 6 t))
          (kXEnd (iblk m c 9 t) (View.ld (iblk m c 3 t) (Rect.unit ![64 * (0 : Fin 2).val, 0] ![64, 128] i0)) (iblk m c 5 t) (iblk m c 6 t)
            (View.ld (iblk m c 0 t) (Rect.unit ![64 * (0 : Fin 2).val, 0] ![64, 2048] j0)))
          (View.ld (iblk m c 1 t) (Rect.unit ![64 * (0 : Fin 2).val, 128 * g.val] ![64, 128] k0))
          (View.ld S (Rect.unit ![g.val, 0, 0] ![1, 128, 256] h))) x
      = hPoint m c t S ((Rect.unit (s := S8x128x256) ![g.val, 0, 0] ![1, 128, 256] h).emb x) := by
  have hx : x = ix3 0 (x 1) (x 2) := by
    funext a
    match a with
    | ⟨0, _⟩ => exact Subsingleton.elim (α := Fin 1) _ _
    | ⟨1, _⟩ => rfl
    | ⟨2, _⟩ => rfl
  rw [hx]
  refine Eq.trans ?_ (slab_at _ g h _ _ _).symm
  exact slab_second he g (ld_small 0 _ i0) (ld_small 1 _ i1) (fun s j => ld_half 0 0 _ j0 s j j (by omega)) (fun s j => ld_half 1 0 _ j1 s j j (by omega))
    (fun s n => ld_half 0 (128 * g.val) _ k0 s n (gc g n) rfl) (fun s n => ld_half 1 (128 * g.val) _ k1 s n (gc g n) rfl) S (fun n l => ld_slab g S h 0 n l) _ _

end Pieces

/-- A slab's entry lies in it. -/
theorem slab_mem (g : Fin 8) (h : ∀ a, ![g.val, 0, 0] a + ![1, 128, 256] a ≤ S8x128x256.size a) (n : Fin 128) (l : Fin 256) :
    (ix3 g n l : S8x128x256.Idx) ∈ (Rect.unit (s := S8x128x256) ![g.val, 0, 0] ![1, 128, 256] h).set := by
  rw [Rect.mem_set_unit]
  intro a
  match a with
  | ⟨0, _⟩ => exact ⟨le_rfl, Nat.lt_succ_self _⟩
  | ⟨1, _⟩ => exact ⟨Nat.zero_le _, by show n.val < 0 + 128; omega⟩
  | ⟨2, _⟩ => exact ⟨Nat.zero_le _, by show l.val < 0 + 256; omega⟩

/-- Every entry of the state lies in a slab. -/
theorem slab_cover (y : S8x128x256.Idx) (i7 i6 i5 i4 i3 i2 i1 i0) (p7 p6 p5 p4 p3 p2 p1 p0 : S1x128x256.Idx → Elt Ideal .f32) :
    ∃ p ∈ ([⟨Rect.unit (s := S8x128x256) ![7, 0, 0] ![1, 128, 256] i7, p7⟩, ⟨Rect.unit (s := S8x128x256) ![6, 0, 0] ![1, 128, 256] i6, p6⟩,
      ⟨Rect.unit (s := S8x128x256) ![5, 0, 0] ![1, 128, 256] i5, p5⟩, ⟨Rect.unit (s := S8x128x256) ![4, 0, 0] ![1, 128, 256] i4, p4⟩,
      ⟨Rect.unit (s := S8x128x256) ![3, 0, 0] ![1, 128, 256] i3, p3⟩, ⟨Rect.unit (s := S8x128x256) ![2, 0, 0] ![1, 128, 256] i2, p2⟩,
      ⟨Rect.unit (s := S8x128x256) ![1, 0, 0] ![1, 128, 256] i1, p1⟩, ⟨Rect.unit (s := S8x128x256) ![0, 0, 0] ![1, 128, 256] i0, p0⟩] :
        List (View.Piece (Elt Ideal) S8x128x256 .f32)), y ∈ p.1.set := by
  have hy : y = ix3 (y 0) (y 1) (y 2) := by
    funext a
    match a with
    | ⟨0, _⟩ => rfl
    | ⟨1, _⟩ => rfl
    | ⟨2, _⟩ => rfl
  rw [hy]
  generalize (y 0 : Fin 8) = g
  simp only [List.mem_cons, exists_eq_or_imp]
  fin_cases g
  · exact .inr (.inr (.inr (.inr (.inr (.inr (.inr (.inl (slab_mem 0 _ _ _))))))))
  · exact .inr (.inr (.inr (.inr (.inr (.inr (.inl (slab_mem 1 _ _ _)))))))
  · exact .inr (.inr (.inr (.inr (.inr (.inl (slab_mem 2 _ _ _))))))
  · exact .inr (.inr (.inr (.inr (.inl (slab_mem 3 _ _ _)))))
  · exact .inr (.inr (.inr (.inl (slab_mem 4 _ _ _))))
  · exact .inr (.inr (.inl (slab_mem 5 _ _ _)))
  · exact .inr (.inl (slab_mem 6 _ _ _))
  · exact .inl (slab_mem 7 _ _ _)

set_option maxHeartbeats 4000000

/-- The state after a point inside a sequence, from the state before it. -/
theorem state_B (t : Fin cfg0.N) (h0 : ¬ t.val % 32 = 0)
    (he : IsSel (iblk m c 9 t)) (y : S8x128x256.Idx) :
    (outsAt0 m c t.val t.isLt).2 y = hPoint m c t (outsAt0 m c (t.val - 1) (by have := t.isLt; omega)).2 y := by
  have hp := slab_piece he
  have hy : y = ix3 (y 0) (y 1) (y 2) := by
    funext a
    match a with
    | ⟨0, _⟩ => rfl
    | ⟨1, _⟩ => rfl
    | ⟨2, _⟩ => rfl
  generalize hR : hPoint m c t _ = R
  rw [outsAt0_B m c t h0]
  frame_open
  simp (disch := decide) only [↓ View.readCov_skip, ↓ View.readCov_cons_toLoadRect]
  frame_out
  simp only [read_unread_whole]
  subst hR
  refine View.canon_append_of_piecesOf _ [_, _, _, _, _, _, _, _] [_, _, _, _, _, _, _, _]
    ⟨hp 7 _ _ _ _ _ _ _ _, hp 6 _ _ _ _ _ _ _ _, hp 5 _ _ _ _ _ _ _ _, hp 4 _ _ _ _ _ _ _ _, hp 3 _ _ _ _ _ _ _ _, hp 2 _ _ _ _ _ _ _ _,
      hp 1 _ _ _ _ _ _ _ _, hp 0 _ _ _ _ _ _ _ _, trivial⟩ y (slab_cover y _ _ _ _ _ _ _ _ _ _ _ _ _ _ _ _)

/-- The state after a sequence's first point, from zero. -/
theorem state_A (t : Fin cfg0.N) (h0 : t.val % 32 = 0)
    (he : IsSel (iblk m c 9 t)) (y : S8x128x256.Idx) :
    (outsAt0 m c t.val t.isLt).2 y = hPoint m c t (k0_pay2 (F := Ideal)) y := by
  have hp := slab_piece he
  have hy : y = ix3 (y 0) (y 1) (y 2) := by
    funext a
    match a with
    | ⟨0, _⟩ => rfl
    | ⟨1, _⟩ => rfl
    | ⟨2, _⟩ => rfl
  generalize hR : hPoint m c t _ = R
  rw [outsAt0_A m c t h0]
  frame_open
  simp (disch := decide) only [↓ View.readCov_skip, ↓ View.readCov_cons_toLoadRect, ↓ View.readCov_fill]
  frame_out
  subst hR
  refine View.canon_append_of_piecesOf _ [_, _, _, _, _, _, _, _, _] [_, _, _, _, _, _, _, _]
    ⟨hp 7 _ _ _ _ _ _ _ _, hp 6 _ _ _ _ _ _ _ _, hp 5 _ _ _ _ _ _ _ _, hp 4 _ _ _ _ _ _ _ _, hp 3 _ _ _ _ _ _ _ _, hp 2 _ _ _ _ _ _ _ _,
      hp 1 _ _ _ _ _ _ _ _, hp 0 _ _ _ _ _ _ _ _, trivial⟩ y (slab_cover y _ _ _ _ _ _ _ _ _ _ _ _ _ _ _ _)

end Cert.Proofs.Ssd

end

end
-- ==== Proof.SsdOut.lean ====
module

public import proofs.«01_k».proof.Proof.SsdState

@[expose] public section

set_option maxRecDepth 16384

noncomputable section

namespace Cert.Proofs.Ssd

open Idealize.ShloMosaic Idealize.ShloMosaic.TcCoe Idealize.SL.Sem
open Cert.KernelIdeal Cert.KernelIdeal.Gen

/-- One row of the scan's result from its row of outputs. -/
def rowOut (Y X Z D G : Fin 2048 → EReal) (c : Fin 2048) : EReal :=
  let g : Fin 2048 → EReal := fun x => (Y x + D x * X x) * (Z x * Ideal.div 1 (1 + Ideal.exp (-Z x)))
  g c * Ideal.rsqrt (Ideal.div (∑ x, g x * g x) (Ideal.ofBits FTy.f32 1157627904#32) + Ideal.ofBits FTy.f32 897988541#32) * G c

/-- The first half's rows as the kernel ends them. -/
theorem end_first (Y : Vec Ideal S64x2048 .f32) (X Z : Vec Ideal S64x2048 .bf16) (D G : Vec Ideal S1x2048 .f32) (s : Fin 64) (c : Fin 2048) :
    k0_pay69 (k0_pay67 (k0_pay30 X) Y D) (k0_pay68 Z) (FloatOps.ofBits FTy.f32 0#32) G (ix2 s c)
      = rowOut (fun x => Y (ix2 s x)) (fun x => X (ix2 s x)) (fun x => Z (ix2 s x)) (fun x => D (ix2 0 x)) (fun x => G (ix2 0 x)) c := by
  pointwise [k0_pay69, k0_pay67, k0_pay30, k0_pay68, rowOut]
  simp only [zero_sub]

/-- The second half's rows as the kernel ends them. -/
theorem end_second (Y : Vec Ideal S64x2048 .f32) (X Z : Vec Ideal S64x2048 .bf16) (D G : Vec Ideal S1x2048 .f32) (s : Fin 64) (c : Fin 2048) :
    k0_pay1 (k0_pay127 (k0_pay84 X) Y D Z) (k0_pay128 (k0_pay84 X) Y D Z) G (ix2 s c)
      = rowOut (fun x => Y (ix2 s x)) (fun x => X (ix2 s x)) (fun x => Z (ix2 s x)) (fun x => D (ix2 0 x)) (fun x => G (ix2 0 x)) c := by
  pointwise [k0_pay1, k0_pay127, k0_pay84, k0_pay128, rowOut]
  simp only [zero_sub]

/-- A row depends on its five rows of numbers only. -/
theorem rowOut_congr {Y Y' X X' Z Z' D D' G G' : Fin 2048 → EReal} (hY : ∀ x, Y x = Y' x) (hX : ∀ x, X x = X' x) (hZ : ∀ x, Z x = Z' x)
    (hD : ∀ x, D x = D' x) (hG : ∀ x, G x = G' x) (c : Fin 2048) : rowOut Y X Z D G c = rowOut Y' X' Z' D' G' c := by
  rw [funext hY, funext hX, funext hZ, funext hD, funext hG]

/-- The group a column is in. -/
def grp (x : Fin 2048) : Fin 8 := ⟨x.val / 256, by omega⟩

/-- A column's place in its group. -/
def inn (x : Fin 2048) : Fin 256 := ⟨x.val % 256, by omega⟩

theorem grp_col (g : Fin 8) (l : Fin 256) : grp (col g l) = g := Fin.ext (by show (256 * g.val + l.val) / 256 = g.val; omega)
theorem inn_col (g : Fin 8) (l : Fin 256) : inn (col g l) = l := Fin.ext (by show (256 * g.val + l.val) % 256 = l.val; omega)
theorem col_grp (x : Fin 2048) : col (grp x) (inn x) = x := Fin.ext (by show 256 * (x.val / 256) + x.val % 256 = x.val; omega)

/-- The half a row is in. -/
def hq (r : Fin 128) : Fin 2 := ⟨r.val / 64, by omega⟩

/-- A row's place in its half. -/
def hs (r : Fin 128) : Fin 64 := ⟨r.val % 64, by omega⟩

theorem hq_rr (q : Fin 2) (s : Fin 64) : hq (rr q s) = q := Fin.ext (by show (64 * q.val + s.val) / 64 = q.val; omega)
theorem hs_rr (q : Fin 2) (s : Fin 64) : hs (rr q s) = s := Fin.ext (by show (64 * q.val + s.val) % 64 = s.val; omega)
theorem rr_hq (r : Fin 128) : rr (hq r) (hs r) = r := Fin.ext (by show 64 * (r.val / 64) + r.val % 64 = r.val; omega)

variable (m : (ℓ : Loc nD τ sig) → Buf (Elt Ideal) ℓ) (c : Dev nD)

/-- A column's state before half `q` of a point. -/
def hBefore (t : Fin cfg0.N) (S : Vec Ideal S8x128x256 .f32) (q : Fin 2) (x : Fin 2048) : Fin 128 → EReal :=
  match q with
  | 0 => fun n => S (ix3 (grp x) n (inn x))
  | 1 => hHalf (iblk m c 0 t) (iblk m c 1 t) (iblk m c 3 t) (iblk m c 5 t) (iblk m c 6 t) 0 x (grp x) (fun n => S (ix3 (grp x) n (inn x)))

/-- The scan's outputs at a point: half `q`, row `s`, column `x`. -/
def yRow (t : Fin cfg0.N) (S : Vec Ideal S8x128x256 .f32) (q : Fin 2) (s : Fin 64) (x : Fin 2048) : EReal :=
  yHalf (iblk m c 0 t) (iblk m c 1 t) (iblk m c 2 t) (iblk m c 3 t) (iblk m c 5 t) (iblk m c 6 t) q x (grp x) (hBefore m c t S q x) s

/-- The same as one array. -/
def yAt (t : Fin cfg0.N) (S : Vec Ideal S8x128x256 .f32) : Vec Ideal S128x2048 .f32 := fun i => yRow m c t S (hq (i 0)) (hs (i 0)) (i 1)

/-- The result at a point: half `q`, row `s`, column `x`. -/
def outRow (t : Fin cfg0.N) (S : Vec Ideal S8x128x256 .f32) (q : Fin 2) (s : Fin 64) (x : Fin 2048) : EReal :=
  rowOut (yRow m c t S q s) (fun x => iblk m c 0 t (ix2 (rr q s) x)) (fun x => X0_4 m c t (ix2 (rr q s) x)) (fun x => iblk m c 7 t (ix2 0 x))
    (fun x => iblk m c 8 t (ix2 0 x)) x

/-- The same as one block. -/
def outAt (t : Fin cfg0.N) (S : Vec Ideal S8x128x256 .f32) : Vec Ideal S128x2048 .bf16 := fun i => outRow m c t S (hq (i 0)) (hs (i 0)) (i 1)

/-- An array of rows at an entry of a half's group. -/
theorem part_at {N : ℕ} (G : (⟨2, ![128, 2048]⟩ : Shape).Idx → EReal) (q : Fin 2) (o : ℕ)
    (h : ∀ a, ![64 * q.val, o] a + ![64, N] a ≤ (⟨2, ![128, 2048]⟩ : Shape).size a) (s : Fin 64) (l : Fin N) (x : Fin 2048) (hx : x.val = o + l.val) :
    G ((Rect.unit (s := S128x2048) ![64 * q.val, o] ![64, N] h).emb (ix2 s l : (⟨2, ![64, N]⟩ : Shape).Idx)) = G (ix2 (rr q s) x) :=
  ld_half (α := .f32) q o G h s l x hx

/-- A half's group's entry lies in its rectangle. -/
theorem part_mem {N : ℕ} (q : Fin 2) (o : ℕ) (h : ∀ a, ![64 * q.val, o] a + ![64, N] a ≤ S128x2048.size a) (s : Fin 64) (l : Fin N) (x : Fin 2048)
    (hx : x.val = o + l.val) : (ix2 (rr q s) x : S128x2048.Idx) ∈ (Rect.unit (s := S128x2048) ![64 * q.val, o] ![64, N] h).set := by
  rw [Rect.mem_set_unit]
  intro a
  match a with
  | ⟨0, _⟩ => exact ⟨by show 64 * q.val ≤ 64 * q.val + s.val; omega, by show 64 * q.val + s.val < 64 * q.val + 64; omega⟩
  | ⟨1, _⟩ => exact ⟨by show o ≤ x.val; omega, by show x.val < o + N; omega⟩

/-- A load of a half's whole rows reaches row `s` of the half. -/
theorem rows_idx (q : Fin 2) (h : ∀ a, ![64 * q.val, 0] a + ![64, 2048] a ≤ S128x2048.size a) (s : Fin 64) (x : Fin 2048) :
    (Rect.unit (s := S128x2048) ![64 * q.val, 0] ![64, 2048] h).toLoadRect.idx (ix2 s x : S64x2048.Idx) = ix2 (rr q s) x := by
  refine funext fun a => Fin.ext ?_
  match a with
  | ⟨0, _⟩ => show 64 * q.val + 1 * s.val = 64 * q.val + s.val; omega
  | ⟨1, _⟩ => show 0 + 1 * x.val = x.val; omega

/-- Every entry of a half's rows lies in a group. -/
theorem part_cover (q : Fin 2) (s : Fin 64) (x : Fin 2048) {i : S128x2048.Idx} (hi : i = ix2 (rr q s) x) (i7 i6 i5 i4 i3 i2 i1 i0) (p7 p6 p5 p4 p3 p2 p1 p0 : S64x256.Idx → Elt Ideal .f32) :
    ∃ p ∈ ([⟨Rect.unit (s := S128x2048) ![64 * q.val, 1792] ![64, 256] i7, p7⟩, ⟨Rect.unit (s := S128x2048) ![64 * q.val, 1536] ![64, 256] i6, p6⟩,
      ⟨Rect.unit (s := S128x2048) ![64 * q.val, 1280] ![64, 256] i5, p5⟩, ⟨Rect.unit (s := S128x2048) ![64 * q.val, 1024] ![64, 256] i4, p4⟩,
      ⟨Rect.unit (s := S128x2048) ![64 * q.val, 768] ![64, 256] i3, p3⟩, ⟨Rect.unit (s := S128x2048) ![64 * q.val, 512] ![64, 256] i2, p2⟩,
      ⟨Rect.unit (s := S128x2048) ![64 * q.val, 256] ![64, 256] i1, p1⟩, ⟨Rect.unit (s := S128x2048) ![64 * q.val, 0] ![64, 256] i0, p0⟩] :
        List (View.Piece (Elt Ideal) S128x2048 .f32)), i ∈ p.1.set := by
  subst hi
  obtain ⟨g, l, rfl⟩ : ∃ g l, x = col g l := ⟨_, _, (col_grp x).symm⟩
  simp only [List.mem_cons, exists_eq_or_imp]
  fin_cases g
  · exact .inr (.inr (.inr (.inr (.inr (.inr (.inr (.inl (part_mem q 0 _ s l _ rfl))))))))
  · exact .inr (.inr (.inr (.inr (.inr (.inr (.inl (part_mem q 256 _ s l _ rfl)))))))
  · exact .inr (.inr (.inr (.inr (.inr (.inl (part_mem q 512 _ s l _ rfl))))))
  · exact .inr (.inr (.inr (.inr (.inl (part_mem q 768 _ s l _ rfl)))))
  · exact .inr (.inr (.inr (.inl (part_mem q 1024 _ s l _ rfl))))
  · exact .inr (.inr (.inl (part_mem q 1280 _ s l _ rfl)))
  · exact .inr (.inl (part_mem q 1536 _ s l _ rfl))
  · exact .inl (part_mem q 1792 _ s l _ rfl)

section Rows

variable {m c} {t : Fin cfg0.N} (he : IsSel (iblk m c 9 t))
include he

/-- One group of a half's outputs. -/
theorem part_any (q : Fin 2) (g : Fin 8) {sm : Vec Ideal S64x128 .bf16} (hsm : sm = half q (iblk m c 3 t)) {X : Vec Ideal S64x2048 .bf16}
    (hX : ∀ s j, X (ix2 s j) = iblk m c 0 t (ix2 (rr q s) j)) {B C : Vec Ideal S64x128 .bf16}
    (hB : ∀ s n, B (ix2 s n) = iblk m c 1 t (ix2 (rr q s) (gc g n))) (hC : ∀ s n, C (ix2 s n) = iblk m c 2 t (ix2 (rr q s) (gc g n)))
    {O : Vec Ideal S1x128x256 .f32} (S : Vec Ideal S8x128x256 .f32) (hO : ∀ n l, O (ix3 0 n l) = hBefore m c t S q (col g l) n)
    (h : ∀ a, ![64 * q.val, 256 * g.val] a + ![64, 256] a ≤ S128x2048.size a) (x : S64x256.Idx) :
    yGroup g (kDec (iblk m c 9 t) sm (iblk m c 5 t) (iblk m c 6 t)) (kFrom (iblk m c 9 t) sm (iblk m c 5 t) (iblk m c 6 t))
        (kX (iblk m c 9 t) sm (iblk m c 5 t) X) B C O x
      = yAt m c t S ((Rect.unit (s := S128x2048) ![64 * q.val, 256 * g.val] ![64, 256] h).emb x) := by
  obtain ⟨s, l, rfl⟩ : ∃ (s : Fin 64) (l : Fin 256), x = ix2 s l := ⟨x 0, x 1, by
    funext a
    match a with
    | ⟨0, _⟩ => rfl
    | ⟨1, _⟩ => rfl⟩
  refine Eq.trans ?_ (part_at _ q (256 * g.val) h s l (col g l) rfl).symm
  subst hsm
  rw [y_chunk he]
  simp only [hX, hB, hC, hO]
  have hr : yAt m c t S (ix2 (rr q s) (col g l)) = yRow m c t S q s (col g l) := by
    show yRow m c t S (hq (rr q s)) (hs (rr q s)) (col g l) = _
    rw [hq_rr, hs_rr]
  rw [hr]
  unfold yRow yHalf
  rw [grp_col]

/-- One group of the first half's outputs, as the point makes it from its windows. -/
theorem part_first (g : Fin 8) (S : Vec Ideal S8x128x256 .f32)
    (i0 : ∀ a, ![64 * (0 : Fin 2).val, 0] a + ![64, 128] a ≤ S128x128.size a)
    (j0 : ∀ a, ![64 * (0 : Fin 2).val, 0] a + ![64, 2048] a ≤ S128x2048.size a)
    (k0 : ∀ a, ![64 * (0 : Fin 2).val, 128 * g.val] a + ![64, 128] a ≤ S128x1024.size a)
    (h : ∀ a, ![g.val, 0, 0] a + ![1, 128, 256] a ≤ S8x128x256.size a)
    (r : ∀ a, ![64 * (0 : Fin 2).val, 256 * g.val] a + ![64, 256] a ≤ S128x2048.size a) (x : S64x256.Idx) :
    yGroup g (kDec (iblk m c 9 t) (View.ld (iblk m c 3 t) (Rect.unit ![64 * (0 : Fin 2).val, 0] ![64, 128] i0)) (iblk m c 5 t) (iblk m c 6 t))
        (kFrom (iblk m c 9 t) (View.ld (iblk m c 3 t) (Rect.unit ![64 * (0 : Fin 2).val, 0] ![64, 128] i0)) (iblk m c 5 t) (iblk m c 6 t))
        (kX (iblk m c 9 t) (View.ld (iblk m c 3 t) (Rect.unit ![64 * (0 : Fin 2).val, 0] ![64, 128] i0)) (iblk m c 5 t)
          (View.ld (iblk m c 0 t) (Rect.unit ![64 * (0 : Fin 2).val, 0] ![64, 2048] j0)))
        (View.ld (iblk m c 1 t) (Rect.unit ![64 * (0 : Fin 2).val, 128 * g.val] ![64, 128] k0))
        (View.ld (iblk m c 2 t) (Rect.unit ![64 * (0 : Fin 2).val, 128 * g.val] ![64, 128] k0))
        (View.ld S (Rect.unit ![g.val, 0, 0] ![1, 128, 256] h)) x
      = yAt m c t S ((Rect.unit (s := S128x2048) ![64 * (0 : Fin 2).val, 256 * g.val] ![64, 256] r).emb x) :=
  part_any he 0 g (ld_small 0 _ i0) (fun s j => ld_half 0 0 _ j0 s j j (by omega)) (fun s n => ld_half 0 (128 * g.val) _ k0 s n (gc g n) rfl)
    (fun s n => ld_half 0 (128 * g.val) _ k0 s n (gc g n) rfl) S
    (fun n l => (ld_slab g S h 0 n l).trans (congrArg₂ (fun g' l' => S (ix3 g' n l')) (grp_col g l).symm (inn_col g l).symm)) r x

/-- One group of the second half's outputs, as the point makes it from its windows. -/
theorem part_second (g : Fin 8) (S : Vec Ideal S8x128x256 .f32)
    (i0 : ∀ a, ![64 * (0 : Fin 2).val, 0] a + ![64, 128] a ≤ S128x128.size a) (i1 : ∀ a, ![64 * (1 : Fin 2).val, 0] a + ![64, 128] a ≤ S128x128.size a)
    (j0 : ∀ a, ![64 * (0 : Fin 2).val, 0] a + ![64, 2048] a ≤ S128x2048.size a) (j1 : ∀ a, ![64 * (1 : Fin 2).val, 0] a + ![64, 2048] a ≤ S128x2048.size a)
    (k0 : ∀ a, ![64 * (0 : Fin 2).val, 128 * g.val] a + ![64, 128] a ≤ S128x1024.size a)
    (k1 : ∀ a, ![64 * (1 : Fin 2).val, 128 * g.val] a + ![64, 128] a ≤ S128x1024.size a)
    (h : ∀ a, ![g.val, 0, 0] a + ![1, 128, 256] a ≤ S8x128x256.size a)
    (r : ∀ a, ![64 * (1 : Fin 2).val, 256 * g.val] a + ![64, 256] a ≤ S128x2048.size a) (x : S64x256.Idx) :
    yGroup g (kDec (iblk m c 9 t) (View.ld (iblk m c 3 t) (Rect.unit ![64 * (1 : Fin 2).val, 0] ![64, 128] i1)) (iblk m c 5 t) (iblk m c 6 t))
        (kFrom (iblk m c 9 t) (View.ld (iblk m c 3 t) (Rect.unit ![64 * (1 : Fin 2).val, 0] ![64, 128] i1)) (iblk m c 5 t) (iblk m c 6 t))
        (kX (iblk m c 9 t) (View.ld (iblk m c 3 t) (Rect.unit ![64 * (1 : Fin 2).val, 0] ![64, 128] i1)) (iblk m c 5 t)
          (View.ld (iblk m c 0 t) (Rect.unit ![64 * (1 : Fin 2).val, 0] ![64, 2048] j1)))
        (View.ld (iblk m c 1 t) (Rect.unit ![64 * (1 : Fin 2).val, 128 * g.val] ![64, 128] k1))
        (View.ld (iblk m c 2 t) (Rect.unit ![64 * (1 : Fin 2).val, 128 * g.val] ![64, 128] k1))
        (hGroup g (kAll (iblk m c 9 t) (View.ld (iblk m c 3 t) (Rect.unit ![64 * (0 : Fin 2).val, 0] ![64, 128] i0)) (iblk m c 5 t) (iblk m c 6 t))
          (kXEnd (iblk m c 9 t) (View.ld (iblk m c 3 t) (Rect.unit ![64 * (0 : Fin 2).val, 0] ![64, 128] i0)) (iblk m c 5 t) (iblk m c 6 t)
            (View.ld (iblk m c 0 t) (Rect.unit ![64 * (0 : Fin 2).val, 0] ![64, 2048] j0)))
          (View.ld (iblk m c 1 t) (Rect.unit ![64 * (0 : Fin 2).val, 128 * g.val] ![64, 128] k0))
          (View.ld S (Rect.unit ![g.val, 0, 0] ![1, 128, 256] h))) x
      = yAt m c t S ((Rect.unit (s := S128x2048) ![64 * (1 : Fin 2).val, 256 * g.val] ![64, 256] r).emb x) :=
  part_any he 1 g (ld_small 1 _ i1) (fun s j => ld_half 1 0 _ j1 s j j (by omega)) (fun s n => ld_half 1 (128 * g.val) _ k1 s n (gc g n) rfl)
    (fun s n => ld_half 1 (128 * g.val) _ k1 s n (gc g n) rfl) S
    (fun n l => (slab_first he g (ld_small 0 _ i0) (fun s j => ld_half 0 0 _ j0 s j j (by omega))
      (fun s n => ld_half 0 (128 * g.val) _ k0 s n (gc g n) rfl) S (fun n l => ld_slab g S h 0 n l) n l).trans (by
        unfold hBefore
        show _ = hHalf _ _ _ _ _ 0 (col g l) (grp (col g l)) (fun n => S (ix3 (grp (col g l)) n (inn (col g l)))) n
        rw [grp_col, inn_col])) r x

end Rows

theorem outAt_apply (t : Fin cfg0.N) (S : Vec Ideal S8x128x256 .f32) (q : Fin 2) (s : Fin 64) (x : Fin 2048) :
    outAt m c t S (ix2 (rr q s) x) = outRow m c t S q s x := by
  show outRow m c t S (hq (rr q s)) (hs (rr q s)) x = _
  rw [hq_rr, hs_rr]

theorem yAt_apply (t : Fin cfg0.N) (S : Vec Ideal S8x128x256 .f32) (q : Fin 2) (s : Fin 64) (x : Fin 2048) :
    yAt m c t S (ix2 (rr q s) x) = yRow m c t S q s x := by
  show yRow m c t S (hq (rr q s)) (hs (rr q s)) x = _
  rw [hq_rr, hs_rr]

/-- A half of the block is the half of its rows. -/
theorem half_piece (t : Fin cfg0.N) (S : Vec Ideal S8x128x256 .f32) (q : Fin 2) (h : ∀ a, ![64 * q.val, 0] a + ![64, 2048] a ≤ S128x2048.size a)
    {P : S64x2048.Idx → EReal} (hP : ∀ s x, P (ix2 s x) = outRow m c t S q s x) (i : S64x2048.Idx) :
    P i = outAt m c t S ((Rect.unit (s := S128x2048) ![64 * q.val, 0] ![64, 2048] h).emb i) := by
  obtain ⟨s, l, rfl⟩ : ∃ (s : Fin 64) (l : Fin 2048), i = ix2 s l := ⟨i 0, i 1, by
    funext a
    match a with
    | ⟨0, _⟩ => rfl
    | ⟨1, _⟩ => rfl⟩
  exact (hP s l).trans ((part_at _ q 0 h s l l (by omega)).trans (outAt_apply m c t S q s l)).symm

/-- Every entry of the block lies in a half. -/
theorem half_cover (q : Fin 2) (s : Fin 64) (x : Fin 2048) (i1 i0) (p1 p0 : S64x2048.Idx → Elt Ideal .bf16) :
    ∃ p ∈ ([⟨Rect.unit (s := S128x2048) ![64, 0] ![64, 2048] i1, p1⟩, ⟨Rect.unit (s := S128x2048) ![0, 0] ![64, 2048] i0, p0⟩] :
      List (View.Piece (Elt Ideal) S128x2048 .bf16)), (ix2 (rr q s) x : S128x2048.Idx) ∈ p.1.set := by
  simp only [List.mem_cons, exists_eq_or_imp]
  fin_cases q
  · exact .inr (.inl (part_mem 0 0 _ s x x (by omega)))
  · exact .inl (part_mem 1 0 _ s x x (by omega))

set_option maxHeartbeats 1000000

/-- The block a point inside a sequence writes, from the state before it. -/
theorem out_B (t : Fin cfg0.N) (h0 : ¬ t.val % 32 = 0)
    (he : IsSel (iblk m c 9 t)) (q : Fin 2) (s : Fin 64) (x : Fin 2048) :
    (outsAt0 m c t.val t.isLt).1 (ix2 (rr q s) x) = outRow m c t (outsAt0 m c (t.val - 1) (by have := t.isLt; omega)).2 q s x := by
  have hp0 := part_first he
  have hp1 := part_second he
  rw [← outAt_apply]
  generalize hR : (outsAt0 m c (t.val - 1) (by have := t.isLt; omega)).2 = R
  rw [outsAt0_B m c t h0]
  frame_open
  simp (disch := decide) only [↓ View.readCov_skip, ↓ View.readCov_cons_toLoadRect]
  frame_out
  simp only [read_unread_whole]
  subst hR
  refine View.canon_append_of_piecesOf _ [] [_, _] ⟨?_, ?_, trivial⟩ _ (half_cover q s x _ _ _ _)
  · refine half_piece m c t _ 1 inb_S128x2048_S64x2048_64_0 fun s u => (end_second _ _ _ _ _ s u).trans (rowOut_congr (fun x => ?_) (fun x => ld_half 1 0 _ _ s x x (by omega))
      (fun x => ld_half 1 0 _ _ s x x (by omega)) (fun _ => rfl) (fun _ => rfl) u)
    rw [View.readCov_eq_canon']
    refine (View.canon_append_of_piecesOf (yAt m c t _) [_, _, _, _, _, _, _, _] [_, _, _, _, _, _, _, _] ⟨hp1 7 _ _ _ _ _ _ _ _ inb_S128x2048_S64x256_64_1792, hp1 6 _ _ _ _ _ _ _ _ inb_S128x2048_S64x256_64_1536, hp1 5 _ _ _ _ _ _ _ _ inb_S128x2048_S64x256_64_1280, hp1 4 _ _ _ _ _ _ _ _ inb_S128x2048_S64x256_64_1024, hp1 3 _ _ _ _ _ _ _ _ inb_S128x2048_S64x256_64_768, hp1 2 _ _ _ _ _ _ _ _ inb_S128x2048_S64x256_64_512, hp1 1 _ _ _ _ _ _ _ _ inb_S128x2048_S64x256_64_256, hp1 0 _ _ _ _ _ _ _ _ inb_S128x2048_S64x256_64_0, trivial⟩ _ ?_).trans ?_
    · exact part_cover 1 s x (rows_idx 1 inb_S128x2048_S64x2048_64_0 s x) _ _ _ _ _ _ _ _ _ _ _ _ _ _ _ _
    · exact (congrArg (yAt m c t _) (rows_idx 1 inb_S128x2048_S64x2048_64_0 s x)).trans (yAt_apply m c t _ 1 s x)
  · refine half_piece m c t _ 0 inb_S128x2048_S64x2048_0_0 fun s u => (end_first _ _ _ _ _ s u).trans (rowOut_congr (fun x => ?_) (fun x => ld_half 0 0 _ _ s x x (by omega))
      (fun x => ld_half 0 0 _ _ s x x (by omega)) (fun _ => rfl) (fun _ => rfl) u)
    rw [View.readCov_eq_canon']
    refine (View.canon_append_of_piecesOf (yAt m c t _) [] [_, _, _, _, _, _, _, _] ⟨hp0 7 _ _ _ _ _ inb_S128x2048_S64x256_0_1792, hp0 6 _ _ _ _ _ inb_S128x2048_S64x256_0_1536, hp0 5 _ _ _ _ _ inb_S128x2048_S64x256_0_1280, hp0 4 _ _ _ _ _ inb_S128x2048_S64x256_0_1024, hp0 3 _ _ _ _ _ inb_S128x2048_S64x256_0_768, hp0 2 _ _ _ _ _ inb_S128x2048_S64x256_0_512, hp0 1 _ _ _ _ _ inb_S128x2048_S64x256_0_256, hp0 0 _ _ _ _ _ inb_S128x2048_S64x256_0_0, trivial⟩ _ ?_).trans ?_
    · exact part_cover 0 s x (rows_idx 0 inb_S128x2048_S64x2048_0_0 s x) _ _ _ _ _ _ _ _ _ _ _ _ _ _ _ _
    · exact (congrArg (yAt m c t _) (rows_idx 0 inb_S128x2048_S64x2048_0_0 s x)).trans (yAt_apply m c t _ 0 s x)

/-- The block a sequence's first point writes, from zero. -/
theorem out_A (t : Fin cfg0.N) (h0 : t.val % 32 = 0)
    (he : IsSel (iblk m c 9 t)) (q : Fin 2) (s : Fin 64) (x : Fin 2048) :
    (outsAt0 m c t.val t.isLt).1 (ix2 (rr q s) x) = outRow m c t (k0_pay2 (F := Ideal)) q s x := by
  have hp0 := part_first he
  have hp1 := part_second he
  rw [← outAt_apply]
  generalize hR : (k0_pay2 (F := Ideal)) = R
  rw [outsAt0_A m c t h0]
  frame_open
  simp (disch := decide) only [↓ View.readCov_skip, ↓ View.readCov_cons_toLoadRect, ↓ View.readCov_fill]
  frame_out
  subst hR
  refine View.canon_append_of_piecesOf _ [] [_, _] ⟨?_, ?_, trivial⟩ _ (half_cover q s x _ _ _ _)
  · refine half_piece m c t _ 1 inb_S128x2048_S64x2048_64_0 fun s u => (end_second _ _ _ _ _ s u).trans (rowOut_congr (fun x => ?_) (fun x => ld_half 1 0 _ _ s x x (by omega))
      (fun x => ld_half 1 0 _ _ s x x (by omega)) (fun _ => rfl) (fun _ => rfl) u)
    rw [View.readCov_eq_canon']
    refine (View.canon_append_of_piecesOf (yAt m c t _) [_, _, _, _, _, _, _, _] [_, _, _, _, _, _, _, _] ⟨hp1 7 _ _ _ _ _ _ _ _ inb_S128x2048_S64x256_64_1792, hp1 6 _ _ _ _ _ _ _ _ inb_S128x2048_S64x256_64_1536, hp1 5 _ _ _ _ _ _ _ _ inb_S128x2048_S64x256_64_1280, hp1 4 _ _ _ _ _ _ _ _ inb_S128x2048_S64x256_64_1024, hp1 3 _ _ _ _ _ _ _ _ inb_S128x2048_S64x256_64_768, hp1 2 _ _ _ _ _ _ _ _ inb_S128x2048_S64x256_64_512, hp1 1 _ _ _ _ _ _ _ _ inb_S128x2048_S64x256_64_256, hp1 0 _ _ _ _ _ _ _ _ inb_S128x2048_S64x256_64_0, trivial⟩ _ ?_).trans ?_
    · exact part_cover 1 s x (rows_idx 1 inb_S128x2048_S64x2048_64_0 s x) _ _ _ _ _ _ _ _ _ _ _ _ _ _ _ _
    · exact (congrArg (yAt m c t _) (rows_idx 1 inb_S128x2048_S64x2048_64_0 s x)).trans (yAt_apply m c t _ 1 s x)
  · refine half_piece m c t _ 0 inb_S128x2048_S64x2048_0_0 fun s u => (end_first _ _ _ _ _ s u).trans (rowOut_congr (fun x => ?_) (fun x => ld_half 0 0 _ _ s x x (by omega))
      (fun x => ld_half 0 0 _ _ s x x (by omega)) (fun _ => rfl) (fun _ => rfl) u)
    rw [View.readCov_eq_canon']
    refine (View.canon_append_of_piecesOf (yAt m c t _) [] [_, _, _, _, _, _, _, _] ⟨hp0 7 _ _ _ _ _ inb_S128x2048_S64x256_0_1792, hp0 6 _ _ _ _ _ inb_S128x2048_S64x256_0_1536, hp0 5 _ _ _ _ _ inb_S128x2048_S64x256_0_1280, hp0 4 _ _ _ _ _ inb_S128x2048_S64x256_0_1024, hp0 3 _ _ _ _ _ inb_S128x2048_S64x256_0_768, hp0 2 _ _ _ _ _ inb_S128x2048_S64x256_0_512, hp0 1 _ _ _ _ _ inb_S128x2048_S64x256_0_256, hp0 0 _ _ _ _ _ inb_S128x2048_S64x256_0_0, trivial⟩ _ ?_).trans ?_
    · exact part_cover 0 s x (rows_idx 0 inb_S128x2048_S64x2048_0_0 s x) _ _ _ _ _ _ _ _ _ _ _ _ _ _ _ _
    · exact (congrArg (yAt m c t _) (rows_idx 0 inb_S128x2048_S64x2048_0_0 s x)).trans (yAt_apply m c t _ 0 s x)

end Cert.Proofs.Ssd

end

end
-- ==== Proof.SsdBlocks.lean ====
module

public import proofs.«01_k».proof.Proof.SsdOut
public import Idealize.ShloMosaic.Lib.WordCmp
public import Idealize.ShloMosaic.Lib.Routing.OpsOne

@[expose] public section

set_option maxRecDepth 16384

noncomputable section

namespace Cert.Proofs.Ssd

open Idealize.ShloMosaic Idealize.ShloMosaic.TcCoe Idealize.SL.Sem
open Cert.KernelIdeal Cert.KernelIdeal.Gen

/-- Which block each window holds at grid point `t`. -/
theorem idxg : ∀ t : Fin cfg0.N, win0_0.index t = ![t.val, 0] ∧ win0_1.index t = ![t.val, 2] ∧ win0_2.index t = ![t.val, 3]
    ∧ win0_3.index t = ![t.val, 152] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

variable (m : (ℓ : Loc nD τ sig) → Buf (Elt Ideal) ℓ) (c : Dev nD)

/-- The kernel's arguments on a device. -/
abbrev p0 : Vec Ideal S8192x4096 .bf16 := m ((c : Thread nD τ).loc main_arg0)
abbrev p1 : Vec Ideal S8192x19712 .bf16 := m ((c : Thread nD τ).loc main_arg1)
abbrev p2 : Vec Ideal S32 .f32 := m ((c : Thread nD τ).loc main_arg2)
abbrev p3 : Vec Ideal S32 .f32 := m ((c : Thread nD τ).loc main_arg3)
abbrev p4 : Vec Ideal S32 .f32 := m ((c : Thread nD τ).loc main_arg4)
abbrev p5 : Vec Ideal S2048 .f32 := m ((c : Thread nD τ).loc main_arg5)

/-- The sequence a point is in. -/
def bt (t : Fin cfg0.N) : Fin 2 := ⟨t.val / 32, by have : t.val < 64 := t.isLt; omega⟩

/-- The chunk of a point's half `q`. -/
def kt (t : Fin cfg0.N) (q : Fin 2) : ℕ := 2 * (t.val % 32) + q.val

/-- A row of a point's block is this row of the arrays. -/
theorem row_at (t : Fin cfg0.N) (q : Fin 2) (s : Fin 64) : (rowOf (bt t) (kt t q) s).val = t.val * 128 + (rr q s).val := by
  have : t.val < 64 := t.isLt
  show (t.val / 32 * 4096 + (2 * (t.val % 32) + q.val) * 64 + s.val) % 8192 = t.val * 128 + (64 * q.val + s.val)
  omega

/-- The block of inputs at a row and column. -/
theorem blk0 (t : Fin cfg0.N) (q : Fin 2) (s : Fin 64) (x : Fin 2048) :
    iblk m c 0 t (ix2 (rr q s) x) = p0 m c (ix2 (rowOf (bt t) (kt t q) s) (xCol x)) := by
  have hr := row_at t q s
  unfold xCol
  generalize rowOf (bt t) (kt t q) s = r at hr ⊢
  generalize rr q s = u at hr ⊢
  blk_ext [iblk, V, idxg t]

/-- The block of `B` at a row and a column's group. -/
theorem blk1 (t : Fin cfg0.N) (q : Fin 2) (s : Fin 64) (x : Fin 2048) (n : Fin 128) :
    iblk m c 1 t (ix2 (rr q s) (gc (grp x) n)) = p0 m c (ix2 (rowOf (bt t) (kt t q) s) (bCol x n)) := by
  have hr := row_at t q s
  unfold bCol gc grp
  generalize rowOf (bt t) (kt t q) s = r at hr ⊢
  generalize rr q s = u at hr ⊢
  blk_ext [iblk, V, idxg t]

/-- The block of `C` at a row and a column's group. -/
theorem blk2 (t : Fin cfg0.N) (q : Fin 2) (s : Fin 64) (x : Fin 2048) (n : Fin 128) :
    iblk m c 2 t (ix2 (rr q s) (gc (grp x) n)) = p0 m c (ix2 (rowOf (bt t) (kt t q) s) (cCol x n)) := by
  have hr := row_at t q s
  unfold cCol gc grp
  generalize rowOf (bt t) (kt t q) s = r at hr ⊢
  generalize rr q s = u at hr ⊢
  blk_ext [iblk, V, idxg t]

/-- The block of small columns at a row and the lane of a head. -/
theorem blk3 (t : Fin cfg0.N) (q : Fin 2) (s : Fin 64) (h : Fin 32) :
    iblk m c 3 t (ix2 (rr q s) (⟨64 + h.val, by omega⟩ : Fin 128)) = p1 m c (ix2 (rowOf (bt t) (kt t q) s) (dtCol h)) := by
  have hr := row_at t q s
  unfold dtCol
  generalize rowOf (bt t) (kt t q) s = r at hr ⊢
  generalize rr q s = u at hr ⊢
  blk_ext [iblk, V, idxg t]

/-- The block of gates at a row and column. -/
theorem blk4 (t : Fin cfg0.N) (q : Fin 2) (s : Fin 64) (x : Fin 2048) :
    X0_4 m c t (ix2 (rr q s) x) = p1 m c (ix2 (rowOf (bt t) (kt t q) s) (zCol x)) := by
  have hr := row_at t q s
  unfold zCol
  generalize rowOf (bt t) (kt t q) s = r at hr ⊢
  generalize rr q s = u at hr ⊢
  unfold X0_4 Pipeline.Window.fill
  rw [dif_pos (moved0_4 t _)]
  blk_ext [iblk, V, idxg t]

/-- The host-made row of skips, one a column: the head's. -/
theorem v13 (x : Fin 2048) : (V m c main_v13 : Vec Ideal S1x2048 .f32) (ix2 0 x) = p4 m c (ix1 (headOf x)) := by
  unfold V
  simp only [hostOps0, hostOps0_1, hostOps0_2, List.flatten_cons, List.flatten_nil, List.append_nil, List.cons_append, List.nil_append]
  after_results
  pointwise
  rfl

/-- The row of norm gains. -/
theorem v24 (x : Fin 2048) : (V m c main_v24 : Vec Ideal S1x2048 .f32) (ix2 0 x) = p5 m c (ix1 x) := by
  unfold V
  simp only [hostOps0, hostOps0_1, hostOps0_2, List.flatten_cons, List.flatten_nil, List.append_nil, List.cons_append, List.nil_append]
  after_results
  pointwise

/-- The host's floor division of a column by 64, on words: the column's head. -/
theorem floor64 (x : Fin 2048) :
    (Scalar.select
          (IntOp.andi
            (IntOp.cmpi CmpIPredicate.ne
              (if BitVec.ofNat 32 x.val = 0 then (0 : BitVec 32) else if (BitVec.ofNat 32 x.val).msb = true then -1 else 1)
              (if 64#32 = 0 then (0 : BitVec 32) else if (64#32).msb = true then -1 else 1))
            (IntOp.cmpi CmpIPredicate.ne (IntOp.remsi ArithUnit.host (BitVec.ofNat 32 x.val) 64#32) 0#32))
          (IntOp.subi (IntOp.divsi ArithUnit.host (BitVec.ofNat 32 x.val) 64#32) 1#32)
          (IntOp.divsi ArithUnit.host (BitVec.ofNat 32 x.val) 64#32)) = BitVec.ofNat 32 (x.val / 64) := by
  revert x
  decide +kernel

/-- The host-made selection matrix: 1 where the lane is the column's head's, and 0 elsewhere. -/
theorem v10 (l : Fin 128) (x : Fin 2048) : (V m c main_v10 : Vec Ideal S128x2048 .bf16) (ix2 l x) = if l = lane x then (1 : EReal) else 0 := by
  unfold V
  simp only [hostOps0, hostOps0_1, hostOps0_2, List.flatten_cons, List.flatten_nil, List.append_nil, List.cons_append, List.nil_append]
  after_results
  simp only [StableHlo.TRef.ofBuf_toBuf, id]
  simp only [StableHlo.TRef.ofBuf, StableHlo.TRef.toBuf, cast_eq]
  pointwise
  refine (congrArg (fun w => (FloatOps.uitofp (F := Ideal) FTy.bf16 (IntOp.cmpi CmpIPredicate.eq (IntOp.subi (BitVec.ofNat 32 l.val) 64#32) w) : EReal)) (floor64 x)).trans ?_
  have hl := l.isLt
  have hx := x.isLt
  by_cases h : l = lane x
  · rw [if_pos h]
    have hw : IntOp.subi (BitVec.ofNat 32 l.val) 64#32 = BitVec.ofNat 32 (x.val / 64) := by
      rw [h]
      unfold lane IntOp.subi
      simp only
      apply BitVec.eq_of_toNat_eq
      simp
      omega
    rw [hw]
    simp [IntOp.cmpi, FloatOps.uitofp]
  · rw [if_neg h]
    have hw : ¬ IntOp.subi (BitVec.ofNat 32 l.val) 64#32 = BitVec.ofNat 32 (x.val / 64) := by
      intro e
      apply h
      unfold IntOp.subi at e
      have e2 := congrArg BitVec.toNat e
      simp at e2
      apply Fin.ext
      show l.val = 64 + x.val / 64
      omega
    simp [IntOp.cmpi, hw, FloatOps.uitofp]

/-- An update of a row of 32 at a pair of start words: which place of the 128 lanes it writes. -/
theorem lands (idx : IVec S2 32) (k : Fin 32) (r : Fin 1) (l : Fin 128) :
    (scatter_S1x128_S2_S32_0_0_01_0).resultIdx? (ix1 k) idx = some (ix2 r l)
      ↔ (idx (ix1 (0 : Fin 2))).toInt = r.val ∧ (idx (ix1 (1 : Fin 2))).toInt + (k.val : Int) = l.val := by
  have hwin1 : (scatter_S1x128_S2_S32_0_0_01_0).window (ix1 k) 1 = k.val := by
    rfl
  have hwin0 : (scatter_S1x128_S2_S32_0_0_01_0).window (ix1 k) 0 = 0 := by
    rfl
  have h0 := Routing.start_pair (R := 1) (C := 128) scatter_S1x128_S2_S32_0_0_01_0 rfl rfl idx (ix1 k) 0
  have h1 := Routing.start_pair (R := 1) (C := 128) scatter_S1x128_S2_S32_0_0_01_0 rfl rfl idx (ix1 k) 1
  refine Iff.trans (Routing.resultIdx?_ix2 (R := 1) (C := 128) scatter_S1x128_S2_S32_0_0_01_0 (ix1 k) idx r l) ?_
  rw [h0, h1, hwin0, hwin1]
  simp only [Nat.cast_zero, add_zero]
  exact Iff.rfl

/-- Writing 32 values from lane 64 on, read at lane `64 + h`: the value of `h`. -/
theorem set_lane (x : Vec Ideal S1x128 .f32) (idx : IVec S2 32) (upd : Vec Ideal S32 .f32) (h0 : idx (ix1 0) = 0#32) (h1 : idx (ix1 1) = 64#32) (h : Fin 32) :
    Host.scatter scatter_S1x128_S2_S32_0_0_01_0 (fun _ b => b) x idx upd (ix2 0 (⟨64 + h.val, by omega⟩ : Fin 128)) = upd (ix1 h) := by
  have hl : ∀ k : Fin 32, (scatter_S1x128_S2_S32_0_0_01_0).resultIdx? (ix1 k) idx = some (ix2 0 (⟨64 + h.val, by omega⟩ : Fin 128)) ↔ k = h := fun k => by
    rw [lands, h0, h1]
    constructor
    · rintro ⟨-, h'⟩
      apply Fin.ext
      have : ((64#32 : BitVec 32).toInt) = 64 := by decide
      rw [this] at h'
      simp only at h'
      omega
    · rintro rfl
      exact ⟨by decide, by have : ((64#32 : BitVec 32).toInt) = 64 := by decide
                           rw [this]; simp⟩
  refine Routing.scatter_set_hit _ x idx upd _ _ (fun k hk => ?_) (ix1 h) ((hl h).2 rfl)
  obtain ⟨k, rfl⟩ : ∃ k' : Fin 32, k = ix1 k' := ⟨k 0, by funext a; match a with | ⟨0,_⟩ => rfl⟩
  rw [(hl k).1 hk]

/-- The host-made row of step biases, at lane `64 + h`: the bias of head `h`. -/
theorem v18 (h : Fin 32) : (V m c main_v18 : Vec Ideal S1x128 .f32) (ix2 0 (⟨64 + h.val, by omega⟩ : Fin 128)) = p2 m c (ix1 h) := by
  unfold V
  simp only [hostOps0, hostOps0_1, hostOps0_2, List.flatten_cons, List.flatten_nil, List.append_nil, List.cons_append, List.nil_append]
  after_results
  refine set_lane _ _ _ ?_ ?_ h
  · pointwise
  · pointwise

/-- The host-made row of decay logarithms, at lane `64 + h`: that of head `h`. -/
theorem v23 (h : Fin 32) : (V m c main_v23 : Vec Ideal S1x128 .f32) (ix2 0 (⟨64 + h.val, by omega⟩ : Fin 128)) = p3 m c (ix1 h) := by
  unfold V
  simp only [hostOps0, hostOps0_1, hostOps0_2, List.flatten_cons, List.flatten_nil, List.append_nil, List.cons_append, List.nil_append]
  after_results
  refine set_lane _ _ _ ?_ ?_ h
  · pointwise
  · pointwise

/-- The row of step biases that a point reads. -/
theorem blk5 (t : Fin cfg0.N) (h : Fin 32) : iblk m c 5 t (ix2 0 (⟨64 + h.val, by omega⟩ : Fin 128)) = p2 m c (ix1 h) := by
  refine Eq.trans ?_ (v18 m c h)
  generalize (⟨64 + h.val, by omega⟩ : Fin 128) = l
  blk_ext [iblk, idxg t]

/-- The row of decay logarithms that a point reads. -/
theorem blk6 (t : Fin cfg0.N) (h : Fin 32) : iblk m c 6 t (ix2 0 (⟨64 + h.val, by omega⟩ : Fin 128)) = p3 m c (ix1 h) := by
  refine Eq.trans ?_ (v23 m c h)
  generalize (⟨64 + h.val, by omega⟩ : Fin 128) = l
  blk_ext [iblk, idxg t]

/-- The row of skips that a point reads. -/
theorem blk7 (t : Fin cfg0.N) (x : Fin 2048) : iblk m c 7 t (ix2 0 x) = p4 m c (ix1 (headOf x)) := by
  refine Eq.trans ?_ (v13 m c x)
  blk_ext [iblk, idxg t]

/-- The row of gains that a point reads. -/
theorem blk8 (t : Fin cfg0.N) (x : Fin 2048) : iblk m c 8 t (ix2 0 x) = p5 m c (ix1 x) := by
  refine Eq.trans ?_ (v24 m c x)
  blk_ext [iblk, idxg t]

/-- The selection matrix that a point reads. -/
theorem blk9 (t : Fin cfg0.N) : IsSel (iblk m c 9 t) := fun l x => by
  refine Eq.trans ?_ (v10 m c l x)
  blk_ext [iblk, idxg t]

end Cert.Proofs.Ssd

end

end
-- ==== Proof.SsdSame.lean ====
module

public import proofs.«01_k».proof.Proof.SsdOut

@[expose] public section

set_option maxRecDepth 16384

noncomputable section

namespace Cert.Proofs.Ssd

open Idealize.ShloMosaic Idealize.ShloMosaic.TcCoe Idealize.SL.Sem

/-- One of the two infinities. -/
def Inf (a : EReal) : Prop := a = ⊤ ∨ a = ⊥

/-- Equal, or both infinite, of whatever sign. -/
def Same (a b : EReal) : Prop := a = b ∨ (Inf a ∧ Inf b)

theorem Same.refl (a : EReal) : Same a a := Or.inl rfl

/-- A sum with an infinite term is infinite. -/
theorem inf_add {a : EReal} (h : Inf a) (b : EReal) : Inf (a + b) := by
  rcases h with rfl | rfl
  · induction b with
    | bot => exact Or.inr (by simp)
    | top => exact Or.inl (by simp)
    | coe r => exact Or.inl (by simp)
  · exact Or.inr (by simp)

/-- A product of an infinite factor and one that isn't 0 is infinite. -/
theorem inf_mul {a b : EReal} (h : Inf a) (hb : b ≠ 0) : Inf (a * b) := by
  rcases lt_or_gt_of_ne hb with hb | hb <;> rcases h with rfl | rfl
  · exact Or.inr (EReal.top_mul_of_neg hb)
  · exact Or.inl (EReal.bot_mul_of_neg hb)
  · exact Or.inl (EReal.top_mul_of_pos hb)
  · exact Or.inr (EReal.bot_mul_of_pos hb)

theorem Same.add {a a' b b' : EReal} (h : Same a a') (k : Same b b') : Same (a + b) (a' + b') := by
  rcases h with rfl | ⟨h, h'⟩
  · rcases k with rfl | ⟨k, k'⟩
    · exact Same.refl _
    · rw [add_comm a, add_comm a]
      exact Or.inr ⟨inf_add k a, inf_add k' a⟩
  · exact Or.inr ⟨inf_add h b, inf_add h' b'⟩

theorem Same.mul_right {a a' : EReal} (h : Same a a') (b : EReal) : Same (a * b) (a' * b) := by
  rcases h with rfl | ⟨h, h'⟩
  · exact Same.refl _
  · by_cases hb : b = 0
    · exact Or.inl (by rw [hb, mul_zero, mul_zero])
    · exact Or.inr ⟨inf_mul h hb, inf_mul h' hb⟩

theorem Same.mul_left (b : EReal) {a a' : EReal} (h : Same a a') : Same (b * a) (b * a') := by
  rw [mul_comm b, mul_comm b]
  exact h.mul_right b

theorem Same.sum {ι : Type*} [Fintype ι] {f f' : ι → EReal} (h : ∀ i, Same (f i) (f' i)) : Same (∑ i, f i) (∑ i, f' i) := by
  classical
  refine Finset.induction_on (Finset.univ : Finset ι) ?_ fun i s hi ih => ?_
  · exact Same.refl _
  · rw [Finset.sum_insert hi, Finset.sum_insert hi]
    exact (h i).add ih

/-- The sum of a number's parts is the number, or both are infinite. -/
theorem same_cut (x : EReal) : Same (cut x) x := by
  by_cases h : x = ⊤
  · exact Or.inr ⟨Or.inr (by rw [h]; simp [cut]), Or.inl h⟩
  · exact Or.inl (parts h)

/-- A chunk's state keeps the relation. -/
theorem same_h {D : Fin 64 → EReal} {A : EReal} {X : Fin 64 → EReal} {B : Fin 64 → Fin 128 → EReal} {H H' : Fin 128 → EReal}
    (h : ∀ n, Same (H n) (H' n)) (n : Fin 128) : Same (hcut D A X B H n) (hchunk D A X B H' n) :=
  ((h n).mul_right _).add (Same.sum fun s => (((same_cut (D s)).mul_left _).mul_right _).mul_left _)

/-- A chunk's output keeps the relation. -/
theorem same_y {D : Fin 64 → EReal} {A : EReal} {X : Fin 64 → EReal} {B C : Fin 64 → Fin 128 → EReal} {H H' : Fin 128 → EReal}
    (h : ∀ n, Same (H n) (H' n)) (t : Fin 64) : Same (ycut D A X B C H t) (ychunk D A X B C H' t) :=
  (Same.sum fun s => ((same_cut (D s)).mul_left _).mul_left _).add ((Same.sum fun n => (h n).mul_left _).mul_right _)

/-- So do the states of all chunks. -/
theorem same_state (D : ℕ → Fin 64 → EReal) (A : EReal) (X : ℕ → Fin 64 → EReal) (B : ℕ → Fin 64 → Fin 128 → EReal) :
    ∀ (k : ℕ) (n : Fin 128), Same (cstate D A X B k n) (hstate D A X B k n)
  | 0, n => Same.refl _
  | k + 1, n => same_h (same_state D A X B k) n

/-- A row with an infinite member is normed to zero. -/
theorem norm_inf {g : Fin 2048 → EReal} {x : Fin 2048} (h : Inf (g x)) (c : Fin 2048) (w : EReal) :
    g c * Ideal.rsqrt (Ideal.div (∑ x, g x * g x) (Ideal.ofBits FTy.f32 1157627904#32) + Ideal.ofBits FTy.f32 897988541#32) * w = 0 := by
  have nn : ∀ y, 0 ≤ g y * g y := fun y => by
    rcases le_total 0 (g y) with hy | hy
    · exact mul_nonneg hy hy
    · rw [← neg_mul_neg]
      exact mul_nonneg (EReal.neg_nonneg.2 hy) (EReal.neg_nonneg.2 hy)
  have hs : ∑ y, g y * g y = ⊤ := by
    refine top_le_iff.1 (le_trans (le_of_eq ?_) (Finset.single_le_sum (f := fun y => g y * g y) (fun y _ => nn y) (Finset.mem_univ x)))
    rcases h with h | h <;> rw [h] <;> simp
  have hd : Ideal.ofBits FTy.f32 1157627904#32 = ((2048 : ℝ) : EReal) := by
    simp [Ideal.ofBits, Ideal.ieee, -EReal.coe_mul]
    norm_num
  have hq : Ideal.ofBits FTy.f32 897988541#32 ≠ ⊥ := by
    simp [Ideal.ofBits, Ideal.ieee, -EReal.coe_mul]
  have e : Ideal.div ⊤ ((2048 : ℝ) : EReal) = ⊤ := by
    unfold Ideal.div
    rw [if_neg (by norm_cast), ← EReal.coe_inv]
    exact EReal.top_mul_coe_of_pos (by norm_num)
  rw [hs, hd, e, EReal.top_add_of_ne_bot hq]
  have r : Ideal.rsqrt ⊤ = 0 := rfl
  rw [r, mul_zero, zero_mul]

/-- Rows of outputs that are equal, or infinite in the same places, give one row of results. -/
theorem rowOut_same {Y Y' X Z D G : Fin 2048 → EReal} (h : ∀ x, Same (Y x) (Y' x)) (c : Fin 2048) : rowOut Y X Z D G c = rowOut Y' X Z D G c := by
  set g : Fin 2048 → EReal := fun x => (Y x + D x * X x) * (Z x * Ideal.div 1 (1 + Ideal.exp (-Z x))) with eg
  set g' : Fin 2048 → EReal := fun x => (Y' x + D x * X x) * (Z x * Ideal.div 1 (1 + Ideal.exp (-Z x))) with eg'
  have hg : ∀ x, Same (g x) (g' x) :=
    fun x => ((h x).add (Same.refl _)).mul_right _
  show g c * Ideal.rsqrt (Ideal.div (∑ x, g x * g x) _ + _) * G c = g' c * Ideal.rsqrt (Ideal.div (∑ x, g' x * g' x) _ + _) * G c
  by_cases hi : ∃ x, Inf (g x) ∧ Inf (g' x)
  · obtain ⟨x, hx, hx'⟩ := hi
    rw [norm_inf hx c, norm_inf hx' c]
  · have e : g = g' := funext fun x => (hg x).resolve_right fun hx => hi ⟨x, hx⟩
    rw [e]

end Cert.Proofs.Ssd

end

end
-- ==== Proof.SsdFinal.lean ====
module

public import proofs.«01_k».proof.Proof.SsdBlocks
public import proofs.«01_k».proof.Proof.SsdSame

@[expose] public section

set_option maxRecDepth 16384

noncomputable section

namespace Cert.Proofs.Ssd

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The step of a head's lane, at a row of a half of a point. -/
theorem stp_eq (t : Fin cfg0.N) (q : Fin 2) (s : Fin 64) (h : Fin 32) :
    stp (half q (iblk m c 3 t)) (iblk m c 5 t) s (⟨64 + h.val, by omega⟩ : Fin 128)
      = softplus (p1 m c (ix2 (rowOf (bt t) (kt t q) s) (dtCol h)) + p2 m c (ix1 h)) := by
  unfold stp
  rw [if_pos ⟨by show 64 ≤ 64 + h.val; omega, by show 64 + h.val < 96; omega⟩]
  refine congrArg softplus ?_
  exact congrArg₂ (fun a b : EReal => a + b) (blk3 m c t q s h) (blk5 m c t h)

/-- A half's steps for a column are the recurrence's. -/
theorem dS_eq (t : Fin cfg0.N) (q : Fin 2) (x : Fin 2048) :
    dS (half q (iblk m c 3 t)) (iblk m c 5 t) x = dOf (p1 m c) (p2 m c) (bt t) x (kt t q) :=
  funext fun s => stp_eq m c t q s (headOf x)

/-- A column's decay rate is the recurrence's. -/
theorem rate_eq (t : Fin cfg0.N) (x : Fin 2048) : rate (iblk m c 6 t) (lane x) = aOf (p3 m c) x := by
  have hx := x.isLt
  unfold rate
  rw [if_pos ⟨by show 64 ≤ 64 + x.val / 64; omega, by show 64 + x.val / 64 < 96; omega⟩]
  exact congrArg (fun a : EReal => -Ideal.exp a) (blk6 m c t (headOf x))

/-- A half's step of a column's state is one chunk's. -/
theorem hHalf_eq (t : Fin cfg0.N) (q : Fin 2) (x : Fin 2048) (F : Fin 128 → EReal) :
    hHalf (iblk m c 0 t) (iblk m c 1 t) (iblk m c 3 t) (iblk m c 5 t) (iblk m c 6 t) q x (grp x) F
      = hcut (dOf (p1 m c) (p2 m c) (bt t) x (kt t q)) (aOf (p3 m c) x) (xOf (p0 m c) (bt t) x (kt t q)) (bOf (p0 m c) (bt t) x (kt t q)) F := by
  unfold hHalf
  rw [dS_eq, rate_eq]
  congr 1
  · exact funext fun s => blk0 m c t q s x
  · exact funext fun s => funext fun n => blk1 m c t q s x n

/-- A half's outputs of a column are one chunk's. -/
theorem yHalf_eq (t : Fin cfg0.N) (q : Fin 2) (x : Fin 2048) (F : Fin 128 → EReal) :
    yHalf (iblk m c 0 t) (iblk m c 1 t) (iblk m c 2 t) (iblk m c 3 t) (iblk m c 5 t) (iblk m c 6 t) q x (grp x) F
      = ycut (dOf (p1 m c) (p2 m c) (bt t) x (kt t q)) (aOf (p3 m c) x) (xOf (p0 m c) (bt t) x (kt t q)) (bOf (p0 m c) (bt t) x (kt t q))
          (cOf (p0 m c) (bt t) x (kt t q)) F := by
  unfold yHalf
  rw [dS_eq, rate_eq]
  congr 1
  · exact funext fun s => blk0 m c t q s x
  · exact funext fun s => funext fun n => blk1 m c t q s x n
  · exact funext fun s => funext fun n => blk2 m c t q s x n

/-- The state of a column before chunk `k` of sequence `b`, over the kernel's arguments. -/
abbrev hK (b : Fin 2) (x : Fin 2048) (k : ℕ) : Fin 128 → EReal :=
  cstate (dOf (p1 m c) (p2 m c) b x) (aOf (p3 m c) x) (xOf (p0 m c) b x) (bOf (p0 m c) b x) k

/-- A state array that holds every column's state before a point's first chunk. -/
def Starts (t : Fin cfg0.N) (S : Vec Ideal S8x128x256 .f32) : Prop := ∀ x n, S (ix3 (grp x) n (inn x)) = hK m c (bt t) x (kt t 0) n

variable {m c}

/-- Then a column's state before either half is the recurrence's. -/
theorem before_eq {t : Fin cfg0.N} {S : Vec Ideal S8x128x256 .f32} (hS : Starts m c t S) (q : Fin 2) (x : Fin 2048) :
    hBefore m c t S q x = hK m c (bt t) x (kt t q) := by
  have h0 : (fun n => S (ix3 (grp x) n (inn x))) = hK m c (bt t) x (kt t 0) := funext fun n => hS x n
  match q with
  | 0 => exact h0
  | 1 =>
    show hHalf _ _ _ _ _ 0 x (grp x) (fun n => S (ix3 (grp x) n (inn x))) = _
    rw [h0, hHalf_eq]
    rfl

/-- And after the point it is the recurrence's two chunks later. -/
theorem after_eq {t : Fin cfg0.N} {S : Vec Ideal S8x128x256 .f32} (hS : Starts m c t S) (x : Fin 2048) (n : Fin 128) :
    hPoint m c t S (ix3 (grp x) n (inn x)) = hK m c (bt t) x (kt t 0 + 2) n := by
  have h1 := before_eq hS 1 x
  have e : hPoint m c t S (ix3 (grp x) n (inn x))
      = hHalf (iblk m c 0 t) (iblk m c 1 t) (iblk m c 3 t) (iblk m c 5 t) (iblk m c 6 t) 1 x (grp x) (hBefore m c t S 1 x) n := by
    show hHalf _ _ _ _ _ 1 (col (grp x) (inn x)) (grp x) (hHalf _ _ _ _ _ 0 (col (grp x) (inn x)) (grp x) _) n = _
    rw [col_grp]
    rfl
  rw [e, h1, hHalf_eq]
  rfl

/-- And the point's results are the scan's. -/
theorem row_eq {t : Fin cfg0.N} {S : Vec Ideal S8x128x256 .f32} (hS : Starts m c t S) (q : Fin 2) (s : Fin 64) (x : Fin 2048) :
    outRow m c t S q s x = outOf (p0 m c) (p1 m c) (p2 m c) (p3 m c) (p4 m c) (p5 m c) (bt t) x (kt t q) s := by
  refine (rowOut_congr (fun y => ?_) (fun y => blk0 m c t q s y) (fun y => blk4 m c t q s y) (fun y => blk7 m c t y) (fun y => blk8 m c t y) x).trans
    ((rowOut_same (fun y => same_y (same_state _ _ _ _ _) s) x).trans
      (b := rowOut (fun y => yOf (p0 m c) (p1 m c) (p2 m c) (p3 m c) (bt t) y (kt t q) s) _ _ _ _ x) rfl)
  show yHalf _ _ _ _ _ _ q y (grp y) (hBefore m c t S q y) s = _
  rw [before_eq hS, yHalf_eq]

/-- A sequence starts from zero. -/
theorem starts_zero {t : Fin cfg0.N} (h0 : t.val % 32 = 0) : Starts m c t (k0_pay2 (F := Ideal)) := fun x n => by
  have hk : kt t 0 = 0 := by show 2 * (t.val % 32) + 0 = 0; omega
  rw [hk]
  show k0_pay2 (F := Ideal) (ix3 (grp x) n (inn x)) = 0
  pointwise [k0_pay2]

/-- After every point the kept array holds the states two chunks on. -/
theorem state : ∀ (n : ℕ) (h : n < cfg0.N) (x : Fin 2048) (j : Fin 128),
    (outsAt0 m c n h).2 (ix3 (grp x) j (inn x)) = hK m c (bt ⟨n, h⟩) x (kt ⟨n, h⟩ 0 + 2) j
  | n, h, x, j => by
    by_cases h0 : n % 32 = 0
    · exact (state_A m c ⟨n, h⟩ h0 (blk9 m c _) _).trans (after_eq (starts_zero h0) x j)
    · obtain ⟨k, rfl⟩ : ∃ k, n = k + 1 := ⟨n - 1, by omega⟩
      refine (state_B m c ⟨k + 1, h⟩ h0 (blk9 m c _) _).trans (after_eq (fun x n => ?_) x j)
      have ih := state k (Nat.lt_of_succ_lt h) x n
      have hb' : bt ⟨k, Nat.lt_of_succ_lt h⟩ = bt ⟨k + 1, h⟩ := Fin.ext (by show k / 32 = (k + 1) / 32; omega)
      have hk : kt ⟨k, Nat.lt_of_succ_lt h⟩ 0 + 2 = kt ⟨k + 1, h⟩ 0 := by
        show 2 * (k % 32) + 0 + 2 = 2 * ((k + 1) % 32) + 0
        omega
      rw [hb', hk] at ih
      exact ih

/-- Every point's block of results is the scan's. -/
theorem outs (t : Fin cfg0.N) (q : Fin 2) (s : Fin 64) (x : Fin 2048) :
    (outsAt0 m c t.val t.isLt).1 (ix2 (rr q s) x) = outOf (p0 m c) (p1 m c) (p2 m c) (p3 m c) (p4 m c) (p5 m c) (bt t) x (kt t q) s := by
  by_cases h0 : t.val % 32 = 0
  · exact (out_A m c t h0 (blk9 m c _) q s x).trans (row_eq (starts_zero h0) q s x)
  · obtain ⟨n, h⟩ := t
    obtain ⟨k, rfl⟩ : ∃ k, n = k + 1 := ⟨n - 1, by simp only at h0; omega⟩
    refine (out_B m c ⟨k + 1, h⟩ h0 (blk9 m c _) q s x).trans (row_eq (fun x n => ?_) q s x)
    have ih := state (m := m) (c := c) k (Nat.lt_of_succ_lt h) x n
    have hb' : bt ⟨k, Nat.lt_of_succ_lt h⟩ = bt ⟨k + 1, h⟩ := Fin.ext (by show k / 32 = (k + 1) / 32; simp only at h0; omega)
    have hk : kt ⟨k, Nat.lt_of_succ_lt h⟩ 0 + 2 = kt ⟨k + 1, h⟩ 0 := by
      show 2 * (k % 32) + 0 + 2 = 2 * ((k + 1) % 32) + 0
      simp only at h0
      omega
    rw [hb', hk] at ih
    exact ih

/-- The scan's result as one array over the kernel's arguments. -/
def result (m : (ℓ : Loc nD τ sig) → Buf (Elt Ideal) ℓ) (c : Dev nD) : Vec Ideal S8192x2048 .bf16 := fun i =>
  outOf (p0 m c) (p1 m c) (p2 m c) (p3 m c) (p4 m c) (p5 m c) (⟨(i 0).val / 4096, by have := (i 0).isLt; simp at this; omega⟩ : Fin 2) (i 1)
    ((i 0).val / 64 % 64) (⟨(i 0).val % 64, by omega⟩ : Fin 64)

/-- That array at a row and column. -/
theorem result_at (m : (ℓ : Loc nD τ sig) → Buf (Elt Ideal) ℓ) (c : Dev nD) (b : Fin 2) (k : ℕ) (hk : k < 64) (s : Fin 64) (x : Fin 2048) :
    result m c (ix2 (rowOf b k s) x) = outOf (p0 m c) (p1 m c) (p2 m c) (p3 m c) (p4 m c) (p5 m c) b x k s := by
  have hr : (rowOf b k s).val = b.val * 4096 + k * 64 + s.val := by
    show (b.val * 4096 + k * 64 + s.val) % 8192 = _
    omega
  have e0 : (⟨(rowOf b k s).val / 4096, by omega⟩ : Fin 2) = b := Fin.ext (by show (rowOf b k s).val / 4096 = b.val; omega)
  have e1 : (rowOf b k s).val / 64 % 64 = k := by omega
  have e2 : (⟨(rowOf b k s).val % 64, by omega⟩ : Fin 64) = s := Fin.ext (by show (rowOf b k s).val % 64 = s.val; omega)
  show outOf (p0 m c) (p1 m c) (p2 m c) (p3 m c) (p4 m c) (p5 m c) (⟨(rowOf b k s).val / 4096, _⟩ : Fin 2) x
    ((rowOf b k s).val / 64 % 64) (⟨(rowOf b k s).val % 64, _⟩ : Fin 64) = _
  rw [e0, e1, e2]

/-- Where a point's block of results lies. -/
theorem out_place (G : Vec Ideal S8192x2048 .bf16) (t : Fin cfg0.N) (r : Fin 128) (x : Fin 2048) (R : Fin 8192) (hR : R.val = t.val * 128 + r.val) :
    G ((win0_10.blk t).view.emb (ix2 r x)) = G (ix2 R x) := by
  blk_ext [idxg t]

/-- The kernel's result array after the run. -/
theorem final : (dats m 0 c).arrAt 10 (cfgs 0).N = result m c := by
  refine (dats m 0 c).arrAt_eq_of_covers 10 _ (by decide +kernel) fun t _ y => ?_
  blk_simp
  rw [after0_10]
  obtain ⟨r, x, rfl⟩ : ∃ (r : Fin 128) (x : Fin 2048), y = ix2 r x := ⟨y 0, y 1, by funext a; match a with | ⟨0, _⟩ => rfl | ⟨1, _⟩ => rfl⟩
  have hR := row_at t (hq r) (hs r)
  rw [rr_hq] at hR
  have hk : kt t (hq r) < 64 := by
    have := (hq r).isLt
    show 2 * (t.val % 32) + (hq r).val < 64
    omega
  refine Eq.trans ?_ (out_place _ t r x _ hR).symm
  rw [result_at m c _ _ hk]
  have h := outs (m := m) (c := c) t (hq r) (hs r) x
  rw [rr_hq] at h
  exact h

end Cert.Proofs.Ssd

end

end
-- ==== Proof.SsdRef.lean ====
module

public import proofs.«01_k».proof.Proof.SsdSpec
public import proofs.«01_k».proof.Proof.Gen.ReferenceIdeal.Run
public import Idealize.ShloMosaic.Lib.Pointwise
public import Idealize.ShloMosaic.Lib.DynamicIndex
public import Idealize.ShloMosaic.Lib.WordCmp
public import Idealize.ShloMosaic.Lib.StableHlo.ReadAt

@[expose] public section

set_option maxRecDepth 16384

noncomputable section

namespace Cert.Proofs.Ssd

open Idealize.ShloMosaic Idealize.ShloMosaic.TcCoe Idealize.SL.Sem

namespace Ref
open Cert.ReferenceIdeal Cert.ReferenceIdeal.Gen Cert.ReferenceIdeal.Value
open Idealize.ShloMosaic.StableHlo

theorem first_word {x : IVec S_ 32} {j : ℕ} (hj : j < 64) (hx : x = constantI S_ 32 (BitVec.ofNat 32 j)) :
    BitVec.toInt (x (Shape.Idx.first h_S_)) = (j : Int) := by
  subst hx
  exact toInt_ofNat_of_lt (by omega)

theorem first_zero : BitVec.toInt ((constantI S_ 32 0#32) (Shape.Idx.first h_S_)) = ((0 : ℕ) : Int) := rfl

theorem start5 {x : IVec S_ 32} {j : ℕ} (hj : j < 64) (hx : x = constantI S_ 32 (BitVec.ofNat 32 j)) (a : Fin 5) :
    BitVec.toInt ((![x, constantI S_ 32 0#32, constantI S_ 32 0#32, constantI S_ 32 0#32, constantI S_ 32 0#32] : Fin 5 → IVec S_ 32)
      a (Shape.Idx.first h_S_)) = ((![j, 0, 0, 0, 0] : Fin 5 → ℕ) a : Int) := by
  fin_cases a
  · exact first_word hj hx
  all_goals exact first_zero

theorem start6 {x : IVec S_ 32} {j : ℕ} (hj : j < 64) (hx : x = constantI S_ 32 (BitVec.ofNat 32 j)) (a : Fin 6) :
    BitVec.toInt ((![x, constantI S_ 32 0#32, constantI S_ 32 0#32, constantI S_ 32 0#32, constantI S_ 32 0#32, constantI S_ 32 0#32] : Fin 6 → IVec S_ 32)
      a (Shape.Idx.first h_S_)) = ((![j, 0, 0, 0, 0, 0] : Fin 6 → ℕ) a : Int) := by
  fin_cases a
  · exact first_word hj hx
  all_goals exact first_zero

theorem slice_r {x : IVec S_ 32} {j : ℕ} (hj : j < 64) (hx : x = constantI S_ 32 (BitVec.ofNat 32 j)) (u : S64x2x64x8x4.Idx → EReal)
    (h : S64x2x64x8x4.Slices (fun _ => 0) S1x2x64x8x4) :
    Host.dynamicSlice S1x2x64x8x4 u (fun k => BitVec.toInt ((![x, constantI S_ 32 0#32, constantI S_ 32 0#32, constantI S_ 32 0#32,
      constantI S_ 32 0#32] : Fin 5 → IVec S_ 32) k (Shape.Idx.first h_S_))) h
      = fun i => u (ix5 ⟨j, hj⟩ (i 1) (i 2) (i 3) (i 4)) := by
  refine Eq.trans (Host.dynamicSlice_eq_extractStridedSlice S1x2x64x8x4 u _ (![j, 0, 0, 0, 0] : Fin 5 → ℕ) h
    ⟨rfl, by intro a; fin_cases a <;> simp <;> omega⟩ (start5 hj hx)) ?_
  funext i
  pointwise

theorem slice_n {x : IVec S_ 32} {j : ℕ} (hj : j < 64) (hx : x = constantI S_ 32 (BitVec.ofNat 32 j)) (u : S64x2x64x8x128.Idx → EReal)
    (h : S64x2x64x8x128.Slices (fun _ => 0) S1x2x64x8x128) :
    Host.dynamicSlice S1x2x64x8x128 u (fun k => BitVec.toInt ((![x, constantI S_ 32 0#32, constantI S_ 32 0#32, constantI S_ 32 0#32,
      constantI S_ 32 0#32] : Fin 5 → IVec S_ 32) k (Shape.Idx.first h_S_))) h
      = fun i => u (ix5 ⟨j, hj⟩ (i 1) (i 2) (i 3) (i 4)) := by
  refine Eq.trans (Host.dynamicSlice_eq_extractStridedSlice S1x2x64x8x128 u _ (![j, 0, 0, 0, 0] : Fin 5 → ℕ) h
    ⟨rfl, by intro a; fin_cases a <;> simp <;> omega⟩ (start5 hj hx)) ?_
  funext i
  pointwise

theorem slice_x {x : IVec S_ 32} {j : ℕ} (hj : j < 64) (hx : x = constantI S_ 32 (BitVec.ofNat 32 j)) (u : S64x2x64x8x4x64.Idx → EReal)
    (h : S64x2x64x8x4x64.Slices (fun _ => 0) S1x2x64x8x4x64) :
    Host.dynamicSlice S1x2x64x8x4x64 u (fun k => BitVec.toInt ((![x, constantI S_ 32 0#32, constantI S_ 32 0#32, constantI S_ 32 0#32,
      constantI S_ 32 0#32, constantI S_ 32 0#32] : Fin 6 → IVec S_ 32) k (Shape.Idx.first h_S_))) h
      = fun i => u (ix6 ⟨j, hj⟩ (i 1) (i 2) (i 3) (i 4) (i 5)) := by
  refine Eq.trans (Host.dynamicSlice_eq_extractStridedSlice S1x2x64x8x4x64 u _ (![j, 0, 0, 0, 0, 0] : Fin 6 → ℕ) h
    ⟨rfl, by intro a; fin_cases a <;> simp <;> omega⟩ (start6 hj hx)) ?_
  funext i
  pointwise

theorem update_y {x : IVec S_ 32} {j : ℕ} (hj : j < 64) (hx : x = constantI S_ 32 (BitVec.ofNat 32 j)) (v : S64x2x64x8x4x64.Idx → EReal)
    (u : S1x2x64x8x4x64.Idx → EReal) (h : S64x2x64x8x4x64.Slices (fun _ => 0) S1x2x64x8x4x64)
    (k : Fin 64) (b : Fin 2) (t : Fin 64) (g : Fin 8) (r : Fin 4) (p : Fin 64) :
    Host.dynamicUpdateSlice v u (fun k => BitVec.toInt ((![x, constantI S_ 32 0#32, constantI S_ 32 0#32, constantI S_ 32 0#32,
      constantI S_ 32 0#32, constantI S_ 32 0#32] : Fin 6 → IVec S_ 32) k (Shape.Idx.first h_S_))) h (ix6 k b t g r p)
      = if k.val = j then u (ix6 0 b t g r p) else v (ix6 k b t g r p) := by
  refine (congrFun (WordCmp.dynamicUpdateSlice_eq_update v u _ h (![j, 0, 0, 0, 0, 0] : Fin 6 → ℕ)
    ⟨rfl, by intro a; fin_cases a <;> simp <;> omega⟩ (start6 hj hx)) _).trans ?_
  pointwise
  by_cases hk : k.val = j
  · rw [dif_pos ⟨by omega, by omega⟩, if_pos hk]
    exact congrArg u (congrArg (fun z => ix6 z _ _ _ _ _) (Fin.ext (by show k.val - j = 0; omega)))
  · rw [dif_neg (by omega), if_neg hk]

/-- The mask of the rows up to a row, as the reference spells it. -/
theorem tril_word (t x : Fin 64) :
    Scalar.select (IntOp.cmpi .sge (IntOp.addi (BitVec.ofNat 32 t.val) 0#32) (BitVec.ofNat 32 x.val)) 1#1 0#1
      = if x.val ≤ t.val then 1#1 else 0#1 := by
  revert t x; decide +kernel

theorem select_if {α : Type} (p : Prop) [Decidable p] (a b : α) :
    Scalar.select (if p then 1#1 else 0#1) a b = if p then a else b := by
  split <;> rfl

variable (V0 : Valuation τ sig (Elt Ideal))

abbrev vX : S64x2x64x8x4x64.Idx → EReal := V0 (Proc.devRef .tc main_v25_0)
abbrev vD : S64x2x64x8x4.Idx → EReal := V0 (Proc.devRef .tc main_v25_1)
abbrev vB : S64x2x64x8x128.Idx → EReal := V0 (Proc.devRef .tc main_v25_2)
abbrev vC : S64x2x64x8x128.Idx → EReal := V0 (Proc.devRef .tc main_v25_3)
abbrev vA : S8x4.Idx → EReal := V0 (Proc.devRef .tc main_v25_4)
abbrev vH : S2x8x4x64x128.Idx → EReal := V0 (Proc.devRef .tc main_v25_6)
abbrev vY : S64x2x64x8x4x64.Idx → EReal := V0 (Proc.devRef .tc main_v25_7)

theorem d_apply {j : ℕ} (hj : j < 64) (hx : V0 (Proc.devRef .tc main_v25_5) = constantI S_ 32 (BitVec.ofNat 32 j))
    (b : Fin 2) (t : Fin 64) (g : Fin 8) (r : Fin 4) : res_main_while0b_v56 V0 (ix4 b t g r) = vD V0 (ix5 ⟨j, hj⟩ b t g r) := by
  unfold res_main_while0b_v56
  have h := slice_r hj hx (vD V0) sliceFits_S64x2x64x8x4_S1x2x64x8x4
  refine (congrArg (fun z => shapeCast S2x64x8x4 z shapeCasts_S1x2x64x8x4_S2x64x8x4 (ix4 b t g r)) h).trans ?_
  pointwise

theorem b_apply {j : ℕ} (hj : j < 64) (hx : V0 (Proc.devRef .tc main_v25_5) = constantI S_ 32 (BitVec.ofNat 32 j))
    (b : Fin 2) (t : Fin 64) (g : Fin 8) (n : Fin 128) : res_main_while0b_v57 V0 (ix4 b t g n) = vB V0 (ix5 ⟨j, hj⟩ b t g n) := by
  unfold res_main_while0b_v57
  have h := slice_n hj hx (vB V0) sliceFits_S64x2x64x8x128_S1x2x64x8x128
  refine (congrArg (fun z => shapeCast S2x64x8x128 z shapeCasts_S1x2x64x8x128_S2x64x8x128 (ix4 b t g n)) h).trans ?_
  pointwise

theorem c_apply {j : ℕ} (hj : j < 64) (hx : V0 (Proc.devRef .tc main_v25_5) = constantI S_ 32 (BitVec.ofNat 32 j))
    (b : Fin 2) (t : Fin 64) (g : Fin 8) (n : Fin 128) : res_main_while0b_v58 V0 (ix4 b t g n) = vC V0 (ix5 ⟨j, hj⟩ b t g n) := by
  unfold res_main_while0b_v58
  have h := slice_n hj hx (vC V0) sliceFits_S64x2x64x8x128_S1x2x64x8x128
  refine (congrArg (fun z => shapeCast S2x64x8x128 z shapeCasts_S1x2x64x8x128_S2x64x8x128 (ix4 b t g n)) h).trans ?_
  pointwise

theorem xdt_apply {j : ℕ} (hj : j < 64) (hx : V0 (Proc.devRef .tc main_v25_5) = constantI S_ 32 (BitVec.ofNat 32 j))
    (b : Fin 2) (t : Fin 64) (g : Fin 8) (r : Fin 4) (p : Fin 64) :
    res_main_while0b_v65 V0 (ix5 b t g r p) = vX V0 (ix6 ⟨j, hj⟩ b t g r p) * vD V0 (ix5 ⟨j, hj⟩ b t g r) := by
  unfold res_main_while0b_v65
  have h := slice_x hj hx (vX V0) sliceFits_S64x2x64x8x4x64_S1x2x64x8x4x64
  refine (congrArg (fun z => mulf (shapeCast S2x64x8x4x64 z shapeCasts_S1x2x64x8x4x64_S2x64x8x4x64) _ (ix5 b t g r p)) h).trans ?_
  pointwise
  rw [d_apply V0 hj hx]

theorem foldl_add {N : ℕ} (F : Fin N → EReal) (a : EReal) :
    (List.finRange N).foldl (fun r n => r + F n) a = a + ∑ n, F n := by
  rw [Fin.sum_univ_def]
  generalize List.finRange N = l
  induction l generalizing a with
  | nil => simp
  | cons x l ih => rw [List.foldl_cons, ih, List.map_cons, List.sum_cons, add_assoc]

/-- The running sum along the second axis of four, as a sum with a guard. -/
theorem window_sum (f : S2x64x8x4.Idx → EReal) (z : S_.Idx → EReal) (hz : ∀ i, z i = 0)
    (h : S2x64x8x4.ReduceWindows ![1, 64, 1, 1] ![1, 1, 1, 1] ![0, 63, 0, 0] ![0, 0, 0, 0] S2x64x8x4)
    (b : Fin 2) (t : Fin 64) (g : Fin 8) (r : Fin 4) :
    Host.reduceWindowAdd (F := Ideal) (φ := .f32) ![1, 64, 1, 1] ![1, 1, 1, 1] ![0, 63, 0, 0] ![0, 0, 0, 0] f z h h_S_ (ix4 b t g r)
      = ∑ s : Fin 64, if s.val ≤ t.val then f (ix4 b s g r) else 0 := by
  show Host.reduceWindow (fun x y : EReal => x + y) ![1, 64, 1, 1] ![1, 1, 1, 1] ![0, 63, 0, 0] ![0, 0, 0, 0] f z h h_S_ (ix4 b t g r) = _
  unfold Host.reduceWindow
  simp only [hz]
  refine (foldl_add _ _).trans ?_
  rw [zero_add]
  refine ((⟨4, ![1, 64, 1, 1]⟩ : Shape).rowMajor.symm.sum_comp (fun w : (⟨4, ![1, 64, 1, 1]⟩ : Shape).Idx =>
    if hin : ∀ a : Fin 4, (![0, 63, 0, 0] : Fin 4 → ℕ) a ≤ (ix4 b t g r a).val * (![1, 1, 1, 1] : Fin 4 → ℕ) a + (w a).val
      ∧ (ix4 b t g r a).val * (![1, 1, 1, 1] : Fin 4 → ℕ) a + (w a).val - (![0, 63, 0, 0] : Fin 4 → ℕ) a < S2x64x8x4.size a
    then f (fun a => ⟨(ix4 b t g r a).val * (![1, 1, 1, 1] : Fin 4 → ℕ) a + (w a).val - (![0, 63, 0, 0] : Fin 4 → ℕ) a, (hin a).2⟩)
    else 0)).trans ?_
  rw [sum_idx4]
  simp only [Fin.sum_univ_one]
  refine (Equiv.sum_comp (Equiv.addRight (⟨63 - t.val, by omega⟩ : Fin 64)) _).symm.trans (Finset.sum_congr rfl fun s _ => ?_)
  have hq : ((Equiv.addRight (⟨63 - t.val, by omega⟩ : Fin 64)) s).val = (s.val + (63 - t.val)) % 64 := Fin.val_add _ _
  generalize (Equiv.addRight (⟨63 - t.val, by omega⟩ : Fin 64)) s = q at hq
  have ht := t.isLt
  have hs := s.isLt
  by_cases hle : s.val ≤ t.val
  · have hq' : t.val + q.val = 63 + s.val := by omega
    rw [if_pos hle, dif_pos]
    · refine congrArg f (funext fun a => Fin.ext ?_)
      fin_cases a
      · show b.val * 1 + 0 - 0 = b.val; omega
      · show t.val * 1 + q.val - 63 = s.val; omega
      · show g.val * 1 + 0 - 0 = g.val; omega
      · show r.val * 1 + 0 - 0 = r.val; omega
    · intro a
      fin_cases a
      · show 0 ≤ b.val * 1 + 0 ∧ b.val * 1 + 0 - 0 < 2; omega
      · show 63 ≤ t.val * 1 + q.val ∧ t.val * 1 + q.val - 63 < 64; omega
      · show 0 ≤ g.val * 1 + 0 ∧ g.val * 1 + 0 - 0 < 8; omega
      · show 0 ≤ r.val * 1 + 0 ∧ r.val * 1 + 0 - 0 < 4; omega
  · rw [if_neg hle, dif_neg]
    intro h
    have := h 1
    change 63 ≤ t.val * 1 + q.val ∧ _ at this
    omega

section Trip

variable {j : ℕ} (hj : j < 64) (hx : V0 (Proc.devRef .tc main_v25_5) = constantI S_ 32 (BitVec.ofNat 32 j))

include hx

/-- What one trip reads, in one column. -/
abbrev tD (j : Fin 64) (b : Fin 2) (g : Fin 8) (r : Fin 4) (s : Fin 64) : EReal := vD V0 (ix5 j b s g r)
abbrev tX (j : Fin 64) (b : Fin 2) (g : Fin 8) (r : Fin 4) (p : Fin 64) (s : Fin 64) : EReal := vX V0 (ix6 j b s g r p)
abbrev tB (j : Fin 64) (b : Fin 2) (g : Fin 8) (s : Fin 64) (n : Fin 128) : EReal := vB V0 (ix5 j b s g n)
abbrev tC (j : Fin 64) (b : Fin 2) (g : Fin 8) (s : Fin 64) (n : Fin 128) : EReal := vC V0 (ix5 j b s g n)

theorem cs_apply (b : Fin 2) (t : Fin 64) (g : Fin 8) (r : Fin 4) :
    res_main_while0b_v62 V0 (ix4 b t g r) = acs (tD V0 ⟨j, hj⟩ b g r) (vA V0 (ix2 g r)) t := by
  unfold res_main_while0b_v62
  refine (window_sum _ _ (fun i => ?_) _ b t g r).trans ?_
  · pointwise
  · refine Finset.sum_congr rfl fun s _ => ?_
    pointwise
    rw [d_apply V0 hj hx]

theorem h_step (b : Fin 2) (g : Fin 8) (r : Fin 4) (p : Fin 64) (n : Fin 128) :
    step_main_v25_6 V0 (ix5 b g r p n) = hchunk (tD V0 ⟨j, hj⟩ b g r) (vA V0 (ix2 g r)) (tX V0 ⟨j, hj⟩ b g r p) (tB V0 ⟨j, hj⟩ b g)
      (fun n => vH V0 (ix5 b g r p n)) n := by
  unfold step_main_v25_6 hchunk
  simp only [id]
  pointwise
  simp only [cs_apply V0 hj hx, b_apply V0 hj hx, xdt_apply V0 hj hx]
  refine congrArg₂ (· + ·) rfl (Finset.sum_congr rfl fun s _ => mul_comm _ _)

theorem y_step (k : Fin 64) (b : Fin 2) (t : Fin 64) (g : Fin 8) (r : Fin 4) (p : Fin 64) :
    step_main_v25_7 V0 (ix6 k b t g r p) = if k.val = j then
      ychunk (tD V0 ⟨j, hj⟩ b g r) (vA V0 (ix2 g r)) (tX V0 ⟨j, hj⟩ b g r p) (tB V0 ⟨j, hj⟩ b g) (tC V0 ⟨j, hj⟩ b g)
        (fun n => vH V0 (ix5 b g r p n)) t
      else vY V0 (ix6 k b t g r p) := by
  unfold step_main_v25_7
  simp only [id]
  refine (update_y hj hx (vY V0) _ sliceFits_S64x2x64x8x4x64_S1x2x64x8x4x64 k b t g r p).trans ?_
  refine if_congr Iff.rfl ?_ rfl
  pointwise
  simp only [cs_apply V0 hj hx, b_apply V0 hj hx, xdt_apply V0 hj hx, c_apply V0 hj hx]
  unfold ychunk decay
  refine congrArg₂ (· + ·) (Finset.sum_congr rfl fun s _ => ?_) (congrArg₂ (· * ·) (Finset.sum_congr rfl fun n _ => mul_comm _ _) rfl)
  rw [tril_word, select_if, mul_comm]
  exact congrArg₂ (· * ·) (congrArg₂ (· * ·) (Finset.sum_congr rfl fun n _ => mul_comm _ _) rfl) rfl

end Trip

/-- The column of a head's lane. -/
def colOf (g : Fin 8) (r : Fin 4) (p : Fin 64) : Fin 2048 := ⟨(g.val * 4 + r.val) * 64 + p.val, by omega⟩

section Entry

variable (m : (ℓ : Loc nD τ sig) → Buf (Elt Ideal) ℓ) (c : Dev nD)

abbrev a0 : S8192x4096.Idx → EReal := m ((c.tc : Thread nD τ).loc main_arg0)
abbrev a1 : S8192x19712.Idx → EReal := m ((c.tc : Thread nD τ).loc main_arg1)
abbrev a2 : S32.Idx → EReal := m ((c.tc : Thread nD τ).loc main_arg2)
abbrev a3 : S32.Idx → EReal := m ((c.tc : Thread nD τ).loc main_arg3)
abbrev a4 : S32.Idx → EReal := m ((c.tc : Thread nD τ).loc main_arg4)
abbrev a5 : S2048.Idx → EReal := m ((c.tc : Thread nD τ).loc main_arg5)

theorem ix2_ext {n0 n1 : Nat} {a a' : Fin n0} {b b' : Fin n1} (h : a.val = a'.val) (h' : b.val = b'.val) : ix2 a b = ix2 a' b' := by
  rw [Fin.ext h, Fin.ext h']

theorem rowOf_val (b : Fin 2) (k : Fin 64) (t : Fin 64) : (rowOf b k.val t).val = b.val * 4096 + k.val * 64 + t.val := by
  show (b.val * 4096 + k.val * 64 + t.val) % 8192 = _
  omega

theorem xCol_val (g : Fin 8) (r : Fin 4) (p : Fin 64) : (xCol (colOf g r p)).val = g.val * 256 + r.val * 64 + p.val := by
  show (g.val * 4 + r.val) * 64 + p.val = _
  omega

theorem bCol_val (g : Fin 8) (r : Fin 4) (p : Fin 64) (n : Fin 128) : (bCol (colOf g r p) n).val = 2048 + (g.val * 128 + n.val) := by
  show 2048 + 128 * (((g.val * 4 + r.val) * 64 + p.val) / 256) + n.val = _
  omega

theorem cCol_val (g : Fin 8) (r : Fin 4) (p : Fin 64) (n : Fin 128) : (cCol (colOf g r p) n).val = 3072 + (g.val * 128 + n.val) := by
  show 3072 + 128 * (((g.val * 4 + r.val) * 64 + p.val) / 256) + n.val = _
  omega

theorem headOf_val (g : Fin 8) (r : Fin 4) (p : Fin 64) : (headOf (colOf g r p)).val = g.val * 4 + r.val := by
  show ((g.val * 4 + r.val) * 64 + p.val) / 64 = _
  omega

set_option maxRecDepth 65536 in
set_option maxHeartbeats 400000 in
theorem entry_x (k : Fin 64) (b : Fin 2) (t : Fin 64) (g : Fin 8) (r : Fin 4) (p : Fin 64) :
    vX (entryContents preI m c) (ix6 k b t g r p) = xOf (a0 m c) b (colOf g r p) k.val t := by
  unfold vX
  simp only [entryContents, afterL_cons, afterL_nil]
  after_reads_simp
  simp only [id]
  pointwise
  exact congrArg (a0 m c) (ix2_ext (rowOf_val b k t).symm (xCol_val g r p).symm)

set_option maxRecDepth 65536 in
set_option maxHeartbeats 400000 in
theorem entry_b (k : Fin 64) (b : Fin 2) (t : Fin 64) (g : Fin 8) (r : Fin 4) (p : Fin 64) (n : Fin 128) :
    vB (entryContents preI m c) (ix5 k b t g n) = bOf (a0 m c) b (colOf g r p) k.val t n := by
  unfold vB
  simp only [entryContents, afterL_cons, afterL_nil]
  after_reads_simp
  simp only [id]
  pointwise
  exact congrArg (a0 m c) (ix2_ext (rowOf_val b k t).symm (bCol_val g r p n).symm)

set_option maxRecDepth 65536 in
set_option maxHeartbeats 400000 in
theorem entry_c (k : Fin 64) (b : Fin 2) (t : Fin 64) (g : Fin 8) (r : Fin 4) (p : Fin 64) (n : Fin 128) :
    vC (entryContents preI m c) (ix5 k b t g n) = cOf (a0 m c) b (colOf g r p) k.val t n := by
  unfold vC
  simp only [entryContents, afterL_cons, afterL_nil]
  after_reads_simp
  simp only [id]
  pointwise
  exact congrArg (a0 m c) (ix2_ext (rowOf_val b k t).symm (cCol_val g r p n).symm)

set_option maxRecDepth 65536 in
set_option maxHeartbeats 400000 in
theorem entry_a (g : Fin 8) (r : Fin 4) (p : Fin 64) :
    vA (entryContents preI m c) (ix2 g r) = aOf (a3 m c) (colOf g r p) := by
  unfold vA
  simp only [entryContents, afterL_cons, afterL_nil]
  after_reads_simp
  simp only [id]
  pointwise
  exact congrArg (fun z => -Ideal.exp (a3 m c (ix1 z))) (Fin.ext (headOf_val g r p).symm)

set_option maxRecDepth 65536 in
set_option maxHeartbeats 400000 in
theorem entry_h (i) : vH (entryContents preI m c) i = 0 := by
  unfold vH
  simp only [entryContents, afterL_cons, afterL_nil]
  after_reads_simp
  simp only [id]
  pointwise

set_option maxRecDepth 65536 in
set_option maxHeartbeats 400000 in
theorem entry_n : entryContents preI m c (Proc.devRef .tc main_v25_5) = constantI S_ 32 (BitVec.ofNat 32 0) := by
  rw [ctr_entry]; rfl

set_option maxRecDepth 65536 in
set_option maxHeartbeats 400000 in
theorem entry_d (k : Fin 64) (b : Fin 2) (t : Fin 64) (g : Fin 8) (r : Fin 4) (p : Fin 64) :
    vD (entryContents preI m c) (ix5 k b t g r) = dOf (a1 m c) (a2 m c) b (colOf g r p) k.val t := by
  unfold vD
  simp only [entryContents, afterL_cons, afterL_nil]
  after_reads_at
  simp only [id]
  pointwise
  rw [if_neg (fun h => h rfl)]
  show softplus _ = softplus _
  refine congrArg softplus (congrArg₂ (· + ·) (congrArg (a1 m c) (ix2_ext (rowOf_val b k t).symm ?_))
    (congrArg (fun z => a2 m c (ix1 z)) (Fin.ext (headOf_val g r p).symm)))
  show 19520 + (g.val * 4 + r.val) = 19520 + (headOf (colOf g r p)).val
  rw [headOf_val]

/-- What the loop's buffers hold after `j` trips: the counter, the operands as they entered, the state before chunk `j`, and the
    chunks of the output before chunk `j`. -/
structure Holds (j : ℕ) (V : Valuation τ sig (Elt Ideal)) : Prop where
  fn : V (Proc.devRef .tc main_v25_5) = constantI S_ 32 (BitVec.ofNat 32 j)
  fx : vX V = vX (entryContents preI m c)
  fd : vD V = vD (entryContents preI m c)
  fb : vB V = vB (entryContents preI m c)
  fc : vC V = vC (entryContents preI m c)
  fa : vA V = vA (entryContents preI m c)
  fh : ∀ (b : Fin 2) (g : Fin 8) (r : Fin 4) (p : Fin 64) (n : Fin 128),
    vH V (ix5 b g r p n) = hOf (a0 m c) (a1 m c) (a2 m c) (a3 m c) b (colOf g r p) j n
  fy : ∀ (k : Fin 64), k.val < j → ∀ (b : Fin 2) (t : Fin 64) (g : Fin 8) (r : Fin 4) (p : Fin 64),
    vY V (ix6 k b t g r p) = yOf (a0 m c) (a1 m c) (a2 m c) (a3 m c) b (colOf g r p) k.val t

theorem holds_zero : Holds m c 0 (entryContents preI m c) :=
  ⟨entry_n m c, rfl, rfl, rfl, rfl, rfl, fun b g r p n => (entry_h m c _).trans rfl, fun k hk => absurd hk (Nat.not_lt_zero _)⟩

theorem holds_succ {j : ℕ} (hj : j < 64) {V : Valuation τ sig (Elt Ideal)} (h : Holds m c j V) : Holds m c (j + 1) (STEP V) := by
  have hD : ∀ b g r p, tD V ⟨j, hj⟩ b g r = dOf (a1 m c) (a2 m c) b (colOf g r p) j := fun b g r p => funext fun s => by
    show vD V _ = _; rw [h.fd]; exact entry_d m c ⟨j, hj⟩ b s g r p
  have hX : ∀ b g r p, tX V ⟨j, hj⟩ b g r p = xOf (a0 m c) b (colOf g r p) j := fun b g r p => funext fun s => by
    show vX V _ = _; rw [h.fx]; exact entry_x m c ⟨j, hj⟩ b s g r p
  have hB : ∀ b g r p, tB V ⟨j, hj⟩ b g = bOf (a0 m c) b (colOf g r p) j := fun b g r p => funext fun s => funext fun n => by
    show vB V _ = _; rw [h.fb]; exact entry_b m c ⟨j, hj⟩ b s g r p n
  have hC : ∀ b g r p, tC V ⟨j, hj⟩ b g = cOf (a0 m c) b (colOf g r p) j := fun b g r p => funext fun s => funext fun n => by
    show vC V _ = _; rw [h.fc]; exact entry_c m c ⟨j, hj⟩ b s g r p n
  have hA : ∀ g r p, vA V (ix2 g r) = aOf (a3 m c) (colOf g r p) := fun g r p => by rw [h.fa]; exact entry_a m c g r p
  have hH : ∀ b g r p, (fun n => vH V (ix5 b g r p n)) = hOf (a0 m c) (a1 m c) (a2 m c) (a3 m c) b (colOf g r p) j :=
    fun b g r p => funext (h.fh b g r p)
  refine ⟨?_, (STEP_main_v25_0 V).trans h.fx, (STEP_main_v25_1 V).trans h.fd, (STEP_main_v25_2 V).trans h.fb,
    (STEP_main_v25_3 V).trans h.fc, (STEP_main_v25_4 V).trans h.fa, fun b g r p n => ?_, fun k hk b t g r p => ?_⟩
  · refine (STEP_main_v25_5 V).trans ?_
    unfold step_main_v25_5
    rw [h.fn]
    funext i
    show BitVec.ofNat 32 j + 1#32 = BitVec.ofNat 32 (j + 1)
    simp only [BitVec.ofNat_add]
  · refine (congrFun (STEP_main_v25_6 V) _).trans ((h_step V hj h.fn b g r p n).trans ?_)
    rw [hD b g r p, hX, hB b g r p, hA g r p, hH]
    rfl
  · refine (congrFun (STEP_main_v25_7 V) _).trans ((y_step V hj h.fn k b t g r p).trans ?_)
    by_cases hkj : k.val = j
    · rw [if_pos hkj, hD b g r p, hX, hB b g r p, hC b g r p, hA g r p, hH, hkj]
      rfl
    · rw [if_neg hkj]
      exact h.fy k (by omega) b t g r p

theorem holds_iter : ∀ j, j ≤ 64 → Holds m c j (STEP^[j] (entryContents preI m c))
  | 0, _ => holds_zero m c
  | j + 1, hj => by
    rw [Function.iterate_succ_apply']
    exact holds_succ m c (by omega) (holds_iter j (by omega))

theorem ix6_ext {n0 n1 n2 n3 n4 n5 : Nat} {a a' : Fin n0} {b b' : Fin n1} {c c' : Fin n2} {d d' : Fin n3} {e e' : Fin n4} {f f' : Fin n5}
    (ha : a.val = a'.val) (hb : b.val = b'.val) (hc : c.val = c'.val) (hd : d.val = d'.val) (he : e.val = e'.val) (hf : f.val = f'.val) :
    ix6 a b c d e f = ix6 a' b' c' d' e' f' := by
  rw [Fin.ext ha, Fin.ext hb, Fin.ext hc, Fin.ext hd, Fin.ext he, Fin.ext hf]

theorem y_read {V : Valuation τ sig (Elt Ideal)} (h : Holds m c 64 V) (b : Fin 2) (k : Fin 64) (t : Fin 64) (x : Fin 2048)
    {i : S64x2x64x8x4x64.Idx} (hi : i = ix6 k b t (⟨x.val / 64 / 4, by omega⟩ : Fin 8) (⟨x.val / 64 % 4, by omega⟩ : Fin 4)
      (⟨x.val % 64, by omega⟩ : Fin 64)) :
    vY V i = yOf (a0 m c) (a1 m c) (a2 m c) (a3 m c) b x k.val t := by
  rw [hi, h.fy k k.isLt]
  refine congrArg (fun z => yOf (a0 m c) (a1 m c) (a2 m c) (a3 m c) b z k.val t) (Fin.ext ?_)
  show ((x.val / 64 / 4) * 4 + x.val / 64 % 4) * 64 + x.val % 64 = x.val
  omega

/-- The reference's result at a row and column. -/
theorem out_apply {V : Valuation τ sig (Elt Ideal)} (h : Holds m c 64 V) (h0 : V (Proc.devRef .tc main_arg0) = a0 m c)
    (h1 : V (Proc.devRef .tc main_arg1) = a1 m c) (h4 : V (Proc.devRef .tc main_arg4) = a4 m c)
    (h5 : V (Proc.devRef .tc main_arg5) = a5 m c) (b : Fin 2) (k : Fin 64) (t : Fin 64) (x : Fin 2048) :
    out_main_v54 V (ix2 (rowOf b k.val t) x)
      = outOf (a0 m c) (a1 m c) (a2 m c) (a3 m c) (a4 m c) (a5 m c) b x k.val t := by
  unfold out_main_v54
  pointwise
  simp only [h0, h1, h4, h5]
  have hr := rowOf_val b k t
  have hY : ∀ x : Fin 2048, V (Proc.devRef .tc main_v25_7) (ix6 (⟨(rowOf b k.val t).val / 64 % 64, by omega⟩ : Fin 64)
      (⟨(rowOf b k.val t).val / 4096, by omega⟩ : Fin 2) (⟨(rowOf b k.val t).val % 64, by omega⟩ : Fin 64) (⟨x.val / 64 / 4, by omega⟩ : Fin 8)
      (⟨x.val / 64 % 4, by omega⟩ : Fin 4) (⟨x.val % 64, by omega⟩ : Fin 64))
      = yOf (a0 m c) (a1 m c) (a2 m c) (a3 m c) b x k.val t := fun x =>
    y_read m c h b k t x (ix6_ext (by show (rowOf b k.val t).val / 64 % 64 = k.val; omega)
      (by show (rowOf b k.val t).val / 4096 = b.val; omega) (by show (rowOf b k.val t).val % 64 = t.val; omega) rfl rfl rfl)
  simp only [hY]
  rfl

end Entry

end Ref

end Cert.Proofs.Ssd

end

end
-- ==== Proof.Ssd.lean ====
module

public import proofs.«01_k».proof.Defs
public import proofs.«01_k».proof.Proof.SsdFinal
public import proofs.«01_k».proof.Proof.SsdRef
public import Idealize.ShloMosaic.Lib.Pointwise

@[expose] public section

set_option maxRecDepth 16384

noncomputable section

namespace Cert.Proofs.Ssd

open Idealize.ShloMosaic Idealize.ShloMosaic.TcCoe Idealize.SL.Sem

/-- The two runs' results are one array where the arguments are. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Ref.a0 m' c = p0 m c) (h1 : Ref.a1 m' c = p1 m c) (h2 : Ref.a2 m' c = p2 m c) (h3 : Ref.a3 m' c = p3 m c) (h4 : Ref.a4 m' c = p4 m c)
    (h5 : Ref.a5 m' c = p5 m c) :
    Cert.ReferenceIdeal.Value.out_main_v54 (Cert.ReferenceIdeal.Value.STEP^[64] (Idealize.ShloMosaic.StableHlo.entryContents Cert.ReferenceIdeal.Value.preI m' c)) = result m c := by
  funext i
  obtain ⟨r, x, rfl⟩ : ∃ (r : Fin 8192) (x : Fin 2048), i = ix2 r x := ⟨i 0, i 1, by funext a; match a with | ⟨0, _⟩ => rfl | ⟨1, _⟩ => rfl⟩
  obtain ⟨b, k, s, rfl⟩ : ∃ (b : Fin 2) (k : Fin 64) (s : Fin 64), r = rowOf b k.val s :=
    ⟨⟨r.val / 4096, by omega⟩, ⟨r.val / 64 % 64, by omega⟩, ⟨r.val % 64, by omega⟩, Fin.ext (by
      show r.val = (r.val / 4096 * 4096 + r.val / 64 % 64 * 64 + r.val % 64) % 8192
      omega)⟩
  refine (Ref.out_apply m' c (Ref.holds_iter m' c 64 le_rfl) (Cert.ReferenceIdeal.Value.iter_main_arg0 m' c 64) (Cert.ReferenceIdeal.Value.iter_main_arg1 m' c 64)
    (Cert.ReferenceIdeal.Value.iter_main_arg4 m' c 64) (Cert.ReferenceIdeal.Value.iter_main_arg5 m' c 64) b k s x).trans ?_
  rw [h0, h1, h2, h3, h4, h5]
  exact (result_at m c b k.val k.isLt s x).symm

/-- The scan: from equal arguments, the kernel and the reference end with the same gated and normed output. -/
theorem algebraic : Cert.algebraic_KernelIdeal_ReferenceIdeal := by
  intro m g m' g' _ hagree
  refine ⟨fun c => result m c, ?_, ?_⟩
  · run_from Cert.KernelIdeal.Gen.run_main m g
    · exact final
    · exact Cert.KernelIdeal.Gen.V_main_arg2 m c
    · exact Cert.KernelIdeal.Gen.V_main_arg3 m c
    · exact Cert.KernelIdeal.Gen.V_main_arg4 m c
    · exact Cert.KernelIdeal.Gen.V_main_arg5 m c
  · exact (θ_run Cert.ReferenceIdeal.defs _ _).mono
      (fun r h c => ⟨(h c).1.trans (results_agree m m' c (hagree c).1 (hagree c).2.1 (hagree c).2.2.1 (hagree c).2.2.2.1 (hagree c).2.2.2.2.1
        (hagree c).2.2.2.2.2), (h c).2⟩)
      (Cert.ReferenceIdeal.Value.run m' g')

end Cert.Proofs.Ssd

end

end
-- ==== Proof.InProj.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

@[expose] public section

set_option maxRecDepth 16384

noncomputable section

/-! The layer's input projection: the array the kernel leaves is the reference's matrix product, entry by entry. -/

namespace Cert.Proofs.InProj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The reference's result as one term of its two arguments: the hidden states times layer 0's input matrix. -/
abbrev REF (h : FVec Ideal S8192x2048 .bf16) (w : FVec Ideal S4x2048x19712 .bf16) : FVec Ideal S8192x19712 .bf16 :=
  truncf .bf16 (Host.dotGeneral Cert.Reference2Ideal.dot_S8192x2048_S2048x19712_S8192x19712_1_0_0_1_n_n none
    (extf .f32 h Cert.Reference2Ideal.Gen.bitsLt_bf16_f32)
    (extf .f32 (shapeCast Cert.Reference2Ideal.S2048x19712
      (extractStridedSlice Cert.Reference2Ideal.S1x2048x19712 ![0, 0, 0] w Cert.Reference2Ideal.Gen.slices_S4x2048x19712_S1x2048x19712_0_0_0)
      Cert.Reference2Ideal.Gen.shapeCasts_S1x2048x19712_S2048x19712) Cert.Reference2Ideal.Gen.bitsLt_bf16_f32))
    Cert.Reference2Ideal.Gen.bitsLt_bf16_f32

/-- Which block each window holds at grid point `t`: rows go with the slow axis, columns with the fast one. -/
theorem idx : ∀ t : Fin cfg0.N, win0_0.index t = ![t.val / 14, 0] ∧ win0_1.index t = ![0, 0, t.val % 14]
    ∧ win0_2.index t = ![t.val / 14, t.val % 14] :=
  (by decide +kernel : ∀ t : Fin grid0.N, _)

/-- What the body stores at place `y` of point `t` is the reference's entry at the place the block puts it. -/
theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's matrix product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proofs.InProj

end
-- ==== Proof.FfnUp.lean ====
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The gated feed-forward's first half: the array the kernel leaves is the reference's, entry by entry. -/

namespace Cert.Proofs.FfnUp

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's product of the hidden states with layer 0 of a stacked weight array. -/
abbrev proj (h : FVec Ideal S8192x2048 .bf16) (w : FVec Ideal S4x2048x5632 .f32) : FVec Ideal S8192x5632 .f32 :=
  Host.dotGeneral Cert.Reference3Ideal.dot_S8192x2048_S2048x5632_S8192x5632_1_0_0_1_n_n none
    (extf .f32 h Cert.Reference3Ideal.Gen.bitsLt_bf16_f32)
    (shapeCast Cert.Reference3Ideal.S2048x5632
      (extractStridedSlice Cert.Reference3Ideal.S1x2048x5632 ![0, 0, 0] w Cert.Reference3Ideal.Gen.slices_S4x2048x5632_S1x2048x5632_0_0_0)
      Cert.Reference3Ideal.Gen.shapeCasts_S1x2048x5632_S2048x5632)

/-- The number one at every place of the result. -/
abbrev ones : FVec Ideal S8192x5632 .f32 :=
  broadcastInDim S8192x5632 ![] Cert.Reference3Ideal.Gen.bcast_S_S8192x5632 (constant Cert.Reference3Ideal.S_ .f32 0x3F800000#32)

/-- The reference's result as one term of its arguments: silu of the gate projection times the up projection. -/
abbrev REF (h : FVec Ideal S8192x2048 .bf16) (wg wu : FVec Ideal S4x2048x5632 .f32) : FVec Ideal S8192x5632 .bf16 :=
  truncf .bf16 (mulf (mulf (proj h wg) (Host.divf ones (addf ones (Host.exp (Host.negf (proj h wg)))))) (proj h wu))
    Cert.Reference3Ideal.Gen.bitsLt_bf16_f32

/-- Which block each window holds at grid point `t`: columns go with `t / 8`, rows with `t % 8`. -/
theorem idx : ∀ t : Fin cfg0.N, win0_0.index t = ![t.val % 8, 0] ∧ win0_1.index t = ![0, 0, t.val / 8]
    ∧ win0_2.index t = ![0, 0, t.val / 8] ∧ win0_3.index t = ![t.val % 8, t.val / 8] :=
  (by decide +kernel : ∀ t : Fin grid0.N, _)

/-- The cast weight blocks kept between points are, after every point, those of that point's own weight blocks. -/
theorem kept (c : Dev nD) : ∀ (n : ℕ) (h : n < cfg0.N),
    (outsAt0 m c n h).2.1 = k0_pay1 (F := Ideal) (iblk m c 1 ⟨n, h⟩) ∧ (outsAt0 m c n h).2.2 = k0_pay2 (F := Ideal) (iblk m c 2 ⟨n, h⟩)
  | n, h => by
    by_cases h0 : n % 8 = 0
    · rw [outsAt0_A m c ⟨n, h⟩ h0]
      exact ⟨by frame_out, by frame_out⟩
    · obtain ⟨k, rfl⟩ : ∃ k, n = k + 1 := ⟨n - 1, by omega⟩
      have ih := kept c k (Nat.lt_of_succ_lt h)
      have e : (k + 1) / 8 = k / 8 := by omega
      rw [outsAt0_B m c ⟨k + 1, h⟩ h0]
      refine ⟨?_, ?_⟩
      · refine Eq.trans (b := (outsAt0 m c k (Nat.lt_of_succ_lt h)).2.1) (by rfl) (ih.1.trans ?_)
        funext j
        pointwise [k0_pay1]
        blk_point [iblk, V, idx ⟨k, Nat.lt_of_succ_lt h⟩, idx ⟨k + 1, h⟩]
      · refine Eq.trans (b := (outsAt0 m c k (Nat.lt_of_succ_lt h)).2.2) (by rfl) (ih.2.trans ?_)
        funext j
        pointwise [k0_pay2]
        blk_point [iblk, V, idx ⟨k, Nat.lt_of_succ_lt h⟩, idx ⟨k + 1, h⟩]

/-- What the body stores at place `y` of point `t` is the reference's entry at the place the block puts it. -/
theorem point (c : Dev nD) (t : Fin cfg0.N) (y) :
    k0_pay3 (F := Ideal) (iblk m c 0 t) (k0_pay1 (F := Ideal) (iblk m c 1 t)) (k0_pay2 (F := Ideal) (iblk m c 2 t)) y
    = REF (m ((c : Thread nD τ).loc main_arg0)) (m ((c : Thread nD τ).loc main_arg1)) (m ((c : Thread nD τ).loc main_arg2)) (((cfg0.win 3).blk t).view.emb y) := by
  pointwise [k0_pay1, k0_pay2, k0_pay3, REF]
  simp only [zero_sub]
  blk_point [iblk, V, idx t]

/-- The body's stored block at any point, over that point's own input blocks. -/
theorem stored (c : Dev nD) (t : Fin cfg0.N) : (outsAt0 m c t.val t.isLt).1
    = k0_pay3 (F := Ideal) (iblk m c 0 t) (k0_pay1 (F := Ideal) (iblk m c 1 t)) (k0_pay2 (F := Ideal) (iblk m c 2 t)) := by
  have hk := kept m c t.val t.isLt
  by_cases h0 : t.val % 8 = 0
  · rw [outsAt0_A m c t h0]; frame_out
  · have h1 : (outsAt0 m c t.val t.isLt).2.1 = (outsAt0 m c (t.val - 1) (Nat.lt_of_le_of_lt (Nat.sub_le _ _) t.isLt)).2.1 := by
      rw [outsAt0_B m c t h0]; rfl
    have h2 : (outsAt0 m c t.val t.isLt).2.2 = (outsAt0 m c (t.val - 1) (Nat.lt_of_le_of_lt (Nat.sub_le _ _) t.isLt)).2.2 := by
      rw [outsAt0_B m c t h0]; rfl
    rw [← hk.1, ← hk.2, h1, h2, outsAt0_B m c t h0]; frame_out; simp only [read_unread_whole]

/-- The result array after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored]
  exact point m c t y

end Cert.Proofs.FfnUp

end
-- ==== Proof.FfnDown.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The feed-forward's second half, its gate and the residual: the array the kernel leaves is the reference's, entry by entry. -/

namespace Cert.Proofs.FfnDown

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The reference's result as one term of its arguments: the residual plus the gated product with layer 0's weights. -/
abbrev REF (a : FVec Ideal S8192x5632 .bf16) (w : FVec Ideal S4x5632x2048 .f32) (x : FVec Ideal S8192x2048 .f32)
    (md : FVec Ideal S2x6x2048 .f32) : FVec Ideal S8192x2048 .f32 :=
  shapeCast Cert.Reference4Ideal.S8192x2048 (addf
    (shapeCast Cert.Reference4Ideal.S2x4096x2048 x Cert.Reference4Ideal.Gen.shapeCasts_S8192x2048_S2x4096x2048)
    (mulf (broadcastInDim Cert.Reference4Ideal.S2x4096x2048 ![0, 1, 2] Cert.Reference4Ideal.Gen.bcast_S2x1x2048_S2x4096x2048_0_1_2
        (extractStridedSlice Cert.Reference4Ideal.S2x1x2048 ![0, 5, 0] md Cert.Reference4Ideal.Gen.slices_S2x6x2048_S2x1x2048_0_5_0))
      (shapeCast Cert.Reference4Ideal.S2x4096x2048
        (Host.dotGeneral Cert.Reference4Ideal.dot_S8192x5632_S5632x2048_S8192x2048_1_0_0_1_n_n none
          (extf .f32 a Cert.Reference4Ideal.Gen.bitsLt_bf16_f32)
          (shapeCast Cert.Reference4Ideal.S5632x2048
            (extractStridedSlice Cert.Reference4Ideal.S1x5632x2048 ![0, 0, 0] w Cert.Reference4Ideal.Gen.slices_S4x5632x2048_S1x5632x2048_0_0_0)
            Cert.Reference4Ideal.Gen.shapeCasts_S1x5632x2048_S5632x2048))
        Cert.Reference4Ideal.Gen.shapeCasts_S8192x2048_S2x4096x2048)))
    Cert.Reference4Ideal.Gen.shapeCasts_S2x4096x2048_S8192x2048

/-- Which block each window holds at grid point `t`: columns go with `t / 16`, rows with `t % 16`. -/
theorem idx : ∀ t : Fin cfg0.N, win0_0.index t = ![t.val % 16, 0] ∧ win0_1.index t = ![0, 0, t.val / 16]
    ∧ win0_2.index t = ![t.val % 16, t.val / 16] ∧ win0_3.index t = ![t.val % 16 / 8, 0, t.val / 16]
    ∧ win0_4.index t = ![t.val % 16, t.val / 16] :=
  (by decide +kernel : ∀ t : Fin grid0.N, _)

/-- The cast weight block kept between points is, after every point, that of the point's own weight block. -/
theorem kept (c : Dev nD) : ∀ (n : ℕ) (h : n < cfg0.N),
    (outsAt0 m c n h).2 = k0_pay1 (F := Ideal) (iblk m c 1 ⟨n, h⟩)
  | n, h => by
    by_cases h0 : n % 16 = 0
    · rw [outsAt0_A m c ⟨n, h⟩ h0]
      frame_out
    · obtain ⟨k, rfl⟩ : ∃ k, n = k + 1 := ⟨n - 1, by omega⟩
      have ih := kept c k (Nat.lt_of_succ_lt h)
      have e : (k + 1) / 16 = k / 16 := by omega
      rw [outsAt0_B m c ⟨k + 1, h⟩ h0]
      refine Eq.trans (b := (outsAt0 m c k (Nat.lt_of_succ_lt h)).2) (by rfl) (ih.trans ?_)
      funext j
      pointwise [k0_pay1]
      blk_point [iblk, V, idx ⟨k, Nat.lt_of_succ_lt h⟩, idx ⟨k + 1, h⟩]

/-- The row of the modulation block that gates the branch: row 5. -/
def gateRow (v : Vec Ideal S1x6x512 .f32) : Vec Ideal S1x1x512 .f32 := fun j => v (ix3 0 5 (j 2))

/-- The body's load of one row of the modulation block is that row. -/
theorem gateRow_eq (v : Vec Ideal S1x6x512 .f32) :
    View.ld v (Rect.unit (s := S1x6x512) ![0, 5, 0] ![1, 1, 512] inb_S1x6x512_S1x1x512_0_5_0) = gateRow v := by
  funext j
  pointwise [gateRow]
  blk_ext

/-- The body's stored block at any point, over that point's own input blocks. -/
theorem stored (c : Dev nD) (t : Fin cfg0.N) : (outsAt0 m c t.val t.isLt).1
    = k0_pay2 (F := Ideal) (iblk m c 0 t) (k0_pay1 (F := Ideal) (iblk m c 1 t)) (iblk m c 2 t) (gateRow (iblk m c 3 t)) := by
  have hk := kept m c t.val t.isLt
  by_cases h0 : t.val % 16 = 0
  · rw [outsAt0_A m c t h0]; frame_out; rw [gateRow_eq]
  · have h1 : (outsAt0 m c t.val t.isLt).2 = (outsAt0 m c (t.val - 1) (Nat.lt_of_le_of_lt (Nat.sub_le _ _) t.isLt)).2 := by
      rw [outsAt0_B m c t h0]; rfl
    rw [← hk, h1, outsAt0_B m c t h0]; frame_out; rw [gateRow_eq]; simp only [read_unread_whole]

/-- What the body stores at place `y` of point `t` is the reference's entry at the place the block puts it. -/
theorem point (c : Dev nD) (t : Fin cfg0.N) (y) :
    k0_pay2 (F := Ideal) (iblk m c 0 t) (k0_pay1 (F := Ideal) (iblk m c 1 t)) (iblk m c 2 t) (gateRow (iblk m c 3 t)) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, gateRow, REF]
  blk_point [iblk, V, idx t]

/-- The result array after the run is the reference's. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, stored]
  exact point m c t y

end Cert.Proofs.FfnDown

end
-- ==== Proof.Merge.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The gated merge of the three branches: the array the kernel leaves is the reference's, entry by entry. -/

namespace Cert.Proofs.Merge

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The gate of branch `j` before its column is chosen: the three gates of every row, side by side. -/
abbrev gates (p : FVec Ideal S8192x19712 .bf16) (b : FVec Ideal S4x3x2048 .f32) : FVec Ideal Cert.Reference5Ideal.S8192x3x2048 .f32 :=
  Host.divf (broadcastInDim Cert.Reference5Ideal.S8192x3x2048 ![] Cert.Reference5Ideal.Gen.bcast_S_S8192x3x2048 (constant Cert.Reference5Ideal.S_ .f32 0x3F800000#32))
    (addf (broadcastInDim Cert.Reference5Ideal.S8192x3x2048 ![] Cert.Reference5Ideal.Gen.bcast_S_S8192x3x2048 (constant Cert.Reference5Ideal.S_ .f32 0x3F800000#32))
      (Host.exp (Host.negf (addf
        (shapeCast Cert.Reference5Ideal.S8192x3x2048 (extf .f32 (extractStridedSlice Cert.Reference5Ideal.S8192x6144 ![0, 2048] p Cert.Reference5Ideal.Gen.slices_S8192x19712_S8192x6144_0_2048)
          Cert.Reference5Ideal.Gen.bitsLt_bf16_f32) Cert.Reference5Ideal.Gen.shapeCasts_S8192x6144_S8192x3x2048)
        (broadcastInDim Cert.Reference5Ideal.S8192x3x2048 ![0, 1, 2] Cert.Reference5Ideal.Gen.bcast_S1x3x2048_S8192x3x2048_0_1_2
          (broadcastInDim Cert.Reference5Ideal.S1x3x2048 ![1, 2] Cert.Reference5Ideal.Gen.bcast_S3x2048_S1x3x2048_1_2
            (shapeCast Cert.Reference5Ideal.S3x2048 (extractStridedSlice Cert.Reference5Ideal.S1x3x2048 ![0, 0, 0] b Cert.Reference5Ideal.Gen.slices_S4x3x2048_S1x3x2048_0_0_0)
              Cert.Reference5Ideal.Gen.shapeCasts_S1x3x2048_S3x2048)))))))

/-- A branch of width 2048 times layer 0 of its weights. -/
abbrev wide (y : FVec Ideal S8192x2048 .bf16) (w : FVec Ideal S4x2048x2048 .f32) : FVec Ideal S8192x2048 .f32 :=
  Host.dotGeneral Cert.Reference5Ideal.dot_S8192x2048_S2048x2048_S8192x2048_1_0_0_1_n_n none (extf .f32 y Cert.Reference5Ideal.Gen.bitsLt_bf16_f32)
    (shapeCast Cert.Reference5Ideal.S2048x2048 (extractStridedSlice Cert.Reference5Ideal.S1x2048x2048 ![0, 0, 0] w Cert.Reference5Ideal.Gen.slices_S4x2048x2048_S1x2048x2048_0_0_0)
      Cert.Reference5Ideal.Gen.shapeCasts_S1x2048x2048_S2048x2048)

/-- A branch of width 1024 times layer 0 of its weights. -/
abbrev narrow (y : FVec Ideal S8192x1024 .bf16) (w : FVec Ideal S4x1024x2048 .f32) : FVec Ideal S8192x2048 .f32 :=
  Host.dotGeneral Cert.Reference5Ideal.dot_S8192x1024_S1024x2048_S8192x2048_1_0_0_1_n_n none (extf .f32 y Cert.Reference5Ideal.Gen.bitsLt_bf16_f32)
    (shapeCast Cert.Reference5Ideal.S1024x2048 (extractStridedSlice Cert.Reference5Ideal.S1x1024x2048 ![0, 0, 0] w Cert.Reference5Ideal.Gen.slices_S4x1024x2048_S1x1024x2048_0_0_0)
      Cert.Reference5Ideal.Gen.shapeCasts_S1x1024x2048_S1024x2048)

/-- The reference's result as one term of its arguments: the three branches' products, each under its gate, added up. -/
abbrev REF (a0 : FVec Ideal S8192x2048 .bf16) (a1 a2 : FVec Ideal S8192x1024 .bf16) (p : FVec Ideal S8192x19712 .bf16)
    (b : FVec Ideal S4x3x2048 .f32) (w0 : FVec Ideal S4x2048x2048 .f32) (w1 w2 : FVec Ideal S4x1024x2048 .f32) :
    FVec Ideal S8192x2048 .bf16 :=
  truncf .bf16 (addf (addf
    (mulf (shapeCast Cert.Reference5Ideal.S8192x2048 (extractStridedSlice Cert.Reference5Ideal.S8192x1x2048 ![0, 0, 0] (gates p b) Cert.Reference5Ideal.Gen.slices_S8192x3x2048_S8192x1x2048_0_0_0)
      Cert.Reference5Ideal.Gen.shapeCasts_S8192x1x2048_S8192x2048) (wide a0 w0))
    (mulf (shapeCast Cert.Reference5Ideal.S8192x2048 (extractStridedSlice Cert.Reference5Ideal.S8192x1x2048 ![0, 1, 0] (gates p b) Cert.Reference5Ideal.Gen.slices_S8192x3x2048_S8192x1x2048_0_1_0)
      Cert.Reference5Ideal.Gen.shapeCasts_S8192x1x2048_S8192x2048) (narrow a1 w1)))
    (mulf (shapeCast Cert.Reference5Ideal.S8192x2048 (extractStridedSlice Cert.Reference5Ideal.S8192x1x2048 ![0, 2, 0] (gates p b) Cert.Reference5Ideal.Gen.slices_S8192x3x2048_S8192x1x2048_0_2_0)
      Cert.Reference5Ideal.Gen.shapeCasts_S8192x1x2048_S8192x2048) (narrow a2 w2))) Cert.Reference5Ideal.Gen.bitsLt_bf16_f32

/-- Which block each window holds at grid point `t`: columns go with `t / 8`, rows with `t % 8`. -/
theorem idx : ∀ t : Fin cfg0.N, win0_0.index t = ![t.val % 8, 0] ∧ win0_1.index t = ![t.val % 8, 0] ∧ win0_2.index t = ![t.val % 8, 0]
    ∧ win0_6.index t = ![0, 0, t.val / 8] ∧ win0_7.index t = ![0, 0, t.val / 8]
    ∧ win0_8.index t = ![0, 0, t.val / 8] ∧ win0_9.index t = ![0, 0, t.val / 8] ∧ win0_10.index t = ![t.val % 8, t.val / 8]
    ∧ t.val / 8 < 4 :=
  (by decide +kernel : ∀ t : Fin grid0.N, _)

/-- Where the three gate windows stand: one block of columns each, four blocks apart. -/
theorem idxg : ∀ t : Fin cfg0.N, win0_3.index t = ![t.val % 8, 4 + t.val / 8] ∧ win0_4.index t = ![t.val % 8, 8 + t.val / 8]
    ∧ win0_5.index t = ![t.val % 8, 12 + t.val / 8] ∧ t.val / 8 < 4 :=
  (by decide +kernel : ∀ t : Fin grid0.N, _)

/-- The gate columns of a row block, read off the projections: `o` blocks of columns further to the right. -/
def gate (o : Fin 13) (c : Dev nD) (t : Fin cfg0.N) : Vec Ideal S1024x512 .bf16 := fun j =>
  (show Vec Ideal S8192x19712 .bf16 from (m ((c : Thread nD τ).loc main_arg3))) (ix2 ⟨t.val % 8 * 1024 + (j 0).val, by have h : (j 0).val < 1024 := (j 0).isLt; omega⟩
    ⟨(o.val + t.val / 8) * 512 + (j 1).val, by have h : (j 1).val < 512 := (j 1).isLt; have := (idxg t).2.2.2; omega⟩)

/-- Gate window 3 holds the gate columns 4 blocks in. -/
theorem gate3 (c : Dev nD) (t : Fin cfg0.N) : X0_3 m c t = gate m 4 c t := by
  funext j
  unfold X0_3 Pipeline.Window.fill gate
  rw [dif_pos (moved0_3 t j)]
  blk_ext [iblk, V, idxg t]

/-- Gate window 4 holds the gate columns 8 blocks in. -/
theorem gate4 (c : Dev nD) (t : Fin cfg0.N) : X0_4 m c t = gate m 8 c t := by
  funext j
  unfold X0_4 Pipeline.Window.fill gate
  rw [dif_pos (moved0_4 t j)]
  blk_ext [iblk, V, idxg t]

/-- Gate window 5 holds the gate columns 12 blocks in. -/
theorem gate5 (c : Dev nD) (t : Fin cfg0.N) : X0_5 m c t = gate m 12 c t := by
  funext j
  unfold X0_5 Pipeline.Window.fill gate
  rw [dif_pos (moved0_5 t j)]
  blk_ext [iblk, V, idxg t]

/-- Row `k` of the block of gate biases. -/
def row (k : Fin 3) (v : Vec Ideal S1x3x512 .f32) : Vec Ideal S1x1x512 .f32 := fun j => v (ix3 0 k (j 2))

/-- The body's load of row 0 of the block of gate biases. -/
theorem row0 (v : Vec Ideal S1x3x512 .f32) :
    View.ld v (Rect.unit (s := S1x3x512) ![0, 0, 0] ![1, 1, 512] inb_S1x3x512_S1x1x512_0_0_0) = row 0 v := by
  funext j
  pointwise [row]
  blk_ext

/-- The body's load of row 1 of the block of gate biases. -/
theorem row1 (v : Vec Ideal S1x3x512 .f32) :
    View.ld v (Rect.unit (s := S1x3x512) ![0, 1, 0] ![1, 1, 512] inb_S1x3x512_S1x1x512_0_1_0) = row 1 v := by
  funext j
  pointwise [row]
  blk_ext

/-- The body's load of row 2 of the block of gate biases. -/
theorem row2 (v : Vec Ideal S1x3x512 .f32) :
    View.ld v (Rect.unit (s := S1x3x512) ![0, 2, 0] ![1, 1, 512] inb_S1x3x512_S1x1x512_0_2_0) = row 2 v := by
  funext j
  pointwise [row]
  blk_ext

/-- The cast weight blocks kept between points are, after every point, those of that point's own weight blocks. -/
theorem kept (c : Dev nD) : ∀ (n : ℕ) (h : n < cfg0.N),
    (outsAt0 m c n h).2.1 = k0_pay2 (F := Ideal) (iblk m c 7 ⟨n, h⟩)
    ∧ (outsAt0 m c n h).2.2.1 = k0_pay3 (F := Ideal) (iblk m c 8 ⟨n, h⟩)
    ∧ (outsAt0 m c n h).2.2.2 = k0_pay4 (F := Ideal) (iblk m c 9 ⟨n, h⟩)
  | n, h => by
    by_cases h0 : n % 8 = 0
    · rw [outsAt0_A m c ⟨n, h⟩ h0]
      exact ⟨by frame_out, by frame_out, by frame_out⟩
    · obtain ⟨k, rfl⟩ : ∃ k, n = k + 1 := ⟨n - 1, by omega⟩
      have ih := kept c k (Nat.lt_of_succ_lt h)
      have e : (k + 1) / 8 = k / 8 := by omega
      rw [outsAt0_B m c ⟨k + 1, h⟩ h0]
      refine ⟨?_, ?_, ?_⟩
      · refine Eq.trans (b := (outsAt0 m c k (Nat.lt_of_succ_lt h)).2.1) (by rfl) (ih.1.trans ?_)
        funext j
        pointwise [k0_pay2]
        blk_point [iblk, V, idx ⟨k, Nat.lt_of_succ_lt h⟩, idx ⟨k + 1, h⟩]
      · refine Eq.trans (b := (outsAt0 m c k (Nat.lt_of_succ_lt h)).2.2.1) (by rfl) (ih.2.1.trans ?_)
        funext j
        pointwise [k0_pay3]
        blk_point [iblk, V, idx ⟨k, Nat.lt_of_succ_lt h⟩, idx ⟨k + 1, h⟩]
      · refine Eq.trans (b := (outsAt0 m c k (Nat.lt_of_succ_lt h)).2.2.2) (by rfl) (ih.2.2.trans ?_)
        funext j
        pointwise [k0_pay4]
        blk_point [iblk, V, idx ⟨k, Nat.lt_of_succ_lt h⟩, idx ⟨k + 1, h⟩]

/-- The body's stored block at any point, over that point's own input blocks. -/
theorem stored (c : Dev nD) (t : Fin cfg0.N) : (outsAt0 m c t.val t.isLt).1
    = k0_pay1 (F := Ideal) (k0_pay5 (F := Ideal) (gate m 4 c t) (row 0 (iblk m c 6 t)) (iblk m c 0 t) (k0_pay2 (F := Ideal) (iblk m c 7 t)))
      (k0_pay6 (F := Ideal) (gate m 8 c t) (row 1 (iblk m c 6 t))) (iblk m c 1 t) (k0_pay3 (F := Ideal) (iblk m c 8 t)) (gate m 12 c t) (row 2 (iblk m c 6 t))
      (iblk m c 2 t) (k0_pay4 (F := Ideal) (iblk m c 9 t)) := by
  have hk := kept m c t.val t.isLt
  by_cases h0 : t.val % 8 = 0
  · rw [outsAt0_A m c t h0]; frame_out; rw [gate3, gate4, gate5, row0, row1, row2]
  · have h1 : (outsAt0 m c t.val t.isLt).2 = (outsAt0 m c (t.val - 1) (Nat.lt_of_le_of_lt (Nat.sub_le _ _) t.isLt)).2 := by
      rw [outsAt0_B m c t h0]; rfl
    rw [← hk.1, ← hk.2.1, ← hk.2.2, h1, outsAt0_B m c t h0]; frame_out; rw [gate3, gate4, gate5, row0, row1, row2]; simp only [read_unread_whole]

/-- What the body stores at place `y` of point `t` is the reference's entry at the place the block puts it. -/
theorem point (c : Dev nD) (t : Fin cfg0.N) (y) :
    (k0_pay1 (F := Ideal) (k0_pay5 (F := Ideal) (gate m 4 c t) (row 0 (iblk m c 6 t)) (iblk m c 0 t) (k0_pay2 (F := Ideal) (iblk m c 7 t)))
      (k0_pay6 (F := Ideal) (gate m 8 c t) (row 1 (iblk m c 6 t))) (iblk m c 1 t) (k0_pay3 (F := Ideal) (iblk m c 8 t)) (gate m 12 c t) (row 2 (iblk m c 6 t))
      (iblk m c 2 t) (k0_pay4 (F := Ideal) (iblk m c 9 t))) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb y) := by
  idx_vars y
  pointwise [k0_pay1, k0_pay2, k0_pay3, k0_pay4, k0_pay5, k0_pay6, row, gate, REF]
  simp only [zero_sub]
  blk_point [iblk, V, idx t]

/-- The result array after the run is the reference's. -/
theorem final (c : Dev nD) : (dats m 0 c).arrAt 10 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10, stored]
  exact point m c t y

end Cert.Proofs.Merge

end
-- ==== Proof.OutProj.lean ====
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The feed-forward's second half, its gate and the residual: the array the kernel leaves is the reference's, entry by entry. -/

namespace Cert.Proofs.OutProj

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The reference's result as one term of its arguments: the residual plus the gated product with layer 0's weights. -/
abbrev REF (a : FVec Ideal S8192x2048 .bf16) (w : FVec Ideal S4x2048x2048 .f32) (x : FVec Ideal S8192x2048 .f32)
    (md : FVec Ideal S2x6x2048 .f32) : FVec Ideal S8192x2048 .f32 :=
  shapeCast Cert.Reference6Ideal.S8192x2048 (addf
    (shapeCast Cert.Reference6Ideal.S2x4096x2048 x Cert.Reference6Ideal.Gen.shapeCasts_S8192x2048_S2x4096x2048)
    (mulf (broadcastInDim Cert.Reference6Ideal.S2x4096x2048 ![0, 1, 2] Cert.Reference6Ideal.Gen.bcast_S2x1x2048_S2x4096x2048_0_1_2
        (extractStridedSlice Cert.Reference6Ideal.S2x1x2048 ![0, 2, 0] md Cert.Reference6Ideal.Gen.slices_S2x6x2048_S2x1x2048_0_2_0))
      (shapeCast Cert.Reference6Ideal.S2x4096x2048
        (Host.dotGeneral Cert.Reference6Ideal.dot_S8192x2048_S2048x2048_S8192x2048_1_0_0_1_n_n none
          (extf .f32 a Cert.Reference6Ideal.Gen.bitsLt_bf16_f32)
          (shapeCast Cert.Reference6Ideal.S2048x2048
            (extractStridedSlice Cert.Reference6Ideal.S1x2048x2048 ![0, 0, 0] w Cert.Reference6Ideal.Gen.slices_S4x2048x2048_S1x2048x2048_0_0_0)
            Cert.Reference6Ideal.Gen.shapeCasts_S1x2048x2048_S2048x2048))
        Cert.Reference6Ideal.Gen.shapeCasts_S8192x2048_S2x4096x2048)))
    Cert.Reference6Ideal.Gen.shapeCasts_S2x4096x2048_S8192x2048

/-- Which block each window holds at grid point `t`: columns go with `t / 8`, rows with `t % 8`. -/
theorem idx : ∀ t : Fin cfg0.N, win0_0.index t = ![t.val % 8, 0] ∧ win0_1.index t = ![0, 0, t.val / 8]
    ∧ win0_2.index t = ![t.val % 8, t.val / 8] ∧ win0_3.index t = ![t.val % 8 / 4, 0, t.val / 8]
    ∧ win0_4.index t = ![t.val % 8, t.val / 8] :=
  (by decide +kernel : ∀ t : Fin grid0.N, _)

/-- The cast weight block kept between points is, after every point, that of the point's own weight block. -/
theorem kept (c : Dev nD) : ∀ (n : ℕ) (h : n < cfg0.N),
    (outsAt0 m c n h).2 = k0_pay1 (F := Ideal) (iblk m c 1 ⟨n, h⟩)
  | n, h => by
    by_cases h0 : n % 8 = 0
    · rw [outsAt0_A m c ⟨n, h⟩ h0]
      frame_out
    · obtain ⟨k, rfl⟩ : ∃ k, n = k + 1 := ⟨n - 1, by omega⟩
      have ih := kept c k (Nat.lt_of_succ_lt h)
      have e : (k + 1) / 8 = k / 8 := by omega
      rw [outsAt0_B m c ⟨k + 1, h⟩ h0]
      refine Eq.trans (b := (outsAt0 m c k (Nat.lt_of_succ_lt h)).2) (by rfl) (ih.trans ?_)
      funext j
      pointwise [k0_pay1]
      blk_point [iblk, V, idx ⟨k, Nat.lt_of_succ_lt h⟩, idx ⟨k + 1, h⟩]

/-- The row of the modulation block that gates the branch: row 2. -/
def gateRow (v : Vec Ideal S1x6x512 .f32) : Vec Ideal S1x1x512 .f32 := fun j => v (ix3 0 2 (j 2))

/-- The body's load of one row of the modulation block is that row. -/
theorem gateRow_eq (v : Vec Ideal S1x6x512 .f32) :
    View.ld v (Rect.unit (s := S1x6x512) ![0, 2, 0] ![1, 1, 512] inb_S1x6x512_S1x1x512_0_2_0) = gateRow v := by
  funext j
  pointwise [gateRow]
  blk_ext

/-- The body's stored block at any point, over that point's own input blocks. -/
theorem stored (c : Dev nD) (t : Fin cfg0.N) : (outsAt0 m c t.val t.isLt).1
    = k0_pay2 (F := Ideal) (iblk m c 0 t) (k0_pay1 (F := Ideal) (iblk m c 1 t)) (iblk m c 2 t) (gateRow (iblk m c 3 t)) := by
  have hk := kept m c t.val t.isLt
  by_cases h0 : t.val % 8 = 0
  · rw [outsAt0_A m c t h0]; frame_out; rw [gateRow_eq]
  · have h1 : (outsAt0 m c t.val t.isLt).2 = (outsAt0 m c (t.val - 1) (Nat.lt_of_le_of_lt (Nat.sub_le _ _) t.isLt)).2 := by
      rw [outsAt0_B m c t h0]; rfl
    rw [← hk, h1, outsAt0_B m c t h0]; frame_out; rw [gateRow_eq]; simp only [read_unread_whole]

/-- What the body stores at place `y` of point `t` is the reference's entry at the place the block puts it. -/
theorem point (c : Dev nD) (t : Fin cfg0.N) (y) :
    k0_pay2 (F := Ideal) (iblk m c 0 t) (k0_pay1 (F := Ideal) (iblk m c 1 t)) (iblk m c 2 t) (gateRow (iblk m c 3 t)) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, gateRow, REF]
  blk_point [iblk, V, idx t]

/-- The result array after the run is the reference's. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, stored]
  exact point m c t y

end Cert.Proofs.OutProj

end
-- ==== Proof.FinalNorm.lean ====
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The last norm: the array the kernel leaves is the reference's, entry by entry. -/

namespace Cert.Proofs.FinalNorm

open Idealize.ShloMosaic Idealize.ShloMosaic.TcCoe Idealize.SL.Sem
open Idealize.ShloMosaic.Pipeline (Dat)

section

open Cert.Reference7Ideal Cert.Reference7Ideal.Gen

/-- The reference's result as one term of its arguments. -/
abbrev REF (a0 : FVec Ideal S8192x2048 .f32) (a1 : FVec Ideal S2048 .f32) : FVec Ideal S8192x2048 .f32 :=
  mulf (mulf (a0) (broadcastInDim S8192x2048 ![0, 1] bcast_S8192x1_S8192x2048_0_1 (Host.rsqrt (addf (Host.divf (broadcastInDim S8192x1 ![0] bcast_S8192_S8192x1_0 (Host.reduceAdd (mulf (a0) (a0)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (a1)))

end

open Cert.Kernel7Ideal Cert.Kernel7Ideal.Gen

variable (m : (ℓ : Loc nD τ sig) → Buf (Elt Ideal) ℓ)

/-- Which block each window holds at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The row of the whole array that row `r` of point `t`'s block is. -/
def row (t : Fin cfg0.N) (r : Fin 512) : Fin 8192 := ⟨t.val * 512 + r.val, by have := t.isLt; simp only [show cfg0.N = 16 from N_0] at this; omega⟩

/-- A member of a row normed by the row's mean square. -/
def normed (x : Fin 2048 → EReal) (g : EReal) (j : Fin 2048) : EReal :=
  x j * Ideal.rsqrt (Ideal.div (∑ i, x i * x i) (Ideal.ofBits FTy.f32 1157627904#32) + Ideal.ofBits FTy.f32 897988541#32) * g

/-- The scale array the call reads, entry by entry. -/
theorem scale (c : Dev nD) (j : Fin 2048) :
    (V m c main_v0 : Vec Ideal S1x2048 .f32) (ix2 0 j) = (m ((c : Thread nD τ).loc main_arg1) : FVec Ideal S2048 .f32) (ix1 j) := by
  unfold V
  after_results
  pointwise

theorem xblk (c : Dev nD) (t : Fin cfg0.N) (r : Fin 512) (j : Fin 2048) :
    iblk m c 0 t (ix2 r j) = (m ((c : Thread nD τ).loc main_arg0) : FVec Ideal S8192x2048 .f32) (ix2 (row t r) j) := by
  blk_ext [iblk, V, idx t, row]

theorem gblk (c : Dev nD) (t : Fin cfg0.N) (j : Fin 2048) :
    iblk m c 1 t (ix2 0 j) = (m ((c : Thread nD τ).loc main_arg1) : FVec Ideal S2048 .f32) (ix1 j) := by
  refine Eq.trans ?_ (scale m c j)
  blk_ext [iblk, idx t]

theorem pay_apply (X : Vec Ideal S512x2048 .f32) (G : Vec Ideal S1x2048 .f32) (r : Fin 512) (j : Fin 2048) :
    k0_pay1 (F := Ideal) X G (ix2 r j) = normed (fun i => X (ix2 r i)) (G (ix2 0 j)) j := by
  pointwise [k0_pay1, normed]

theorem ref_apply (a0 : FVec Ideal S8192x2048 .f32) (a1 : FVec Ideal S2048 .f32) (r : Fin 8192) (j : Fin 2048) :
    REF a0 a1 (ix2 r j) = normed (fun i => a0 (ix2 r i)) (a1 (ix1 j)) j := by
  pointwise [REF, normed]

/-- Where a point's block of results lies. -/
theorem place (G : FVec Ideal S8192x2048 .f32) (t : Fin cfg0.N) (r : Fin 512) (j : Fin 2048) :
    G (((cfg0.win 2).blk t).view.emb (ix2 r j)) = G (ix2 (row t r) j) := by
  blk_ext [idx t, row]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  obtain ⟨r, j, rfl⟩ : ∃ (r : Fin 512) (j : Fin 2048), y = ix2 r j := ⟨y 0, y 1, by funext a; match a with | ⟨0, _⟩ => rfl | ⟨1, _⟩ => rfl⟩
  refine Eq.trans ?_ (place _ t r j).symm
  refine (pay_apply _ _ r j).trans (Eq.trans ?_ (ref_apply _ _ _ j).symm)
  simp only [xblk, gblk]

end Cert.Proofs.FinalNorm

end
-- ==== Proof.MixNorm.lean ====
module

public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The norm before the mixer: the array the kernel leaves is the reference's, entry by entry. -/

namespace Cert.Proofs.MixNorm

open Idealize.ShloMosaic Idealize.ShloMosaic.TcCoe Idealize.SL.Sem
open Idealize.ShloMosaic.Pipeline (Dat)

section

open Cert.Reference8Ideal Cert.Reference8Ideal.Gen

/-- The reference's result as one term of its arguments. -/
abbrev REF (a0 : FVec Ideal S8192x2048 .f32) (a1 : FVec Ideal S2048 .f32) (a2 : FVec Ideal S2x6x2048 .f32) : FVec Ideal S8192x2048 .bf16 :=
  truncf .bf16 (shapeCast _ (addf (mulf (shapeCast _ (mulf (mulf (a0) (broadcastInDim S8192x2048 ![0, 1] bcast_S8192x1_S8192x2048_0_1 (Host.rsqrt (addf (Host.divf (broadcastInDim S8192x1 ![0] bcast_S8192_S8192x1_0 (Host.reduceAdd (mulf (a0) (a0)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (a1)))) shapeCasts_S8192x2048_S2x4096x2048) (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 1, 0] (a2) slices_S2x6x2048_S2x1x2048_0_1_0)))) (broadcastInDim S2x4096x2048 ![0, 1, 2] bcast_S2x1x2048_S2x4096x2048_0_1_2 (extractStridedSlice S2x1x2048 ![0, 0, 0] (a2) slices_S2x6x2048_S2x1x2048_0_0_0))) shapeCasts_S2x4096x2048_S8192x2048) bitsLt_bf16_f32

end

open Cert.Kernel8Ideal Cert.Kernel8Ideal.Gen

variable (m : (ℓ : Loc nD τ sig) → Buf (Elt Ideal) ℓ)

/-- Which block each window holds at grid point `t`. -/
theorem idx : ∀ t : Fin cfg0.N, win0_0.index t = ![t.val, 0] ∧ win0_1.index t = ![0, 0] ∧ win0_2.index t = ![t.val / 8, 0, 0]
    ∧ win0_3.index t = ![t.val, 0] :=
  (by decide +kernel : ∀ t : Fin grid0.N, _)

/-- The row of the whole array that row `r` of point `t`'s block is. -/
def row (t : Fin cfg0.N) (r : Fin 512) : Fin 8192 := ⟨t.val * 512 + r.val, by have := t.isLt; simp only [show cfg0.N = 16 from N_0] at this; omega⟩

/-- A member of a row normed by the row's mean square. -/
def normed (x : Fin 2048 → EReal) (g : EReal) (j : Fin 2048) : EReal :=
  x j * Ideal.rsqrt (Ideal.div (∑ i, x i * x i) (Ideal.ofBits FTy.f32 1157627904#32) + Ideal.ofBits FTy.f32 897988541#32) * g

/-- The scale array the call reads, entry by entry. -/
theorem scale (c : Dev nD) (j : Fin 2048) :
    (V m c main_v0 : Vec Ideal S1x2048 .f32) (ix2 0 j) = (m ((c : Thread nD τ).loc main_arg1) : FVec Ideal S2048 .f32) (ix1 j) := by
  unfold V
  after_results
  pointwise

theorem xblk (c : Dev nD) (t : Fin cfg0.N) (r : Fin 512) (j : Fin 2048) :
    iblk m c 0 t (ix2 r j) = (m ((c : Thread nD τ).loc main_arg0) : FVec Ideal S8192x2048 .f32) (ix2 (row t r) j) := by
  blk_ext [iblk, V, idx t, row]

theorem gblk (c : Dev nD) (t : Fin cfg0.N) (j : Fin 2048) :
    iblk m c 1 t (ix2 0 j) = (m ((c : Thread nD τ).loc main_arg1) : FVec Ideal S2048 .f32) (ix1 j) := by
  refine Eq.trans ?_ (scale m c j)
  blk_ext [iblk, idx t]

/-- The modulation block at a point: the rows of the point's sequence. -/
theorem mblk (c : Dev nD) (t : Fin cfg0.N) (s : Fin 6) (j : Fin 2048) (b : Fin 2) (hb : b.val = t.val / 8) :
    iblk m c 2 t (ix3 0 s j) = (m ((c : Thread nD τ).loc main_arg2) : FVec Ideal S2x6x2048 .f32) (ix3 b s j) := by
  blk_ext [iblk, V, idx t]

/-- The body's load of one row of the modulation block is that row: the scale. -/
theorem scale_row (v : Vec Ideal S1x6x2048 .f32) (j : Fin 2048) : View.ld v r0_2 (ix3 0 0 j) = v (ix3 0 1 j) := by
  unfold r0_2
  pointwise

/-- And the shift. -/
theorem shift_row (v : Vec Ideal S1x6x2048 .f32) (j : Fin 2048) : View.ld v r0_3 (ix3 0 0 j) = v (ix3 0 0 j) := by
  unfold r0_3
  pointwise

theorem pay_apply (X : Vec Ideal S512x2048 .f32) (G : Vec Ideal S1x2048 .f32) (C H : Vec Ideal S1x1x2048 .f32) (r : Fin 512) (j : Fin 2048) :
    k0_pay1 (F := Ideal) X G C H (ix2 r j) = normed (fun i => X (ix2 r i)) (G (ix2 0 j)) j * (1 + C (ix3 0 0 j)) + H (ix3 0 0 j) := by
  pointwise [k0_pay1, normed]

theorem ref_apply (a0 : FVec Ideal S8192x2048 .f32) (a1 : FVec Ideal S2048 .f32) (a2 : FVec Ideal S2x6x2048 .f32) (r : Fin 8192) (j : Fin 2048)
    (b : Fin 2) (hb : b.val = r.val / 4096) :
    REF a0 a1 a2 (ix2 r j) = normed (fun i => a0 (ix2 r i)) (a1 (ix1 j)) j * (1 + a2 (ix3 b 1 j)) + a2 (ix3 b 0 j) := by
  have e : b = ⟨r.val / 4096, by omega⟩ := Fin.ext hb
  rw [e]
  pointwise [REF, normed]

/-- Where a point's block of results lies. -/
theorem place (G : FVec Ideal S8192x2048 .bf16) (t : Fin cfg0.N) (r : Fin 512) (j : Fin 2048) :
    G (((cfg0.win 3).blk t).view.emb (ix2 r j)) = G (ix2 (row t r) j) := by
  blk_ext [idx t, row]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨r, j, rfl⟩ : ∃ (r : Fin 512) (j : Fin 2048), y = ix2 r j := ⟨y 0, y 1, by funext a; match a with | ⟨0, _⟩ => rfl | ⟨1, _⟩ => rfl⟩
  refine Eq.trans ?_ (place _ t r j).symm
  have ht := t.isLt
  simp only [show cfg0.N = 16 from N_0] at ht
  refine (pay_apply _ _ _ _ r j).trans (Eq.trans ?_ (ref_apply _ _ _ _ j ⟨t.val / 8, by omega⟩ (by show t.val / 8 = (t.val * 512 + r.val) / 4096; omega)).symm)
  rw [scale_row, shift_row, mblk m c t _ j ⟨t.val / 8, by omega⟩ rfl, mblk m c t _ j ⟨t.val / 8, by omega⟩ rfl]
  simp only [xblk, gblk]

end Cert.Proofs.MixNorm

end
-- ==== Proof.FfnNorm.lean ====
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The norm before the feed-forward: the array the kernel leaves is the reference's, entry by entry. -/

namespace Cert.Proofs.FfnNorm

open Idealize.ShloMosaic Idealize.ShloMosaic.TcCoe Idealize.SL.Sem
open Idealize.ShloMosaic.Pipeline (Dat)

section

open Cert.Reference9Ideal Cert.Reference9Ideal.Gen

/-- The reference's result as one term of its arguments. -/
abbrev REF (a0 : FVec Ideal S8192x2048 .f32) (a1 : FVec Ideal S2048 .f32) (a2 : FVec Ideal S2x6x2048 .f32) : FVec Ideal S8192x2048 .bf16 :=
  truncf .bf16 (shapeCast _ (addf (mulf (shapeCast _ (mulf (mulf (a0) (broadcastInDim S8192x2048 ![0, 1] bcast_S8192x1_S8192x2048_0_1 (Host.rsqrt (addf (Host.divf (broadcastInDim S8192x1 ![0] bcast_S8192_S8192x1_0 (Host.reduceAdd (mulf (a0) (a0)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (a1)))) shapeCasts_S8192x2048_S2x4096x2048) (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 4, 0] (a2) slices_S2x6x2048_S2x1x2048_0_4_0)))) (broadcastInDim S2x4096x2048 ![0, 1, 2] bcast_S2x1x2048_S2x4096x2048_0_1_2 (extractStridedSlice S2x1x2048 ![0, 3, 0] (a2) slices_S2x6x2048_S2x1x2048_0_3_0))) shapeCasts_S2x4096x2048_S8192x2048) bitsLt_bf16_f32

end

open Cert.Kernel9Ideal Cert.Kernel9Ideal.Gen

variable (m : (ℓ : Loc nD τ sig) → Buf (Elt Ideal) ℓ)

/-- Which block each window holds at grid point `t`. -/
theorem idx : ∀ t : Fin cfg0.N, win0_0.index t = ![t.val, 0] ∧ win0_1.index t = ![0, 0] ∧ win0_2.index t = ![t.val / 8, 0, 0]
    ∧ win0_3.index t = ![t.val, 0] :=
  (by decide +kernel : ∀ t : Fin grid0.N, _)

/-- The row of the whole array that row `r` of point `t`'s block is. -/
def row (t : Fin cfg0.N) (r : Fin 512) : Fin 8192 := ⟨t.val * 512 + r.val, by have := t.isLt; simp only [show cfg0.N = 16 from N_0] at this; omega⟩

/-- A member of a row normed by the row's mean square. -/
def normed (x : Fin 2048 → EReal) (g : EReal) (j : Fin 2048) : EReal :=
  x j * Ideal.rsqrt (Ideal.div (∑ i, x i * x i) (Ideal.ofBits FTy.f32 1157627904#32) + Ideal.ofBits FTy.f32 897988541#32) * g

/-- The scale array the call reads, entry by entry. -/
theorem scale (c : Dev nD) (j : Fin 2048) :
    (V m c main_v0 : Vec Ideal S1x2048 .f32) (ix2 0 j) = (m ((c : Thread nD τ).loc main_arg1) : FVec Ideal S2048 .f32) (ix1 j) := by
  unfold V
  after_results
  pointwise

theorem xblk (c : Dev nD) (t : Fin cfg0.N) (r : Fin 512) (j : Fin 2048) :
    iblk m c 0 t (ix2 r j) = (m ((c : Thread nD τ).loc main_arg0) : FVec Ideal S8192x2048 .f32) (ix2 (row t r) j) := by
  blk_ext [iblk, V, idx t, row]

theorem gblk (c : Dev nD) (t : Fin cfg0.N) (j : Fin 2048) :
    iblk m c 1 t (ix2 0 j) = (m ((c : Thread nD τ).loc main_arg1) : FVec Ideal S2048 .f32) (ix1 j) := by
  refine Eq.trans ?_ (scale m c j)
  blk_ext [iblk, idx t]

/-- The modulation block at a point: the rows of the point's sequence. -/
theorem mblk (c : Dev nD) (t : Fin cfg0.N) (s : Fin 6) (j : Fin 2048) (b : Fin 2) (hb : b.val = t.val / 8) :
    iblk m c 2 t (ix3 0 s j) = (m ((c : Thread nD τ).loc main_arg2) : FVec Ideal S2x6x2048 .f32) (ix3 b s j) := by
  blk_ext [iblk, V, idx t]

/-- The body's load of one row of the modulation block is that row: the scale. -/
theorem scale_row (v : Vec Ideal S1x6x2048 .f32) (j : Fin 2048) : View.ld v r0_2 (ix3 0 0 j) = v (ix3 0 4 j) := by
  unfold r0_2
  pointwise

/-- And the shift. -/
theorem shift_row (v : Vec Ideal S1x6x2048 .f32) (j : Fin 2048) : View.ld v r0_3 (ix3 0 0 j) = v (ix3 0 3 j) := by
  unfold r0_3
  pointwise

theorem pay_apply (X : Vec Ideal S512x2048 .f32) (G : Vec Ideal S1x2048 .f32) (C H : Vec Ideal S1x1x2048 .f32) (r : Fin 512) (j : Fin 2048) :
    k0_pay1 (F := Ideal) X G C H (ix2 r j) = normed (fun i => X (ix2 r i)) (G (ix2 0 j)) j * (1 + C (ix3 0 0 j)) + H (ix3 0 0 j) := by
  pointwise [k0_pay1, normed]

theorem ref_apply (a0 : FVec Ideal S8192x2048 .f32) (a1 : FVec Ideal S2048 .f32) (a2 : FVec Ideal S2x6x2048 .f32) (r : Fin 8192) (j : Fin 2048)
    (b : Fin 2) (hb : b.val = r.val / 4096) :
    REF a0 a1 a2 (ix2 r j) = normed (fun i => a0 (ix2 r i)) (a1 (ix1 j)) j * (1 + a2 (ix3 b 4 j)) + a2 (ix3 b 3 j) := by
  have e : b = ⟨r.val / 4096, by omega⟩ := Fin.ext hb
  rw [e]
  pointwise [REF, normed]

/-- Where a point's block of results lies. -/
theorem place (G : FVec Ideal S8192x2048 .bf16) (t : Fin cfg0.N) (r : Fin 512) (j : Fin 2048) :
    G (((cfg0.win 3).blk t).view.emb (ix2 r j)) = G (ix2 (row t r) j) := by
  blk_ext [idx t, row]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨r, j, rfl⟩ : ∃ (r : Fin 512) (j : Fin 2048), y = ix2 r j := ⟨y 0, y 1, by funext a; match a with | ⟨0, _⟩ => rfl | ⟨1, _⟩ => rfl⟩
  refine Eq.trans ?_ (place _ t r j).symm
  have ht := t.isLt
  simp only [show cfg0.N = 16 from N_0] at ht
  refine (pay_apply _ _ _ _ r j).trans (Eq.trans ?_ (ref_apply _ _ _ _ j ⟨t.val / 8, by omega⟩ (by show t.val / 8 = (t.val * 512 + r.val) / 4096; omega)).symm)
  rw [scale_row, shift_row, mblk m c t _ j ⟨t.val / 8, by omega⟩ rfl, mblk m c t _ j ⟨t.val / 8, by omega⟩ rfl]
  simp only [xblk, gblk]

end Cert.Proofs.FfnNorm

end
-- ==== Proof.Act.lean ====
module

public import Idealize.ShloMosaic.Lib.Pipeline.ValueKit
public import Idealize.ShloMosaic.Lib.Pointwise
public import Idealize.ShloMosaic.Lib.Pipeline.ReadBack

@[expose] public section

set_option maxRecDepth 16384

noncomputable section

/-! The activation that the modulation and the convolution before the scan share, and the zero that pads both convolutions. -/

namespace Cert.Proofs.Act

open Idealize.ShloMosaic Idealize.ShloMosaic.TcCoe Idealize.SL.Sem

/-- A number times its logistic. -/
def act (v : EReal) : EReal := v * Ideal.div 1 (1 + Ideal.exp (-v))

/-- The padding: the integer zero as a float. -/
theorem zero_int : FloatOps.sitofp (F := Ideal) FTy.f32 0#32 = (0 : EReal) := by
  simp [FloatOps.sitofp]

end Cert.Proofs.Act

end
-- ==== Proof.AdaMod.lean ====
module

public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Pipeline.ReadBack
public import proofs.«01_k».proof.Proof.Act

@[expose] public section

set_option maxRecDepth 16384

noncomputable section

/-! The modulation: the array the kernel leaves is the reference's, entry by entry. -/

namespace Cert.Proofs.AdaMod

open Idealize.ShloMosaic Idealize.ShloMosaic.TcCoe Idealize.SL.Sem
open Idealize.ShloMosaic.Pipeline (Dat)
open Cert.Proofs.Act

section

open Cert.Reference10Ideal Cert.Reference10Ideal.Gen

/-- The reference's result as one term of its arguments. -/
abbrev REF (a0 : FVec Ideal S2x2048 .f32) (a1 : FVec Ideal S4x2048x12288 .f32) (a2 : FVec Ideal S4x12288 .f32) : FVec Ideal S4x2x12288 .f32 :=
  addf (transpose S4x2x12288 [0, 2, 1] (Host.dotGeneral dot_S4x2048x12288_S2x2048_S4x12288x2_1_1_02_0_n_n none a1 (mulf a0 (Host.divf (broadcastInDim S2x2048 ![] bcast_S_S2x2048 (constant S_ .f32 0x3F800000#32)) (addf (broadcastInDim S2x2048 ![] bcast_S_S2x2048 (constant S_ .f32 0x3F800000#32)) (Host.exp (Host.negf a0)))))) transposes_S4x12288x2_S4x2x12288_0_2_1) (broadcastInDim S4x2x12288 ![0, 1, 2] bcast_S4x1x12288_S4x2x12288_0_1_2 (broadcastInDim S4x1x12288 ![0, 2] bcast_S4x12288_S4x1x12288_0_2 a2))

end

open Cert.Kernel10Ideal Cert.Kernel10Ideal.Gen

variable (m : (ℓ : Loc nD τ sig) → Buf (Elt Ideal) ℓ)

/-- Which block each window holds at grid point `t`. -/
theorem idx : ∀ t : Fin cfg0.N, win0_0.index t = ![0, 0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

theorem lt_N (t : Fin cfg0.N) : t.val < 48 := by have := t.isLt; simpa only [show cfg0.N = 48 from N_0] using this

/-- The layer of point `t`. -/
def layer (t : Fin cfg0.N) : Fin 4 := ⟨t.val / 12, by have := lt_N t; omega⟩

/-- The column of the whole array that column `n` of point `t`'s block is. -/
def col (t : Fin cfg0.N) (n : Fin 1024) : Fin 12288 := ⟨t.val % 12 * 1024 + n.val, by have := lt_N t; omega⟩

/-- The conditioning the call reads has each number in every lane. -/
theorem lanes (c : Dev nD) (b : Fin 2) (d : Fin 2048) (l : Fin 128) :
    (V m c main_v1 : Vec Ideal S2x2048x128 .f32) (ix3 b d l) = (m ((c : Thread nD τ).loc main_arg0) : FVec Ideal S2x2048 .f32) (ix2 b d) := by
  unfold V
  after_results
  pointwise

/-- The bias the call reads, entry by entry. -/
theorem bias (c : Dev nD) (k : Fin 4) (n : Fin 12288) :
    (V m c main_v2 : Vec Ideal S4x1x12288 .f32) (ix3 k 0 n) = (m ((c : Thread nD τ).loc main_arg2) : FVec Ideal S4x12288 .f32) (ix2 k n) := by
  unfold V
  after_results
  pointwise

theorem cblk (c : Dev nD) (t : Fin cfg0.N) (b : Fin 2) (d : Fin 2048) (l : Fin 128) :
    iblk m c 0 t (ix3 b d l) = (m ((c : Thread nD τ).loc main_arg0) : FVec Ideal S2x2048 .f32) (ix2 b d) := by
  refine Eq.trans ?_ (lanes m c b d l)
  blk_ext [iblk, idx t]

theorem wblk (c : Dev nD) (t : Fin cfg0.N) (d : Fin 2048) (n : Fin 1024) :
    iblk m c 1 t (ix3 0 d n) = (m ((c : Thread nD τ).loc main_arg1) : FVec Ideal S4x2048x12288 .f32) (ix3 (layer t) d (col t n)) := by
  blk_ext [iblk, V, idx t, layer, col]

theorem bblk (c : Dev nD) (t : Fin cfg0.N) (n : Fin 1024) :
    iblk m c 2 t (ix3 0 0 n) = (m ((c : Thread nD τ).loc main_arg2) : FVec Ideal S4x12288 .f32) (ix2 (layer t) (col t n)) := by
  refine Eq.trans ?_ (bias m c _ _)
  blk_ext [iblk, idx t, layer, col]

set_option maxHeartbeats 1000000 in
/-- The first sequence's row of a block: eight stretches of 128 columns, each the sum over the conditioning. -/
theorem pay_first (W : Vec Ideal S1x2048x1024 .f32) (C : Vec Ideal S1x2048x128 .f32) (B : Vec Ideal S1x1x1024 .f32) (a : Fin 2048 → EReal)
    (hC : ∀ d l, C (ix3 0 d l) = a d) (n : Fin 1024) :
    k0_pay12 (F := Ideal) (k0_pay4 W C) (k0_pay5 W C) (k0_pay6 W C) (k0_pay7 W C) (k0_pay8 W C) (k0_pay9 W C) (k0_pay10 W C) (k0_pay11 W C) B (ix3 0 0 n)
      = ∑ d, W (ix3 0 d n) * act (a d) + B (ix3 0 0 n) := by
  pointwise [k0_pay12, k0_pay4, k0_pay5, k0_pay6, k0_pay7, k0_pay8, k0_pay9, k0_pay10, k0_pay11, k0_pay3, k0_pay2, act]
  simp only [hC, zero_sub]
  refine congrArg (· + B (ix3 0 0 n)) ?_
  split_ifs <;> exact Finset.sum_congr rfl fun d _ => congrArg (fun i => W (ix3 0 d i) * _) (Fin.ext (by first | rfl | (dsimp only; omega)))

set_option maxHeartbeats 1000000 in
/-- The second sequence's row of a block. -/
theorem pay_second (W : Vec Ideal S1x2048x1024 .f32) (C : Vec Ideal S1x2048x128 .f32) (B : Vec Ideal S1x1x1024 .f32) (a : Fin 2048 → EReal)
    (hC : ∀ d l, C (ix3 0 d l) = a d) (n : Fin 1024) :
    k0_pay1 (F := Ideal) (k0_pay2 W) (k0_pay13 C) (k0_pay14 (k0_pay2 W) C) (k0_pay15 (k0_pay2 W) C) (k0_pay16 (k0_pay2 W) C) (k0_pay17 (k0_pay2 W) C)
        (k0_pay18 (k0_pay2 W) C) (k0_pay19 (k0_pay2 W) C) B (ix3 0 0 n)
      = ∑ d, W (ix3 0 d n) * act (a d) + B (ix3 0 0 n) := by
  pointwise [k0_pay1, k0_pay13, k0_pay14, k0_pay15, k0_pay16, k0_pay17, k0_pay18, k0_pay19, k0_pay2, act]
  simp only [hC, zero_sub]
  refine congrArg (· + B (ix3 0 0 n)) ?_
  split_ifs <;> exact Finset.sum_congr rfl fun d _ => congrArg (fun i => W (ix3 0 d i) * _) (Fin.ext (by first | rfl | (dsimp only; omega)))

/-- The body's load of the first sequence's conditioning. -/
theorem first_row (v : Vec Ideal S2x2048x128 .f32) (d : Fin 2048) (l : Fin 128) : View.ld v r0_1 (ix3 0 d l) = v (ix3 0 d l) := by
  unfold r0_1
  pointwise

/-- And of the second's. -/
theorem second_row (v : Vec Ideal S2x2048x128 .f32) (d : Fin 2048) (l : Fin 128) : View.ld v r0_4 (ix3 0 d l) = v (ix3 1 d l) := by
  unfold r0_4
  pointwise

/-- What a point leaves in its block of results. -/
theorem out_apply (X : Vec Ideal S2x2048x128 .f32) (W : Vec Ideal S1x2048x1024 .f32) (B : Vec Ideal S1x1x1024 .f32) (a : Fin 2 → Fin 2048 → EReal)
    (hX : ∀ b d l, X (ix3 b d l) = a b d) (b : Fin 2) (n : Fin 1024) :
    out0_3 X W B (ix3 0 b n) = ∑ d, W (ix3 0 d n) * act (a b d) + B (ix3 0 0 n) := by
  have hW : View.ld W r0_0 = W := by frame_out
  have hB : View.ld B r0_2 = B := by frame_out
  unfold out0_3 k0_pay20
  rw [hW, hB]
  match b with
  | ⟨0, _⟩ =>
    refine (View.canon_cons_of_not_mem _ _ ?_).trans ?_
    · exact Rect.not_mem_set_of_axis r0_5 _ 1 1 1 rfl rfl rfl (Or.inl Nat.zero_lt_one)
    have e : (ix3 0 ⟨0, by decide⟩ n : S1x2x1024.Idx) = r0_3.emb (ix3 0 0 n : S1x1x1024.Idx) := by
      funext k
      match k with
      | ⟨0, _⟩ => rfl
      | ⟨1, _⟩ => rfl
      | ⟨2, _⟩ => exact Fin.ext (by show n.val = 0 + 1 * n.val; omega)
    rw [e]
    exact (View.canon_cons_emb r0_3 _ _ (ix3 0 0 n)).trans (pay_first W _ B (a 0) (fun d l => (first_row X d l).trans (hX 0 d l)) n)
  | ⟨1, _⟩ =>
    have e : (ix3 0 ⟨1, by decide⟩ n : S1x2x1024.Idx) = r0_5.emb (ix3 0 0 n : S1x1x1024.Idx) := by
      funext k
      match k with
      | ⟨0, _⟩ => rfl
      | ⟨1, _⟩ => rfl
      | ⟨2, _⟩ => exact Fin.ext (by show n.val = 0 + 1 * n.val; omega)
    rw [e]
    exact (View.canon_cons_emb r0_5 _ _ (ix3 0 0 n)).trans (pay_second W _ B (a 1) (fun d l => (second_row X d l).trans (hX 1 d l)) n)

theorem ref_apply (a0 : FVec Ideal S2x2048 .f32) (a1 : FVec Ideal S4x2048x12288 .f32) (a2 : FVec Ideal S4x12288 .f32) (k : Fin 4) (b : Fin 2) (n : Fin 12288) :
    REF a0 a1 a2 (ix3 k b n) = ∑ d, a1 (ix3 k d n) * act (a0 (ix2 b d)) + a2 (ix2 k n) := by
  pointwise [REF, act]

/-- Where a point's block of results lies. -/
theorem place (G : FVec Ideal S4x2x12288 .f32) (t : Fin cfg0.N) (b : Fin 2) (n : Fin 1024) :
    G (((cfg0.win 3).blk t).view.emb (ix3 0 b n)) = G (ix3 (layer t) b (col t n)) := by
  blk_ext [idx t, layer, col]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨b, n, rfl⟩ : ∃ (b : Fin 2) (n : Fin 1024), y = ix3 0 b n :=
    ⟨y 1, y 2, by funext a; match a with | ⟨0, _⟩ => exact Subsingleton.elim (α := Fin 1) _ _ | ⟨1, _⟩ => rfl | ⟨2, _⟩ => rfl⟩
  refine Eq.trans ?_ (place _ t b n).symm
  refine (out_apply _ _ _ _ (cblk m c t) b n).trans (Eq.trans ?_ (ref_apply _ _ _ _ b _).symm)
  simp only [wblk, bblk]

end Cert.Proofs.AdaMod

end
-- ==== Proof.ShortConv.lean ====
module

public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Pipeline.ReadBack
public import proofs.«01_k».proof.Proof.Act

@[expose] public section

set_option maxRecDepth 16384

noncomputable section

/-! The short convolution: the array the kernel leaves is the reference's, entry by entry. -/

namespace Cert.Proofs.ShortConv

open Idealize.ShloMosaic Idealize.ShloMosaic.TcCoe Idealize.SL.Sem
open Idealize.ShloMosaic.Pipeline (Dat)
open Cert.Proofs.Act

section

open Cert.Reference11Ideal Cert.Reference11Ideal.Gen

/-- The reference's result as one term of its arguments. -/
abbrev REF (a0 : FVec Ideal S8192x19712 .bf16) (a1 : FVec Ideal S3x1024 .f32) : FVec Ideal S8192x1024 .bf16 :=
  truncf .bf16 (mulf (extf .f32 (extractStridedSlice S8192x1024 ![0, 12288] a0 slices_S8192x19712_S8192x1024_0_12288) bitsLt_bf16_f32) (shapeCast _ (addf (addf (mulf (broadcastInDim S2x4096x1024 ![0, 1, 2] bcast_S1x1x1024_S2x4096x1024_0_1_2 (broadcastInDim S1x1x1024 ![2] bcast_S1024_S1x1x1024_2 (shapeCast _ (extractStridedSlice S1x1024 ![0, 0] a1 slices_S3x1024_S1x1024_0_0) shapeCasts_S1x1024_S1024))) (extractStridedSlice S2x4096x1024 ![0, 0, 0] (pad S2x4098x1024 ![0, 2, 0] ![0, 0, 0] ![0, 0, 0] (shapeCast _ (mulf (extf .f32 (extractStridedSlice S8192x1024 ![0, 13312] a0 slices_S8192x19712_S8192x1024_0_13312) bitsLt_bf16_f32) (extf .f32 (extractStridedSlice S8192x1024 ![0, 14336] a0 slices_S8192x19712_S8192x1024_0_14336) bitsLt_bf16_f32)) shapeCasts_S8192x1024_S2x4096x1024) (sitofp .f32 (constantI S_ 32 0#32)) pads_S2x4096x1024_S2x4098x1024_000_200_000 h_S_) slices_S2x4098x1024_S2x4096x1024_0_0_0)) (mulf (broadcastInDim S2x4096x1024 ![0, 1, 2] bcast_S1x1x1024_S2x4096x1024_0_1_2 (broadcastInDim S1x1x1024 ![2] bcast_S1024_S1x1x1024_2 (shapeCast _ (extractStridedSlice S1x1024 ![1, 0] a1 slices_S3x1024_S1x1024_1_0) shapeCasts_S1x1024_S1024))) (extractStridedSlice S2x4096x1024 ![0, 1, 0] (pad S2x4098x1024 ![0, 2, 0] ![0, 0, 0] ![0, 0, 0] (shapeCast _ (mulf (extf .f32 (extractStridedSlice S8192x1024 ![0, 13312] a0 slices_S8192x19712_S8192x1024_0_13312) bitsLt_bf16_f32) (extf .f32 (extractStridedSlice S8192x1024 ![0, 14336] a0 slices_S8192x19712_S8192x1024_0_14336) bitsLt_bf16_f32)) shapeCasts_S8192x1024_S2x4096x1024) (sitofp .f32 (constantI S_ 32 0#32)) pads_S2x4096x1024_S2x4098x1024_000_200_000 h_S_) slices_S2x4098x1024_S2x4096x1024_0_1_0))) (mulf (broadcastInDim S2x4096x1024 ![0, 1, 2] bcast_S1x1x1024_S2x4096x1024_0_1_2 (broadcastInDim S1x1x1024 ![2] bcast_S1024_S1x1x1024_2 (shapeCast _ (extractStridedSlice S1x1024 ![2, 0] a1 slices_S3x1024_S1x1024_2_0) shapeCasts_S1x1024_S1024))) (extractStridedSlice S2x4096x1024 ![0, 2, 0] (pad S2x4098x1024 ![0, 2, 0] ![0, 0, 0] ![0, 0, 0] (shapeCast _ (mulf (extf .f32 (extractStridedSlice S8192x1024 ![0, 13312] a0 slices_S8192x19712_S8192x1024_0_13312) bitsLt_bf16_f32) (extf .f32 (extractStridedSlice S8192x1024 ![0, 14336] a0 slices_S8192x19712_S8192x1024_0_14336) bitsLt_bf16_f32)) shapeCasts_S8192x1024_S2x4096x1024) (sitofp .f32 (constantI S_ 32 0#32)) pads_S2x4096x1024_S2x4098x1024_000_200_000 h_S_) slices_S2x4098x1024_S2x4096x1024_0_2_0))) shapeCasts_S2x4096x1024_S8192x1024)) bitsLt_bf16_f32

end

open Cert.Kernel11Ideal Cert.Kernel11Ideal.Gen

variable (m : (ℓ : Loc nD τ sig) → Buf (Elt Ideal) ℓ)

theorem lt_N (t : Fin cfg0.N) : t.val < 16 := by have := t.isLt; simpa only [show cfg0.N = 16 from N_0] using this

/-- Which block each window holds at grid point `t`. -/
theorem idx : ∀ t : Fin cfg0.N, win0_0.index t = ![t.val, 12] ∧ win0_1.index t = ![t.val, 13] ∧ win0_2.index t = ![t.val, 14]
    ∧ win0_3.index t = ![t.val * 32 - 1, 13] ∧ win0_4.index t = ![t.val * 32 - 1, 14] ∧ win0_5.index t = ![0, 0] ∧ win0_6.index t = ![t.val, 0] :=
  (by decide +kernel : ∀ t : Fin grid0.N, _)

/-- The point's place in its sequence. -/
theorem place_in : ∀ t : Fin cfg0.N, ((grid0.coords t) 1).val = t.val % 8 :=
  (by decide +kernel : ∀ t : Fin grid0.N, _)

/-- The row of the whole array that row `r` of point `t`'s block is. -/
def row (t : Fin cfg0.N) (r : Fin 512) : Fin 8192 := ⟨t.val * 512 + r.val, by have := lt_N t; omega⟩

/-- The product of the two columns that the convolution runs over, `k` rows before row `r` of its sequence: zero before its start. -/
def tap (a : FVec Ideal S8192x19712 .bf16) (k : ℕ) (r : Fin 8192) (n : Fin 1024) : EReal :=
  if r.val % 4096 < k then 0
  else a (ix2 ⟨r.val - k, by omega⟩ ⟨13312 + n.val, by omega⟩) * a (ix2 ⟨r.val - k, by omega⟩ ⟨14336 + n.val, by omega⟩)

theorem tap_of (a : FVec Ideal S8192x19712 .bf16) (k : ℕ) (r q : Fin 8192) (n : Fin 1024) (h : ¬ r.val % 4096 < k) (hq : q.val = r.val - k) :
    tap a k r n = a (ix2 q ⟨13312 + n.val, by omega⟩) * a (ix2 q ⟨14336 + n.val, by omega⟩) := by
  have e : q = ⟨r.val - k, by omega⟩ := Fin.ext hq
  rw [e]
  exact if_neg h

theorem tap_zero (a : FVec Ideal S8192x19712 .bf16) (k : ℕ) (r : Fin 8192) (n : Fin 1024) (h : r.val % 4096 < k) : tap a k r n = 0 := if_pos h

theorem ref_apply (a0 : FVec Ideal S8192x19712 .bf16) (a1 : FVec Ideal S3x1024 .f32) (r : Fin 8192) (n : Fin 1024) :
    REF a0 a1 (ix2 r n) = a0 (ix2 r ⟨12288 + n.val, by omega⟩)
      * (a1 (ix2 0 n) * tap a0 2 r n + a1 (ix2 1 n) * tap a0 1 r n + a1 (ix2 2 n) * tap a0 0 r n) := by
  pointwise [REF]
  refine congrArg (_ * ·) (congr (congrArg HAdd.hAdd (congr (congrArg HAdd.hAdd (congrArg (_ * ·) ?_)) (congrArg (_ * ·) ?_))) (congrArg (_ * ·) ?_))
  · split_ifs with h
    · exact (tap_of a0 2 r _ n (by omega) (by dsimp only; omega)).symm
    · exact zero_int.trans (tap_zero a0 2 r n (by omega)).symm
  · split_ifs with h
    · exact (tap_of a0 1 r _ n (by omega) (by dsimp only; omega)).symm
    · exact zero_int.trans (tap_zero a0 1 r n (by omega)).symm
  · split_ifs with h
    · exact (tap_of a0 0 r _ n (by omega) rfl).symm
    · omega

/-- The windows on the projections: the factor outside, -/
theorem blk0 (c : Dev nD) (t : Fin cfg0.N) (r : Fin 512) (n : Fin 1024) :
    X0_0 m c t (ix2 r n) = (m ((c : Thread nD τ).loc main_arg0) : FVec Ideal S8192x19712 .bf16) (ix2 (row t r) ⟨12288 + n.val, by omega⟩) := by
  unfold X0_0 Pipeline.Window.fill
  rw [dif_pos (moved0_0 t _)]
  blk_ext [iblk, V, idx t, row]

/-- the two columns inside, -/
theorem blk1 (c : Dev nD) (t : Fin cfg0.N) (r : Fin 512) (n : Fin 1024) :
    X0_1 m c t (ix2 r n) = (m ((c : Thread nD τ).loc main_arg0) : FVec Ideal S8192x19712 .bf16) (ix2 (row t r) ⟨13312 + n.val, by omega⟩) := by
  unfold X0_1 Pipeline.Window.fill
  rw [dif_pos (moved0_1 t _)]
  blk_ext [iblk, V, idx t, row]

theorem blk2 (c : Dev nD) (t : Fin cfg0.N) (r : Fin 512) (n : Fin 1024) :
    X0_2 m c t (ix2 r n) = (m ((c : Thread nD τ).loc main_arg0) : FVec Ideal S8192x19712 .bf16) (ix2 (row t r) ⟨14336 + n.val, by omega⟩) := by
  unfold X0_2 Pipeline.Window.fill
  rw [dif_pos (moved0_2 t _)]
  blk_ext [iblk, V, idx t, row]

/-- and the sixteen rows of each before the block, where the block has some before it in its sequence. -/
theorem blk3 (c : Dev nD) (t : Fin cfg0.N) (r : Fin 16) (n : Fin 1024) (q : Fin 8192) (ht : t.val ≠ 0) (hq : q.val + 16 = t.val * 512 + r.val) :
    X0_3 m c t (ix2 r n) = (m ((c : Thread nD τ).loc main_arg0) : FVec Ideal S8192x19712 .bf16) (ix2 q ⟨13312 + n.val, by omega⟩) := by
  have e : q = ⟨(t.val * 32 - 1) * 16 + r.val, by have := lt_N t; omega⟩ := Fin.ext (by dsimp only; omega)
  rw [e]
  unfold X0_3 Pipeline.Window.fill
  rw [dif_pos (moved0_3 t _)]
  blk_ext [iblk, V, idx t]

theorem blk4 (c : Dev nD) (t : Fin cfg0.N) (r : Fin 16) (n : Fin 1024) (q : Fin 8192) (ht : t.val ≠ 0) (hq : q.val + 16 = t.val * 512 + r.val) :
    X0_4 m c t (ix2 r n) = (m ((c : Thread nD τ).loc main_arg0) : FVec Ideal S8192x19712 .bf16) (ix2 q ⟨14336 + n.val, by omega⟩) := by
  have e : q = ⟨(t.val * 32 - 1) * 16 + r.val, by have := lt_N t; omega⟩ := Fin.ext (by dsimp only; omega)
  rw [e]
  unfold X0_4 Pipeline.Window.fill
  rw [dif_pos (moved0_4 t _)]
  blk_ext [iblk, V, idx t]

/-- The weights' window holds the weights. -/
theorem wblk (c : Dev nD) (t : Fin cfg0.N) (k : Fin 3) (n : Fin 1024) :
    iblk m c 5 t (ix2 k n) = (m ((c : Thread nD τ).loc main_arg1) : FVec Ideal S3x1024 .f32) (ix2 k n) := by
  blk_ext [iblk, V, idx t]

/-- The kept rows below the first sixteen: the block's own products. -/
theorem body_apply (A B : Vec Ideal S512x1024 .bf16) (r : Fin 512) (n : Fin 1024) : k0_pay3 (F := Ideal) A B (ix2 r n) = A (ix2 r n) * B (ix2 r n) := by
  pointwise [k0_pay3]

/-- The first sixteen: zero at a sequence's start, else the products before the block. -/
theorem halo_apply (t : Fin cfg0.N) (A B : Vec Ideal S16x1024 .bf16) (r : Fin 16) (n : Fin 1024) :
    k0_pay2 (F := Ideal) (grid0.coords t) A B (ix2 r n) = if t.val % 8 = 0 then 0 else A (ix2 r n) * B (ix2 r n) := by
  rw [← place_in t]
  generalize (grid0.coords t) = i
  pointwise [k0_pay2]
  generalize i 1 = k
  match k with
  | ⟨0, _⟩ | ⟨1, _⟩ | ⟨2, _⟩ | ⟨3, _⟩ | ⟨4, _⟩ | ⟨5, _⟩ | ⟨6, _⟩ | ⟨7, _⟩ => rfl

theorem pay_apply (W : Vec Ideal S3x1024 .f32) (s0 s1 s2 : Vec Ideal S512x1024 .f32) (B : Vec Ideal S512x1024 .bf16) (r : Fin 512) (n : Fin 1024) :
    k0_pay1 (F := Ideal) (k0_pay4 (View.ld W (Rect.unit ![0, 0] ![1, 1024] inb_S3x1024_S1x1024_0_0)) s0 (View.ld W (Rect.unit ![1, 0] ![1, 1024] inb_S3x1024_S1x1024_1_0)) s1)
      (View.ld W (Rect.unit ![2, 0] ![1, 1024] inb_S3x1024_S1x1024_2_0)) s2 B (ix2 r n)
    = B (ix2 r n) * (W (ix2 0 n) * s0 (ix2 r n) + W (ix2 1 n) * s1 (ix2 r n) + W (ix2 2 n) * s2 (ix2 r n)) := by
  pointwise [k0_pay1, k0_pay4]

/-- The kept rows as the proof states them: row `ρ` holds the product sixteen rows up from the block's row `ρ`, zero before the
    sequence's start. -/
def kept (a : FVec Ideal S8192x19712 .bf16) (t : Fin cfg0.N) : Vec Ideal S528x1024 .f32 := fun y =>
  if (y 0).val < 16 ∧ t.val % 8 = 0 then 0
  else a (ix2 ⟨t.val * 512 + (y 0).val - 16, by have := lt_N t; have : (y 0).val < 528 := (y 0).isLt; omega⟩ ⟨13312 + (y 1).val, by have : (y 1).val < 1024 := (y 1).isLt; omega⟩)
    * a (ix2 ⟨t.val * 512 + (y 0).val - 16, by have := lt_N t; have : (y 0).val < 528 := (y 0).isLt; omega⟩ ⟨14336 + (y 1).val, by have : (y 1).val < 1024 := (y 1).isLt; omega⟩)

/-- A kept row at `16 - k` past the block's row is the reference's row `k` before it. -/
theorem kept_tap (a : FVec Ideal S8192x19712 .bf16) (t : Fin cfg0.N) (k : ℕ) (hk : k ≤ 16) (r : Fin 512) (n : Fin 1024) (ρ : Fin 528) (hρ : ρ.val + k = r.val + 16) :
    kept a t (ix2 ρ n) = tap a k (row t r) n := by
  have ht := lt_N t
  have hr : (row t r).val = t.val * 512 + r.val := rfl
  by_cases h : ρ.val < 16 ∧ t.val % 8 = 0
  · exact (if_pos h).trans (tap_zero a k (row t r) n (by omega)).symm
  · exact (if_neg h).trans (tap_of a k (row t r) ⟨t.val * 512 + ρ.val - 16, by omega⟩ n (by omega) (by show t.val * 512 + ρ.val - 16 = _; omega)).symm

/-- The stores of the kept rows leave them so: -/
theorem kept_body (c : Dev nD) (t : Fin cfg0.N) (x : S512x1024.Idx) :
    k0_pay3 (F := Ideal) (X0_1 m c t) (X0_2 m c t) x = kept (m ((c : Thread nD τ).loc main_arg0)) t ((Rect.unit (s := S528x1024) ![16, 0] ![512, 1024] inb_S528x1024_S512x1024_16_0).emb x) := by
  obtain ⟨r, n, rfl⟩ : ∃ (r : Fin 512) (n : Fin 1024), x = ix2 r n := ⟨x 0, x 1, by funext a; match a with | ⟨0, _⟩ => rfl | ⟨1, _⟩ => rfl⟩
  have e : (Rect.unit (s := S528x1024) ![16, 0] ![512, 1024] inb_S528x1024_S512x1024_16_0).emb (ix2 r n) = (ix2 ⟨r.val + 16, by omega⟩ n : S528x1024.Idx) := by
    funext a
    match a with
    | ⟨0, _⟩ => exact Fin.ext (by show 16 + 1 * r.val = r.val + 16; omega)
    | ⟨1, _⟩ => exact Fin.ext (by show 0 + 1 * n.val = n.val; omega)
  rw [e]
  refine (body_apply _ _ r n).trans (Eq.trans ?_ (kept_tap _ t 0 (by omega) r n _ rfl).symm)
  rw [blk1, blk2]
  exact (tap_of _ 0 (row t r) _ n (by omega) rfl).symm

theorem kept_halo (c : Dev nD) (t : Fin cfg0.N) (x : S16x1024.Idx) :
    k0_pay2 (F := Ideal) (grid0.coords t) (X0_3 m c t) (X0_4 m c t) x
      = kept (m ((c : Thread nD τ).loc main_arg0)) t ((Rect.unit (s := S528x1024) ![0, 0] ![16, 1024] inb_S528x1024_S16x1024_0_0).emb x) := by
  obtain ⟨r, n, rfl⟩ : ∃ (r : Fin 16) (n : Fin 1024), x = ix2 r n := ⟨x 0, x 1, by funext a; match a with | ⟨0, _⟩ => rfl | ⟨1, _⟩ => rfl⟩
  have e : (Rect.unit (s := S528x1024) ![0, 0] ![16, 1024] inb_S528x1024_S16x1024_0_0).emb (ix2 r n) = (ix2 ⟨r.val, by omega⟩ n : S528x1024.Idx) := by
    funext a
    match a with
    | ⟨0, _⟩ => exact Fin.ext (by show 0 + 1 * r.val = r.val; omega)
    | ⟨1, _⟩ => exact Fin.ext (by show 0 + 1 * n.val = n.val; omega)
  rw [e]
  refine (halo_apply t _ _ r n).trans ?_
  have ht := lt_N t
  by_cases h : t.val % 8 = 0
  · exact (if_pos h).trans (if_pos ⟨r.isLt, h⟩).symm
  · refine (if_neg h).trans (Eq.trans ?_ (if_neg fun h' => h h'.2).symm)
    rw [blk3 m c t r n ⟨t.val * 512 + r.val - 16, by omega⟩ (by omega) (by dsimp only; omega),
      blk4 m c t r n ⟨t.val * 512 + r.val - 16, by omega⟩ (by omega) (by dsimp only; omega)]
    rfl

/-- A load of 512 kept rows, `16 - k` down, is the products `k` rows before the block's own. -/
theorem load_tap (c : Dev nD) (t : Fin cfg0.N) (k : ℕ) (hk : k ≤ 16) (inb) (r : Fin 512) (n : Fin 1024) :
    (View.whole cc0_scratch0).readCov (Val := Elt Ideal)
          [⟨Rect.unit ![16, 0] ![512, 1024] inb_S528x1024_S512x1024_16_0, k0_pay3 (X0_1 m c t) (X0_2 m c t)⟩,
            ⟨Rect.unit ![0, 0] ![16, 1024] inb_S528x1024_S16x1024_0_0,
              k0_pay2 (grid0.coords t) (X0_3 m c t) (X0_4 m c t)⟩]
          (Rect.unit (s := S528x1024) ![16 - k, 0] ![512, 1024] inb).toLoadRect (ix2 r n)
      = tap (m ((c : Thread nD τ).loc main_arg0)) k (row t r) n := by
  rw [View.readCov_eq_canon']
  have e : (Rect.unit (s := S528x1024) ![16 - k, 0] ![512, 1024] inb).toLoadRect.idx (ix2 r n) = (ix2 ⟨16 - k + r.val, by omega⟩ n : S528x1024.Idx) := by
    funext a
    match a with
    | ⟨0, _⟩ => exact Fin.ext (by show 16 - k + 1 * r.val = 16 - k + r.val; omega)
    | ⟨1, _⟩ => exact Fin.ext (by show 0 + 1 * n.val = n.val; omega)
  dsimp only
  rw [e]
  refine (View.canon_append_of_piecesOf (kept (m ((c : Thread nD τ).loc main_arg0)) t) [] [_, _] ⟨kept_body m c t, kept_halo m c t, trivial⟩ _ ?_).trans
    (kept_tap _ t k hk r n _ (by show 16 - k + r.val + k = r.val + 16; omega))
  by_cases h : 16 - k + r.val < 16
  · refine ⟨_, .tail _ (.head _), (Rect.mem_set_unit (inb := inb_S528x1024_S16x1024_0_0)).mpr fun a => ?_⟩
    match a with
    | ⟨0, _⟩ => exact ⟨Nat.zero_le _, by show 16 - k + r.val < 0 + 16; omega⟩
    | ⟨1, _⟩ => exact ⟨Nat.zero_le _, by show n.val < 0 + 1024; omega⟩
  · refine ⟨_, .head _, (Rect.mem_set_unit (inb := inb_S528x1024_S512x1024_16_0)).mpr fun a => ?_⟩
    match a with
    | ⟨0, _⟩ => exact ⟨by show 16 ≤ 16 - k + r.val; omega, by show 16 - k + r.val < 16 + 512; omega⟩
    | ⟨1, _⟩ => exact ⟨Nat.zero_le _, by show n.val < 0 + 1024; omega⟩

/-- Where a point's block of results lies. -/
theorem place (G : FVec Ideal S8192x1024 .bf16) (t : Fin cfg0.N) (r : Fin 512) (n : Fin 1024) :
    G (((cfg0.win 6).blk t).view.emb (ix2 r n)) = G (ix2 (row t r) n) := by
  blk_ext [idx t, row]

/-- Equal parts make an equal entry. -/
theorem glue {b b' w0 w0' w1 w1' w2 w2' s0 s0' s1 s1' s2 s2' : EReal} (hb : b = b') (h0 : w0 = w0') (h1 : w1 = w1') (h2 : w2 = w2')
    (e0 : s0 = s0') (e1 : s1 = s1') (e2 : s2 = s2') :
    b * (w0 * s0 + w1 * s1 + w2 * s2) = b' * (w0' * s0' + w1' * s1' + w2' * s2') := by rw [hb, h0, h1, h2, e0, e1, e2]

/-- What a point leaves in its block of results. -/
theorem out_apply (c : Dev nD) (t : Fin cfg0.N) (r : Fin 512) (n : Fin 1024) :
    outsAt0 m c t (ix2 r n) = REF (m ((c : Thread nD τ).loc main_arg0)) (m ((c : Thread nD τ).loc main_arg1)) (ix2 (row t r) n) := by
  refine Eq.trans ?_ (ref_apply _ _ (row t r) n).symm
  unfold outsAt0
  frame_open
  simp (disch := decide) only [↓ View.readCov_cons_toLoadRect]
  frame_out
  refine (pay_apply _ _ _ _ _ r n).trans (glue (blk0 m c t r n) (wblk m c t 0 n) (wblk m c t 1 n) (wblk m c t 2 n) (load_tap m c t 2 (by omega) _ r n)
    (load_tap m c t 1 (by omega) _ r n) ((body_apply _ _ r n).trans ?_))
  rw [blk1, blk2]
  exact (tap_of _ 0 (row t r) _ n (by omega) rfl).symm

/-- The result array after the run is the reference's. -/
theorem final (c : Dev nD) : (dats m 0 c).arrAt 6 (cfgs 0).N
    = REF (m ((c : Thread nD τ).loc main_arg0)) (m ((c : Thread nD τ).loc main_arg1)) := by
  refine (dats m 0 c).arrAt_eq_of_covers 6 _ (by decide +kernel) fun t _ y => ?_
  blk_simp
  rw [after0_6]
  obtain ⟨r, n, rfl⟩ : ∃ (r : Fin 512) (n : Fin 1024), y = ix2 r n := ⟨y 0, y 1, by funext a; match a with | ⟨0, _⟩ => rfl | ⟨1, _⟩ => rfl⟩
  exact (out_apply m c t r n).trans (place _ t r n).symm

end Cert.Proofs.ShortConv

end
-- ==== Proof.SsdConv.lean ====
module

public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise
public import Idealize.ShloMosaic.Lib.Pipeline.ReadBack
public import proofs.«01_k».proof.Proof.Act

@[expose] public section

set_option maxRecDepth 16384

noncomputable section

/-! The convolution before the scan: the array the kernel leaves is the reference's, entry by entry. -/

namespace Cert.Proofs.SsdConv

open Idealize.ShloMosaic Idealize.ShloMosaic.TcCoe Idealize.SL.Sem
open Idealize.ShloMosaic.Pipeline (Dat)
open Cert.Proofs.Act

section

open Cert.Reference12Ideal Cert.Reference12Ideal.Gen

/-- The reference's sums before the activation, as one term of its arguments. -/
abbrev CONV (a0 : FVec Ideal S8192x19712 .bf16) (a1 : FVec Ideal S4x4096 .f32) (a2 : FVec Ideal S4096 .f32) : FVec Ideal S2x4096x4096 .f32 :=
  addf (addf (addf (addf (mulf (broadcastInDim S2x4096x4096 ![0, 1, 2] bcast_S1x1x4096_S2x4096x4096_0_1_2 (broadcastInDim S1x1x4096 ![2] bcast_S4096_S1x1x4096_2 (shapeCast _ (extractStridedSlice S1x4096 ![0, 0] a1 slices_S4x4096_S1x4096_0_0) shapeCasts_S1x4096_S4096))) (extractStridedSlice S2x4096x4096 ![0, 0, 0] (pad S2x4099x4096 ![0, 3, 0] ![0, 0, 0] ![0, 0, 0] (shapeCast _ (extf .f32 (extractStridedSlice S8192x4096 ![0, 8192] a0 slices_S8192x19712_S8192x4096_0_8192) bitsLt_bf16_f32) shapeCasts_S8192x4096_S2x4096x4096) (sitofp .f32 (constantI S_ 32 0#32)) pads_S2x4096x4096_S2x4099x4096_000_300_000 h_S_) slices_S2x4099x4096_S2x4096x4096_0_0_0)) (mulf (broadcastInDim S2x4096x4096 ![0, 1, 2] bcast_S1x1x4096_S2x4096x4096_0_1_2 (broadcastInDim S1x1x4096 ![2] bcast_S4096_S1x1x4096_2 (shapeCast _ (extractStridedSlice S1x4096 ![1, 0] a1 slices_S4x4096_S1x4096_1_0) shapeCasts_S1x4096_S4096))) (extractStridedSlice S2x4096x4096 ![0, 1, 0] (pad S2x4099x4096 ![0, 3, 0] ![0, 0, 0] ![0, 0, 0] (shapeCast _ (extf .f32 (extractStridedSlice S8192x4096 ![0, 8192] a0 slices_S8192x19712_S8192x4096_0_8192) bitsLt_bf16_f32) shapeCasts_S8192x4096_S2x4096x4096) (sitofp .f32 (constantI S_ 32 0#32)) pads_S2x4096x4096_S2x4099x4096_000_300_000 h_S_) slices_S2x4099x4096_S2x4096x4096_0_1_0))) (mulf (broadcastInDim S2x4096x4096 ![0, 1, 2] bcast_S1x1x4096_S2x4096x4096_0_1_2 (broadcastInDim S1x1x4096 ![2] bcast_S4096_S1x1x4096_2 (shapeCast _ (extractStridedSlice S1x4096 ![2, 0] a1 slices_S4x4096_S1x4096_2_0) shapeCasts_S1x4096_S4096))) (extractStridedSlice S2x4096x4096 ![0, 2, 0] (pad S2x4099x4096 ![0, 3, 0] ![0, 0, 0] ![0, 0, 0] (shapeCast _ (extf .f32 (extractStridedSlice S8192x4096 ![0, 8192] a0 slices_S8192x19712_S8192x4096_0_8192) bitsLt_bf16_f32) shapeCasts_S8192x4096_S2x4096x4096) (sitofp .f32 (constantI S_ 32 0#32)) pads_S2x4096x4096_S2x4099x4096_000_300_000 h_S_) slices_S2x4099x4096_S2x4096x4096_0_2_0))) (mulf (broadcastInDim S2x4096x4096 ![0, 1, 2] bcast_S1x1x4096_S2x4096x4096_0_1_2 (broadcastInDim S1x1x4096 ![2] bcast_S4096_S1x1x4096_2 (shapeCast _ (extractStridedSlice S1x4096 ![3, 0] a1 slices_S4x4096_S1x4096_3_0) shapeCasts_S1x4096_S4096))) (extractStridedSlice S2x4096x4096 ![0, 3, 0] (pad S2x4099x4096 ![0, 3, 0] ![0, 0, 0] ![0, 0, 0] (shapeCast _ (extf .f32 (extractStridedSlice S8192x4096 ![0, 8192] a0 slices_S8192x19712_S8192x4096_0_8192) bitsLt_bf16_f32) shapeCasts_S8192x4096_S2x4096x4096) (sitofp .f32 (constantI S_ 32 0#32)) pads_S2x4096x4096_S2x4099x4096_000_300_000 h_S_) slices_S2x4099x4096_S2x4096x4096_0_3_0))) (broadcastInDim S2x4096x4096 ![0, 1, 2] bcast_S1x1x4096_S2x4096x4096_0_1_2 (broadcastInDim S1x1x4096 ![2] bcast_S4096_S1x1x4096_2 a2))

/-- The reference's activation of the sums. -/
abbrev REFACT (C : FVec Ideal S2x4096x4096 .f32) : FVec Ideal S8192x4096 .bf16 :=
  truncf .bf16 (shapeCast _ (mulf C (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf C))))) shapeCasts_S2x4096x4096_S8192x4096) bitsLt_bf16_f32

/-- The reference's result as one term of its arguments. -/
abbrev REF (a0 : FVec Ideal S8192x19712 .bf16) (a1 : FVec Ideal S4x4096 .f32) (a2 : FVec Ideal S4096 .f32) : FVec Ideal S8192x4096 .bf16 :=
  REFACT (CONV a0 a1 a2)

/-- The reference runs to its end with that result, its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
        = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference12Ideal.Value.run m ρ

end

open Cert.Kernel12Ideal Cert.Kernel12Ideal.Gen

variable (m : (ℓ : Loc nD τ sig) → Buf (Elt Ideal) ℓ)

theorem lt_N (t : Fin cfg0.N) : t.val < 64 := by have := t.isLt; simpa only [show cfg0.N = 64 from N_0] using this

/-- Which block each window holds at grid point `t`. -/
theorem idx : ∀ t : Fin cfg0.N, win0_0.index t = ![t.val / 4, 8 + t.val % 4] ∧ win0_1.index t = ![t.val / 4 * 32 - 1, 8 + t.val % 4]
    ∧ win0_2.index t = ![0, t.val % 4] ∧ win0_3.index t = ![0, t.val % 4] ∧ win0_4.index t = ![t.val / 4, t.val % 4] :=
  (by decide +kernel : ∀ t : Fin grid0.N, _)

/-- The point's place in its sequence. -/
theorem place_in : ∀ t : Fin cfg0.N, ((grid0.coords t) 1).val = t.val / 4 % 8 :=
  (by decide +kernel : ∀ t : Fin grid0.N, _)

/-- The row of the whole array that row `r` of point `t`'s block is. -/
def row (t : Fin cfg0.N) (r : Fin 512) : Fin 8192 := ⟨t.val / 4 * 512 + r.val, by have := lt_N t; omega⟩

/-- The column of the whole array that column `n` of point `t`'s block is. -/
def col (t : Fin cfg0.N) (n : Fin 1024) : Fin 4096 := ⟨t.val % 4 * 1024 + n.val, by omega⟩

/-- The column that the convolution runs over, `k` rows before row `r` of its sequence: zero before its start. -/
def tap (a : FVec Ideal S8192x19712 .bf16) (k : ℕ) (r : Fin 8192) (n : Fin 4096) : EReal :=
  if r.val % 4096 < k then 0 else a (ix2 ⟨r.val - k, by omega⟩ ⟨8192 + n.val, by omega⟩)

theorem tap_of (a : FVec Ideal S8192x19712 .bf16) (k : ℕ) (r q : Fin 8192) (n : Fin 4096) (h : ¬ r.val % 4096 < k) (hq : q.val = r.val - k) :
    tap a k r n = a (ix2 q ⟨8192 + n.val, by omega⟩) := by
  have e : q = ⟨r.val - k, by omega⟩ := Fin.ext hq
  rw [e]
  exact if_neg h

theorem tap_zero (a : FVec Ideal S8192x19712 .bf16) (k : ℕ) (r : Fin 8192) (n : Fin 4096) (h : r.val % 4096 < k) : tap a k r n = 0 := if_pos h

/-- The reference's sum at an entry. -/
theorem conv_apply (a0 : FVec Ideal S8192x19712 .bf16) (a1 : FVec Ideal S4x4096 .f32) (a2 : FVec Ideal S4096 .f32) (b : Fin 2) (s : Fin 4096) (n : Fin 4096)
    (r : Fin 8192) (hr : r.val = b.val * 4096 + s.val) :
    CONV a0 a1 a2 (ix3 b s n) = a1 (ix2 0 n) * tap a0 3 r n + a1 (ix2 1 n) * tap a0 2 r n + a1 (ix2 2 n) * tap a0 1 r n + a1 (ix2 3 n) * tap a0 0 r n + a2 (ix1 n) := by
  pointwise [CONV]
  refine congrArg (· + _) (congr (congrArg HAdd.hAdd (congr (congrArg HAdd.hAdd (congr (congrArg HAdd.hAdd (congrArg (_ * ·) ?_)) (congrArg (_ * ·) ?_))) (congrArg (_ * ·) ?_)))
    (congrArg (_ * ·) ?_))
  · split_ifs with h
    · exact (tap_of a0 3 r _ n (by omega) (by dsimp only; omega)).symm
    · exact zero_int.trans (tap_zero a0 3 r n (by omega)).symm
  · split_ifs with h
    · exact (tap_of a0 2 r _ n (by omega) (by dsimp only; omega)).symm
    · exact zero_int.trans (tap_zero a0 2 r n (by omega)).symm
  · split_ifs with h
    · exact (tap_of a0 1 r _ n (by omega) (by dsimp only; omega)).symm
    · exact zero_int.trans (tap_zero a0 1 r n (by omega)).symm
  · exact (tap_of a0 0 r _ n (by omega) (by dsimp only; omega)).symm

/-- The reference's result at an entry, from its sum there. -/
theorem ref_act (C : FVec Ideal Cert.Reference12Ideal.S2x4096x4096 .f32) (r : Fin 8192) (n : Fin 4096) :
    REFACT C (ix2 r n) = act (C (ix3 ⟨r.val / 4096, by omega⟩ ⟨r.val % 4096, by omega⟩ n)) := by
  pointwise [REFACT, act]

theorem ref_apply (a0 : FVec Ideal S8192x19712 .bf16) (a1 : FVec Ideal S4x4096 .f32) (a2 : FVec Ideal S4096 .f32) (r : Fin 8192) (n : Fin 4096) :
    REF a0 a1 a2 (ix2 r n) = act (a1 (ix2 0 n) * tap a0 3 r n + a1 (ix2 1 n) * tap a0 2 r n + a1 (ix2 2 n) * tap a0 1 r n + a1 (ix2 3 n) * tap a0 0 r n + a2 (ix1 n)) :=
  (ref_act _ r n).trans (congrArg act (conv_apply a0 a1 a2 _ _ n r (by show r.val = r.val / 4096 * 4096 + r.val % 4096; omega)))

/-- The window on the projections: a block of the column, -/
theorem blk0 (c : Dev nD) (t : Fin cfg0.N) (r : Fin 512) (n : Fin 1024) :
    X0_0 m c t (ix2 r n) = (m ((c : Thread nD τ).loc main_arg0) : FVec Ideal S8192x19712 .bf16) (ix2 (row t r) ⟨8192 + (col t n).val, by omega⟩) := by
  unfold X0_0 Pipeline.Window.fill
  rw [dif_pos (moved0_0 t _)]
  blk_ext [iblk, V, idx t, row, col]

/-- and the sixteen rows before the block, where it has some before it in its sequence. -/
theorem blk1 (c : Dev nD) (t : Fin cfg0.N) (r : Fin 16) (n : Fin 1024) (q : Fin 8192) (ht : t.val / 4 ≠ 0) (hq : q.val + 16 = t.val / 4 * 512 + r.val) :
    X0_1 m c t (ix2 r n) = (m ((c : Thread nD τ).loc main_arg0) : FVec Ideal S8192x19712 .bf16) (ix2 q ⟨8192 + (col t n).val, by omega⟩) := by
  have e : q = ⟨(t.val / 4 * 32 - 1) * 16 + r.val, by have := lt_N t; omega⟩ := Fin.ext (by dsimp only; omega)
  rw [e]
  unfold X0_1 Pipeline.Window.fill
  rw [dif_pos (moved0_1 t _)]
  blk_ext [iblk, V, idx t, col]

/-- The weights' window holds the block's columns of the weights. -/
theorem wblk (c : Dev nD) (t : Fin cfg0.N) (k : Fin 4) (n : Fin 1024) :
    iblk m c 2 t (ix2 k n) = (m ((c : Thread nD τ).loc main_arg1) : FVec Ideal S4x4096 .f32) (ix2 k (col t n)) := by
  blk_ext [iblk, V, idx t, col]

/-- The bias the call reads, entry by entry. -/
theorem bias (c : Dev nD) (n : Fin 4096) :
    (V m c main_v0 : Vec Ideal S1x4096 .f32) (ix2 0 n) = (m ((c : Thread nD τ).loc main_arg2) : FVec Ideal S4096 .f32) (ix1 n) := by
  unfold V
  after_results
  pointwise

theorem bblk (c : Dev nD) (t : Fin cfg0.N) (n : Fin 1024) :
    iblk m c 3 t (ix2 0 n) = (m ((c : Thread nD τ).loc main_arg2) : FVec Ideal S4096 .f32) (ix1 (col t n)) := by
  refine Eq.trans ?_ (bias m c _)
  blk_ext [iblk, idx t, col]

/-- The kept rows below the first sixteen: the block's own. -/
theorem body_apply (A : Vec Ideal S512x1024 .bf16) (r : Fin 512) (n : Fin 1024) : k0_pay3 (F := Ideal) A (ix2 r n) = A (ix2 r n) := by
  pointwise [k0_pay3]

/-- The first sixteen: zero at a sequence's start, else the rows before the block. -/
theorem halo_apply (t : Fin cfg0.N) (A : Vec Ideal S16x1024 .bf16) (r : Fin 16) (n : Fin 1024) :
    k0_pay2 (F := Ideal) (grid0.coords t) A (ix2 r n) = if t.val / 4 % 8 = 0 then 0 else A (ix2 r n) := by
  rw [← place_in t]
  generalize (grid0.coords t) = i
  pointwise [k0_pay2]
  generalize i 1 = k
  match k with
  | ⟨0, _⟩ | ⟨1, _⟩ | ⟨2, _⟩ | ⟨3, _⟩ | ⟨4, _⟩ | ⟨5, _⟩ | ⟨6, _⟩ | ⟨7, _⟩ => rfl

/-- The stored entry from the kept rows, the weights and the bias: the reference's sum in another order, then the activation. -/
theorem pay_apply (W : Vec Ideal S4x1024 .f32) (b : Vec Ideal S1x1024 .f32) (s0 s1 s2 s3 : Vec Ideal S512x1024 .f32) (r : Fin 512) (n : Fin 1024) :
    k0_pay1 (F := Ideal) (k0_pay4 b (View.ld W (Rect.unit ![0, 0] ![1, 1024] inb_S4x1024_S1x1024_0_0)) s0 (View.ld W (Rect.unit ![1, 0] ![1, 1024] inb_S4x1024_S1x1024_1_0)) s1)
      (k0_pay5 (View.ld W (Rect.unit ![2, 0] ![1, 1024] inb_S4x1024_S1x1024_2_0)) s2) (View.ld W (Rect.unit ![3, 0] ![1, 1024] inb_S4x1024_S1x1024_3_0)) s3 (ix2 r n)
    = act (W (ix2 0 n) * s0 (ix2 r n) + W (ix2 1 n) * s1 (ix2 r n) + W (ix2 2 n) * s2 (ix2 r n) + W (ix2 3 n) * s3 (ix2 r n) + b (ix2 0 n)) := by
  have e : ∀ p q u v z : EReal, z + p + q + u + v = p + q + u + v + z := fun p q u v z => by
    rw [add_comm _ z, ← add_assoc, ← add_assoc, ← add_assoc]
  rw [← e]
  pointwise [k0_pay1, k0_pay4, k0_pay5, act]
  simp only [zero_sub]

/-- The kept rows as the proof states them: row `ρ` holds the column sixteen rows up from the block's row `ρ`, zero before the
    sequence's start. -/
def kept (a : FVec Ideal S8192x19712 .bf16) (t : Fin cfg0.N) : Vec Ideal S528x1024 .f32 := fun y =>
  if (y 0).val < 16 ∧ t.val / 4 % 8 = 0 then 0
  else a (ix2 ⟨t.val / 4 * 512 + (y 0).val - 16, by have := lt_N t; have : (y 0).val < 528 := (y 0).isLt; omega⟩ ⟨8192 + (col t (y 1)).val, by omega⟩)

/-- A kept row at `16 - k` past the block's row is the reference's row `k` before it. -/
theorem kept_tap (a : FVec Ideal S8192x19712 .bf16) (t : Fin cfg0.N) (k : ℕ) (hk : k ≤ 16) (r : Fin 512) (n : Fin 1024) (ρ : Fin 528) (hρ : ρ.val + k = r.val + 16) :
    kept a t (ix2 ρ n) = tap a k (row t r) (col t n) := by
  have ht := lt_N t
  have hr : (row t r).val = t.val / 4 * 512 + r.val := rfl
  by_cases h : ρ.val < 16 ∧ t.val / 4 % 8 = 0
  · exact (if_pos h).trans (tap_zero a k (row t r) (col t n) (by omega)).symm
  · exact (if_neg h).trans (tap_of a k (row t r) ⟨t.val / 4 * 512 + ρ.val - 16, by omega⟩ (col t n) (by omega) (by show t.val / 4 * 512 + ρ.val - 16 = _; omega)).symm

/-- The stores of the kept rows leave them so: -/
theorem kept_body (c : Dev nD) (t : Fin cfg0.N) (x : S512x1024.Idx) :
    k0_pay3 (F := Ideal) (X0_0 m c t) x = kept (m ((c : Thread nD τ).loc main_arg0)) t ((Rect.unit (s := S528x1024) ![16, 0] ![512, 1024] inb_S528x1024_S512x1024_16_0).emb x) := by
  obtain ⟨r, n, rfl⟩ : ∃ (r : Fin 512) (n : Fin 1024), x = ix2 r n := ⟨x 0, x 1, by funext a; match a with | ⟨0, _⟩ => rfl | ⟨1, _⟩ => rfl⟩
  have e : (Rect.unit (s := S528x1024) ![16, 0] ![512, 1024] inb_S528x1024_S512x1024_16_0).emb (ix2 r n) = (ix2 ⟨r.val + 16, by omega⟩ n : S528x1024.Idx) := by
    funext a
    match a with
    | ⟨0, _⟩ => exact Fin.ext (by show 16 + 1 * r.val = r.val + 16; omega)
    | ⟨1, _⟩ => exact Fin.ext (by show 0 + 1 * n.val = n.val; omega)
  rw [e]
  refine (body_apply _ r n).trans (Eq.trans ?_ (kept_tap _ t 0 (by omega) r n _ rfl).symm)
  rw [blk0]
  exact (tap_of _ 0 (row t r) _ (col t n) (by omega) rfl).symm

theorem kept_halo (c : Dev nD) (t : Fin cfg0.N) (x : S16x1024.Idx) :
    k0_pay2 (F := Ideal) (grid0.coords t) (X0_1 m c t) x
      = kept (m ((c : Thread nD τ).loc main_arg0)) t ((Rect.unit (s := S528x1024) ![0, 0] ![16, 1024] inb_S528x1024_S16x1024_0_0).emb x) := by
  obtain ⟨r, n, rfl⟩ : ∃ (r : Fin 16) (n : Fin 1024), x = ix2 r n := ⟨x 0, x 1, by funext a; match a with | ⟨0, _⟩ => rfl | ⟨1, _⟩ => rfl⟩
  have e : (Rect.unit (s := S528x1024) ![0, 0] ![16, 1024] inb_S528x1024_S16x1024_0_0).emb (ix2 r n) = (ix2 ⟨r.val, by omega⟩ n : S528x1024.Idx) := by
    funext a
    match a with
    | ⟨0, _⟩ => exact Fin.ext (by show 0 + 1 * r.val = r.val; omega)
    | ⟨1, _⟩ => exact Fin.ext (by show 0 + 1 * n.val = n.val; omega)
  rw [e]
  refine (halo_apply t _ r n).trans ?_
  have ht := lt_N t
  by_cases h : t.val / 4 % 8 = 0
  · exact (if_pos h).trans (if_pos ⟨r.isLt, h⟩).symm
  · refine (if_neg h).trans (Eq.trans ?_ (if_neg fun h' => h h'.2).symm)
    rw [blk1 m c t r n ⟨t.val / 4 * 512 + r.val - 16, by omega⟩ (by omega) (by dsimp only; omega)]
    rfl

/-- A load of 512 kept rows, `16 - k` down, is the rows `k` before the block's own. -/
theorem load_tap (c : Dev nD) (t : Fin cfg0.N) (k : ℕ) (hk : k ≤ 16) (inb) (r : Fin 512) (n : Fin 1024) :
    (View.whole cc0_scratch0).readCov (Val := Elt Ideal)
          [⟨Rect.unit ![16, 0] ![512, 1024] inb_S528x1024_S512x1024_16_0, k0_pay3 (X0_0 m c t)⟩,
            ⟨Rect.unit ![0, 0] ![16, 1024] inb_S528x1024_S16x1024_0_0,
              k0_pay2 (grid0.coords t) (X0_1 m c t)⟩]
          (Rect.unit (s := S528x1024) ![16 - k, 0] ![512, 1024] inb).toLoadRect (ix2 r n)
      = tap (m ((c : Thread nD τ).loc main_arg0)) k (row t r) (col t n) := by
  rw [View.readCov_eq_canon']
  have e : (Rect.unit (s := S528x1024) ![16 - k, 0] ![512, 1024] inb).toLoadRect.idx (ix2 r n) = (ix2 ⟨16 - k + r.val, by omega⟩ n : S528x1024.Idx) := by
    funext a
    match a with
    | ⟨0, _⟩ => exact Fin.ext (by show 16 - k + 1 * r.val = 16 - k + r.val; omega)
    | ⟨1, _⟩ => exact Fin.ext (by show 0 + 1 * n.val = n.val; omega)
  dsimp only
  rw [e]
  refine (View.canon_append_of_piecesOf (kept (m ((c : Thread nD τ).loc main_arg0)) t) [] [_, _] ⟨kept_body m c t, kept_halo m c t, trivial⟩ _ ?_).trans
    (kept_tap _ t k hk r n _ (by show 16 - k + r.val + k = r.val + 16; omega))
  by_cases h : 16 - k + r.val < 16
  · refine ⟨_, .tail _ (.head _), (Rect.mem_set_unit (inb := inb_S528x1024_S16x1024_0_0)).mpr fun a => ?_⟩
    match a with
    | ⟨0, _⟩ => exact ⟨Nat.zero_le _, by show 16 - k + r.val < 0 + 16; omega⟩
    | ⟨1, _⟩ => exact ⟨Nat.zero_le _, by show n.val < 0 + 1024; omega⟩
  · refine ⟨_, .head _, (Rect.mem_set_unit (inb := inb_S528x1024_S512x1024_16_0)).mpr fun a => ?_⟩
    match a with
    | ⟨0, _⟩ => exact ⟨by show 16 ≤ 16 - k + r.val; omega, by show 16 - k + r.val < 16 + 512; omega⟩
    | ⟨1, _⟩ => exact ⟨Nat.zero_le _, by show n.val < 0 + 1024; omega⟩

/-- Where a point's block of results lies. -/
theorem place (G : FVec Ideal S8192x4096 .bf16) (t : Fin cfg0.N) (r : Fin 512) (n : Fin 1024) :
    G (((cfg0.win 4).blk t).view.emb (ix2 r n)) = G (ix2 (row t r) (col t n)) := by
  blk_ext [idx t, row, col]

/-- Equal parts make an equal entry. -/
theorem glue {b b' w0 w0' w1 w1' w2 w2' w3 w3' s0 s0' s1 s1' s2 s2' s3 s3' : EReal} (hb : b = b') (h0 : w0 = w0') (h1 : w1 = w1') (h2 : w2 = w2') (h3 : w3 = w3')
    (e0 : s0 = s0') (e1 : s1 = s1') (e2 : s2 = s2') (e3 : s3 = s3') :
    act (w0 * s0 + w1 * s1 + w2 * s2 + w3 * s3 + b) = act (w0' * s0' + w1' * s1' + w2' * s2' + w3' * s3' + b') := by
  rw [hb, h0, h1, h2, h3, e0, e1, e2, e3]

/-- What a point leaves in its block of results. -/
theorem out_apply (c : Dev nD) (t : Fin cfg0.N) (r : Fin 512) (n : Fin 1024) :
    outsAt0 m c t (ix2 r n) = REF (m ((c : Thread nD τ).loc main_arg0)) (m ((c : Thread nD τ).loc main_arg1)) (m ((c : Thread nD τ).loc main_arg2)) (ix2 (row t r) (col t n)) := by
  refine Eq.trans ?_ (ref_apply _ _ _ (row t r) (col t n)).symm
  unfold outsAt0
  frame_open
  simp (disch := decide) only [↓ View.readCov_cons_toLoadRect]
  frame_out
  refine (pay_apply _ _ _ _ _ _ r n).trans (glue (bblk m c t n) (wblk m c t 0 n) (wblk m c t 1 n) (wblk m c t 2 n) (wblk m c t 3 n)
    (load_tap m c t 3 (by omega) _ r n) (load_tap m c t 2 (by omega) _ r n) (load_tap m c t 1 (by omega) _ r n) ((body_apply _ r n).trans ?_))
  rw [blk0]
  exact (tap_of _ 0 (row t r) _ (col t n) (by omega) rfl).symm

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, n, rfl⟩ : ∃ (r : Fin 512) (n : Fin 1024), y = ix2 r n := ⟨y 0, y 1, by funext a; match a with | ⟨0, _⟩ => rfl | ⟨1, _⟩ => rfl⟩
  exact (out_apply m c t r n).trans (place _ t r n).symm

end Cert.Proofs.SsdConv

end
-- ==== Proof.PrepWeights.lean ====
module

public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Pipeline.ReadBack

@[expose] public section

set_option maxRecDepth 16384

noncomputable section

/-! The preparation of the in-projection's weights: the array the kernel leaves is the reference's, entry by entry. -/

namespace Cert.Proofs.PrepWeights

open Idealize.ShloMosaic Idealize.ShloMosaic.TcCoe Idealize.SL.Sem
open Idealize.ShloMosaic.Pipeline (Dat)

/-- The column of the weights that prepared column `n` is taken from; 19568, which is past the last one, where it is zero. -/
def source (n : ℕ) : ℕ :=
  if n < 2048 then n
  else if n < 8192 then n - 2048 + 13424
  else if n < 12288 then n - 8192 + 2048
  else if n < 19456 then n - 12288 + 6176
  else if n < 19520 then n - 19456 + 13344
  else if n < 19552 then n - 19520 + 6144
  else if n < 19568 then n - 19552 + 13408
  else if n < 19648 then 19568
  else n - 19648 + 13344

/-- Column `k` of a row of weights, and zero past its end. -/
def pick (a : Fin 19568 → EReal) (k : ℕ) : EReal := if h : k < 19568 then a ⟨k, h⟩ else 0

section

open Cert.Reference13Ideal Cert.Reference13Ideal.Gen

/-- The reference's result as one term of its argument. -/
def REF (a : FVec Ideal S4x2048x19568 .f32) : FVec Ideal S4x2048x19712 .bf16 :=
  truncf .bf16 (concatenate S4x2048x19712 2 [⟨S4x2048x2048, extractStridedSlice S4x2048x2048 ![0, 0, 0] a slices_S4x2048x19568_S4x2048x2048_0_0_0⟩,
    ⟨S4x2048x6144, extractStridedSlice S4x2048x6144 ![0, 0, 13424] a slices_S4x2048x19568_S4x2048x6144_0_0_13424⟩,
    ⟨S4x2048x4096, extractStridedSlice S4x2048x4096 ![0, 0, 2048] a slices_S4x2048x19568_S4x2048x4096_0_0_2048⟩,
    ⟨S4x2048x7168, extractStridedSlice S4x2048x7168 ![0, 0, 6176] a slices_S4x2048x19568_S4x2048x7168_0_0_6176⟩,
    ⟨S4x2048x64, extractStridedSlice S4x2048x64 ![0, 0, 13344] a slices_S4x2048x19568_S4x2048x64_0_0_13344⟩,
    ⟨S4x2048x32, extractStridedSlice S4x2048x32 ![0, 0, 6144] a slices_S4x2048x19568_S4x2048x32_0_0_6144⟩,
    ⟨S4x2048x16, extractStridedSlice S4x2048x16 ![0, 0, 13408] a slices_S4x2048x19568_S4x2048x16_0_0_13408⟩,
    ⟨S4x2048x80, broadcastInDim S4x2048x80 ![] bcast_S_S4x2048x80 (constant S_ .f32 0x00000000#32)⟩,
    ⟨S4x2048x64, extractStridedSlice S4x2048x64 ![0, 0, 13344] a slices_S4x2048x19568_S4x2048x64_0_0_13344⟩]
    concatenates_S4x2048x2048_S4x2048x6144_S4x2048x4096_S4x2048x7168_S4x2048x64_S4x2048x32_S4x2048x16_S4x2048x80_S4x2048x64_S4x2048x19712_d2) bitsLt_bf16_f32

/-- The reference runs to its end with that result, its argument as it was. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = REF (m ((c.tc : Thread nD τ).loc main_arg0))
      ∧ r.2.mem ((c.tc : Thread nD τ).loc main_arg0) = m ((c.tc : Thread nD τ).loc main_arg0) :=
  Cert.Reference13Ideal.Value.run m ρ

end

open Cert.Kernel13Ideal Cert.Kernel13Ideal.Gen

variable (m : (ℓ : Loc nD τ sig) → Buf (Elt Ideal) ℓ)

/-- A column there is. -/
theorem pick_at (a : Fin 19568 → EReal) (j k : ℕ) (h : k < 19568) (e : j = k) : a ⟨k, h⟩ = pick a j := by
  subst e
  unfold pick
  rw [dif_pos h]

/-- A column past the end. -/
theorem pick_past (a : Fin 19568 → EReal) (j : ℕ) (h : 19568 ≤ j) : 0 = pick a j := by
  unfold pick
  rw [dif_neg (Nat.not_lt.mpr h)]

set_option maxHeartbeats 2000000 in
/-- The reference, entry by entry. -/
theorem ref_apply (a : FVec Ideal S4x2048x19568 .f32) (l : Fin 4) (d : Fin 2048) (n : Fin 19712) :
    REF a (ix3 l d n) = pick (fun k => a (ix3 l d k)) (source n.val) := by
  have hn := n.isLt
  pointwise [REF]
  split_ifs <;> first
    | exact pick_at (fun k => a (ix3 l d k)) _ _ _ (by unfold source; split_ifs <;> omega)
    | exact pick_past _ _ (by unfold source; split_ifs <;> omega)

/-- What a point's block of results holds, from its block of weights. -/
def row (x : Vec Ideal S1x128x19568 .f32) (y : S1x128x19712.Idx) : EReal := pick (fun k => x (ix3 0 (y 1) k)) (source (y 2).val)

/-- A store of `p` columns copied from the weights' columns from `src` on. -/
theorem copied (p src dst : ℕ) (arg2 : Memref sig .tc .vmem S1x128x19568 .f32) (harg2 : arg2.IsWhole) (x : Vec Ideal S1x128x19568 .f32)
    (inb : ∀ a, ![0, 0, src] a + ![1, 128, p] a ≤ S1x128x19568.size a) (inb' : ∀ a, ![0, 0, dst] a + ![1, 128, p] a ≤ S1x128x19712.size a)
    (h : (⟨3, ![1, 128, p]⟩ : Shape).ShapeCasts ⟨2, ![128, p]⟩) (h' : (⟨2, ![128, p]⟩ : Shape).ShapeCasts ⟨3, ![1, 128, p]⟩)
    (hs : ∀ n : Fin p, source (dst + 1 * n.val) = src + n.val) (z : (⟨3, ![1, 128, p]⟩ : Shape).Idx) :
    shapeCast (α := Ideal .bf16) ⟨3, ![1, 128, p]⟩ (truncf (F := Ideal) (φ := .f32) .bf16 (shapeCast ⟨2, ![128, p]⟩ (View.readAt (Elt Ideal) arg2.view
      (Rect.unit (s := S1x128x19568) ![0, 0, src] ![1, 128, p] inb).toLoadRect (harg2.unread x)) h) bitsLt_bf16_f32) h' z
      = row x ((Rect.unit (s := S1x128x19712) ![0, 0, dst] ![1, 128, p] inb').emb z) := by
  refine (congrFun (shapeCast_shapeCast (α := EReal) (View.readAt (Elt Ideal) arg2.view
    (Rect.unit (s := S1x128x19568) ![0, 0, src] ![1, 128, p] inb).toLoadRect (harg2.unread x)) h h') z).trans ?_
  rw [View.readAt_eq_ld, Memref.IsWhole.read_unread]
  have hb : src + p ≤ 19568 := inb 2
  have hz : (z 2).val < p := (z 2).isLt
  refine Eq.trans (congrArg x ?_) (pick_at (fun k => x (ix3 0 ((Rect.unit (s := S1x128x19712) ![0, 0, dst] ![1, 128, p] inb').emb z 1) k)) _ (src + (z 2).val) (by omega) (hs (z 2)))
  funext a
  match a with
  | ⟨0, _⟩ => exact Subsingleton.elim (α := Fin 1) _ _
  | ⟨1, _⟩ => rfl
  | ⟨2, _⟩ => exact Fin.ext (by show src + 1 * (z 2).val = src + (z 2).val; omega)

/-- A store of `p` columns of zeros. -/
theorem zeros (p dst : ℕ) (x : Vec Ideal S1x128x19568 .f32) (inb' : ∀ a, ![0, 0, dst] a + ![1, 128, p] a ≤ S1x128x19712.size a)
    (h' : (⟨2, ![128, p]⟩ : Shape).ShapeCasts ⟨3, ![1, 128, p]⟩)
    (hs : ∀ n : Fin p, source (dst + 1 * n.val) = 19568) (z : (⟨3, ![1, 128, p]⟩ : Shape).Idx) :
    shapeCast ⟨3, ![1, 128, p]⟩ (broadcast ⟨2, ![128, p]⟩ (Scalar.ofBits (F := Ideal) .bf16 0x0000#16)) h' z
      = row x ((Rect.unit (s := S1x128x19712) ![0, 0, dst] ![1, 128, p] inb').emb z) := by
  refine Eq.trans ?_ (pick_past _ _ (hs (z 2)).ge)
  show Scalar.ofBits (F := Ideal) .bf16 0x0000#16 = (0 : EReal)
  pointwise

set_option maxHeartbeats 2000000 in
/-- Every store of the body is a block of `row`. -/
theorem pieces (c : Dev nD) (i : grid0.Coords) (arg2 : Memref sig .tc .vmem S1x128x19568 .f32) (harg2 : arg2.IsWhole) (arg3 : Memref sig .tc .vmem S1x128x19712 .bf16) (harg3 : arg3.IsWhole)
    (x : Vec Ideal S1x128x19568 .f32) : View.PiecesOf (row x) (kernelRun0_A c i arg2 harg2 arg3 harg3 x).1 :=
  ⟨zeros 64 19584 x inb_S1x128x19712_S1x128x64_0_0_19584 shapeCasts_S128x64_S1x128x64 (by decide +kernel),
    zeros 16 19568 x inb_S1x128x19712_S1x128x16_0_0_19568 shapeCasts_S128x16_S1x128x16 (by decide +kernel),
    copied 64 13344 19648 arg2 harg2 x inb_S1x128x19568_S1x128x64_0_0_13344 inb_S1x128x19712_S1x128x64_0_0_19648 shapeCasts_S1x128x64_S128x64 shapeCasts_S128x64_S1x128x64 (by decide +kernel),
    copied 16 13408 19552 arg2 harg2 x inb_S1x128x19568_S1x128x16_0_0_13408 inb_S1x128x19712_S1x128x16_0_0_19552 shapeCasts_S1x128x16_S128x16 shapeCasts_S128x16_S1x128x16 (by decide +kernel),
    copied 32 6144 19520 arg2 harg2 x inb_S1x128x19568_S1x128x32_0_0_6144 inb_S1x128x19712_S1x128x32_0_0_19520 shapeCasts_S1x128x32_S128x32 shapeCasts_S128x32_S1x128x32 (by decide +kernel),
    copied 64 13344 19456 arg2 harg2 x inb_S1x128x19568_S1x128x64_0_0_13344 inb_S1x128x19712_S1x128x64_0_0_19456 shapeCasts_S1x128x64_S128x64 shapeCasts_S128x64_S1x128x64 (by decide +kernel),
    copied 1024 12320 18432 arg2 harg2 x inb_S1x128x19568_S1x128x1024_0_0_12320 inb_S1x128x19712_S1x128x1024_0_0_18432 shapeCasts_S1x128x1024_S128x1024 shapeCasts_S128x1024_S1x128x1024 (by decide +kernel),
    copied 1024 11296 17408 arg2 harg2 x inb_S1x128x19568_S1x128x1024_0_0_11296 inb_S1x128x19712_S1x128x1024_0_0_17408 shapeCasts_S1x128x1024_S128x1024 shapeCasts_S128x1024_S1x128x1024 (by decide +kernel),
    copied 1024 10272 16384 arg2 harg2 x inb_S1x128x19568_S1x128x1024_0_0_10272 inb_S1x128x19712_S1x128x1024_0_0_16384 shapeCasts_S1x128x1024_S128x1024 shapeCasts_S128x1024_S1x128x1024 (by decide +kernel),
    copied 1024 9248 15360 arg2 harg2 x inb_S1x128x19568_S1x128x1024_0_0_9248 inb_S1x128x19712_S1x128x1024_0_0_15360 shapeCasts_S1x128x1024_S128x1024 shapeCasts_S128x1024_S1x128x1024 (by decide +kernel),
    copied 1024 8224 14336 arg2 harg2 x inb_S1x128x19568_S1x128x1024_0_0_8224 inb_S1x128x19712_S1x128x1024_0_0_14336 shapeCasts_S1x128x1024_S128x1024 shapeCasts_S128x1024_S1x128x1024 (by decide +kernel),
    copied 1024 7200 13312 arg2 harg2 x inb_S1x128x19568_S1x128x1024_0_0_7200 inb_S1x128x19712_S1x128x1024_0_0_13312 shapeCasts_S1x128x1024_S128x1024 shapeCasts_S128x1024_S1x128x1024 (by decide +kernel),
    copied 1024 6176 12288 arg2 harg2 x inb_S1x128x19568_S1x128x1024_0_0_6176 inb_S1x128x19712_S1x128x1024_0_0_12288 shapeCasts_S1x128x1024_S128x1024 shapeCasts_S128x1024_S1x128x1024 (by decide +kernel),
    copied 1024 5120 11264 arg2 harg2 x inb_S1x128x19568_S1x128x1024_0_0_5120 inb_S1x128x19712_S1x128x1024_0_0_11264 shapeCasts_S1x128x1024_S128x1024 shapeCasts_S128x1024_S1x128x1024 (by decide +kernel),
    copied 1024 4096 10240 arg2 harg2 x inb_S1x128x19568_S1x128x1024_0_0_4096 inb_S1x128x19712_S1x128x1024_0_0_10240 shapeCasts_S1x128x1024_S128x1024 shapeCasts_S128x1024_S1x128x1024 (by decide +kernel),
    copied 1024 3072 9216 arg2 harg2 x inb_S1x128x19568_S1x128x1024_0_0_3072 inb_S1x128x19712_S1x128x1024_0_0_9216 shapeCasts_S1x128x1024_S128x1024 shapeCasts_S128x1024_S1x128x1024 (by decide +kernel),
    copied 1024 2048 8192 arg2 harg2 x inb_S1x128x19568_S1x128x1024_0_0_2048 inb_S1x128x19712_S1x128x1024_0_0_8192 shapeCasts_S1x128x1024_S128x1024 shapeCasts_S128x1024_S1x128x1024 (by decide +kernel),
    copied 1024 18544 7168 arg2 harg2 x inb_S1x128x19568_S1x128x1024_0_0_18544 inb_S1x128x19712_S1x128x1024_0_0_7168 shapeCasts_S1x128x1024_S128x1024 shapeCasts_S128x1024_S1x128x1024 (by decide +kernel),
    copied 1024 17520 6144 arg2 harg2 x inb_S1x128x19568_S1x128x1024_0_0_17520 inb_S1x128x19712_S1x128x1024_0_0_6144 shapeCasts_S1x128x1024_S128x1024 shapeCasts_S128x1024_S1x128x1024 (by decide +kernel),
    copied 1024 16496 5120 arg2 harg2 x inb_S1x128x19568_S1x128x1024_0_0_16496 inb_S1x128x19712_S1x128x1024_0_0_5120 shapeCasts_S1x128x1024_S128x1024 shapeCasts_S128x1024_S1x128x1024 (by decide +kernel),
    copied 1024 15472 4096 arg2 harg2 x inb_S1x128x19568_S1x128x1024_0_0_15472 inb_S1x128x19712_S1x128x1024_0_0_4096 shapeCasts_S1x128x1024_S128x1024 shapeCasts_S128x1024_S1x128x1024 (by decide +kernel),
    copied 1024 14448 3072 arg2 harg2 x inb_S1x128x19568_S1x128x1024_0_0_14448 inb_S1x128x19712_S1x128x1024_0_0_3072 shapeCasts_S1x128x1024_S128x1024 shapeCasts_S128x1024_S1x128x1024 (by decide +kernel),
    copied 1024 13424 2048 arg2 harg2 x inb_S1x128x19568_S1x128x1024_0_0_13424 inb_S1x128x19712_S1x128x1024_0_0_2048 shapeCasts_S1x128x1024_S128x1024 shapeCasts_S128x1024_S1x128x1024 (by decide +kernel),
    copied 1024 1024 1024 arg2 harg2 x inb_S1x128x19568_S1x128x1024_0_0_1024 inb_S1x128x19712_S1x128x1024_0_0_1024 shapeCasts_S1x128x1024_S128x1024 shapeCasts_S128x1024_S1x128x1024 (by decide +kernel),
    copied 1024 0 0 arg2 harg2 x inb_S1x128x19568_S1x128x1024_0_0_0 inb_S1x128x19712_S1x128x1024_0_0_0 shapeCasts_S1x128x1024_S128x1024 shapeCasts_S128x1024_S1x128x1024 (by decide +kernel), trivial⟩

/-- What a point leaves in its block of results. -/
theorem out_apply (c : Dev nD) (t : Fin cfg0.N) (y : S1x128x19712.Idx) : outsAt0 m c t y = row (iblk m c 0 t) y := by
  unfold outsAt0 out0_A_1
  refine (View.read_writes_junk_apply_eq_canon _ _ _).trans ?_
  have hp := pieces c (grid0.coords t) (ms0_0 t) (hs0_0 t) (ms0_1 t) (hs0_1 t) (iblk m c 0 t)
  have hc := cover0_A_1 c (grid0.coords t) (ms0_0 t) (hs0_0 t) (ms0_1 t) (hs0_1 t) (iblk m c 0 t) y
  exact View.canon_apply_of_pieces (Val := Elt Ideal) (e := .bf16) (row (iblk m c 0 t)) _ hp.mem y hc

/-- Which block each window holds at grid point `t`. -/
theorem idx : ∀ t : Fin cfg0.N, win0_0.index t = ![t.val / 16, t.val % 16, 0] ∧ win0_1.index t = ![t.val / 16, t.val % 16, 0] :=
  (by decide +kernel : ∀ t : Fin grid0.N, _)

/-- There are 64 points. -/
theorem lt_N (t : Fin cfg0.N) : t.val < 64 := by have := t.isLt; simpa only [show cfg0.N = 64 from N_0] using this

/-- The layer of point `t`. -/
def layer (t : Fin cfg0.N) : Fin 4 := ⟨t.val / 16, by have := lt_N t; omega⟩

/-- The row of the whole array that row `d` of point `t`'s block is. -/
def line (t : Fin cfg0.N) (d : Fin 128) : Fin 2048 := ⟨t.val % 16 * 128 + d.val, by omega⟩

/-- A point's block of weights, entry by entry. -/
theorem wblk (c : Dev nD) (t : Fin cfg0.N) (d : Fin 128) (k : Fin 19568) :
    iblk m c 0 t (ix3 0 d k) = (m ((c : Thread nD τ).loc main_arg0) : FVec Ideal S4x2048x19568 .f32) (ix3 (layer t) (line t d) k) := by
  blk_ext [iblk, V, idx t, layer, line]

/-- Where a point's block of results lies. -/
theorem place (G : FVec Ideal S4x2048x19712 .bf16) (t : Fin cfg0.N) (d : Fin 128) (n : Fin 19712) :
    G (((cfg0.win 1).blk t).view.emb (ix3 0 d n)) = G (ix3 (layer t) (line t d) n) := by
  blk_ext [idx t, layer, line]

/-- The result array after the run is the reference's. -/
theorem final (c : Dev nD) : (dats m 0 c).arrAt 1 (cfgs 0).N = REF (m ((c : Thread nD τ).loc main_arg0)) := by
  refine (dats m 0 c).arrAt_eq_of_covers 1 _ (by decide +kernel) fun t _ y => ?_
  blk_simp
  rw [after0_1]
  obtain ⟨d, n, rfl⟩ : ∃ (d : Fin 128) (n : Fin 19712), y = ix3 0 d n :=
    ⟨y 1, y 2, by funext a; match a with | ⟨0, _⟩ => exact Subsingleton.elim (α := Fin 1) _ _ | ⟨1, _⟩ => rfl | ⟨2, _⟩ => rfl⟩
  refine Eq.trans ?_ (place _ t d n).symm
  refine (out_apply m c t _).trans (Eq.trans ?_ (ref_apply _ _ _ n).symm)
  exact congrArg (fun a => pick a (source n.val)) (funext fun k => wblk m c t d k)

end Cert.Proofs.PrepWeights

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Ssd
public import proofs.«01_k».proof.Proof.Gen.Kernel2.Frame
public import proofs.«01_k».proof.Proof.InProj
public import proofs.«01_k».proof.Proof.Gen.Kernel3.Frame
public import proofs.«01_k».proof.Proof.FfnUp
public import proofs.«01_k».proof.Proof.Gen.Kernel4.Frame
public import proofs.«01_k».proof.Proof.FfnDown
public import proofs.«01_k».proof.Proof.Gen.Kernel5.Frame
public import proofs.«01_k».proof.Proof.Merge
public import proofs.«01_k».proof.Proof.Gen.Kernel6.Frame
public import proofs.«01_k».proof.Proof.OutProj
public import proofs.«01_k».proof.Proof.Gen.Kernel7.Frame
public import proofs.«01_k».proof.Proof.FinalNorm
public import proofs.«01_k».proof.Proof.Gen.Kernel8.Frame
public import proofs.«01_k».proof.Proof.MixNorm
public import proofs.«01_k».proof.Proof.Gen.Kernel9.Frame
public import proofs.«01_k».proof.Proof.FfnNorm
public import proofs.«01_k».proof.Proof.Gen.Kernel10.Frame
public import proofs.«01_k».proof.Proof.AdaMod
public import proofs.«01_k».proof.Proof.Gen.Kernel11.Frame
public import proofs.«01_k».proof.Proof.ShortConv
public import proofs.«01_k».proof.Proof.Gen.Kernel12.Frame
public import proofs.«01_k».proof.Proof.SsdConv
public import proofs.«01_k».proof.Proof.Gen.Kernel13.Frame
public import proofs.«01_k».proof.Proof.PrepWeights
public import Idealize.ShloMosaic.Adequacy
public import Idealize.ShloMosaic.Init

@[expose] public section

noncomputable section

namespace Cert.Proof

open Idealize.ShloMosaic Idealize.SL.Sem

/-- The in-projection: the kernel and the reference end with the same product. -/
theorem algebraic2 : Cert.algebraic_Kernel2Ideal_Reference2Ideal := by
  pair_intro
  · run_from Cert.Kernel2Ideal.Gen.run_main m g
  · run_from Cert.Reference2Ideal.Value.run m' g'
    exact (Cert.Proofs.InProj.final m c).symm

/-- The first half of the gated feed-forward: the kernel and the reference end with the same gated products. -/
theorem algebraic3 : Cert.algebraic_Kernel3Ideal_Reference3Ideal := by
  pair_intro
  · run_from Cert.Kernel3Ideal.Gen.run_main m g
  · run_from Cert.Reference3Ideal.Value.run m' g'
    exact (Cert.Proofs.FfnUp.final m c).symm

/-- The second half of the feed-forward: the kernel and the reference end with the same gated residual sum. -/
theorem algebraic4 : Cert.algebraic_Kernel4Ideal_Reference4Ideal := by
  pair_intro
  · run_from Cert.Kernel4Ideal.Gen.run_main m g
  · run_from Cert.Reference4Ideal.Value.run m' g'
    exact (Cert.Proofs.FfnDown.final m c).symm

/-- The merge of the three branches: the kernel and the reference end with the same gated sum of the projected branches. -/
theorem algebraic5 : Cert.algebraic_Kernel5Ideal_Reference5Ideal := by
  pair_intro
  · run_from Cert.Kernel5Ideal.Gen.run_main m g
  · run_from Cert.Reference5Ideal.Value.run m' g'
    exact (Cert.Proofs.Merge.final m c).symm

/-- The projection after the merge: the kernel and the reference end with the same gated residual sum. -/
theorem algebraic6 : Cert.algebraic_Kernel6Ideal_Reference6Ideal := by
  pair_intro
  · run_from Cert.Kernel6Ideal.Gen.run_main m g
  · run_from Cert.Reference6Ideal.Value.run m' g'
    exact (Cert.Proofs.OutProj.final m c).symm

/-- The last norm: the kernel and the reference end with the same normed rows. -/
theorem algebraic7 : Cert.algebraic_Kernel7Ideal_Reference7Ideal := by
  pair_intro
  · run_from Cert.Kernel7Ideal.Gen.run_main m g
  · run_from Cert.Reference7Ideal.Value.run m' g'
    exact (Cert.Proofs.FinalNorm.final m c).symm

/-- The norm before the mixer: the kernel and the reference end with the same modulated rows. -/
theorem algebraic8 : Cert.algebraic_Kernel8Ideal_Reference8Ideal := by
  pair_intro
  · run_from Cert.Kernel8Ideal.Gen.run_main m g
  · run_from Cert.Reference8Ideal.Value.run m' g'
    exact (Cert.Proofs.MixNorm.final m c).symm

/-- The norm before the feed-forward: the kernel and the reference end with the same modulated rows. -/
theorem algebraic9 : Cert.algebraic_Kernel9Ideal_Reference9Ideal := by
  pair_intro
  · run_from Cert.Kernel9Ideal.Gen.run_main m g
  · run_from Cert.Reference9Ideal.Value.run m' g'
    exact (Cert.Proofs.FfnNorm.final m c).symm

/-- The modulation: the kernel and the reference end with the same numbers for every layer. -/
theorem algebraic10 : Cert.algebraic_Kernel10Ideal_Reference10Ideal := by
  pair_intro
  · run_from Cert.Kernel10Ideal.Gen.run_main m g
  · run_from Cert.Reference10Ideal.Value.run m' g'
    exact (Cert.Proofs.AdaMod.final m c).symm

/-- The short convolution: the kernel and the reference end with the same gated sums. -/
theorem algebraic11 : Cert.algebraic_Kernel11Ideal_Reference11Ideal := by
  pair_intro
  · run_from Cert.Kernel11Ideal.Gen.run_main m g
  · run_from Cert.Reference11Ideal.Value.run m' g'
    exact (Cert.Proofs.ShortConv.final m c).symm

/-- The convolution before the scan: the kernel and the reference end with the same rows. -/
theorem algebraic12 : Cert.algebraic_Kernel12Ideal_Reference12Ideal := by
  pair_intro
  · run_from Cert.Kernel12Ideal.Gen.run_main m g
  · run_from Cert.Proofs.SsdConv.ref_run m' g'
    exact (Cert.Proofs.SsdConv.final m c).symm

/-- The preparation of the in-projection's weights: the kernel and the reference end with the same columns. -/
theorem algebraic13 : Cert.algebraic_Kernel13Ideal_Reference13Ideal := by
  pair_intro
  · run_from Cert.Kernel13Ideal.Gen.run_main m g
  · refine θ_run_mono (Cert.Proofs.PrepWeights.ref_run m' g') fun r hr c => ⟨(hr c).1.trans ?_, (hr c).2⟩
    exact (congrArg Cert.Proofs.PrepWeights.REF (hagree c)).trans (Cert.Proofs.PrepWeights.final m c).symm

/-- The reference 1 runs to its end and leaves its arguments as they were. -/
theorem frameR : Cert.quiescent_ReferenceIdeal := fun m g _ =>
  (θ_run Cert.ReferenceIdeal.defs _ _).mono
    (fun r h => ⟨fun c => (h c).2, sem_eq_zero_of_no_sems (sig := Cert.ReferenceIdeal.sig) (by decide) _⟩)
    (Cert.ReferenceIdeal.Value.run m g)

/-- The reference 2 runs to its end and leaves its arguments as they were. -/
theorem frameR2 : Cert.quiescent_Reference2Ideal := fun m g _ =>
  (θ_run Cert.Reference2Ideal.defs _ _).mono
    (fun r h => ⟨fun c => (h c).2, sem_eq_zero_of_no_sems (sig := Cert.Reference2Ideal.sig) (by decide) _⟩)
    (Cert.Reference2Ideal.Value.run m g)

/-- The reference 3 runs to its end and leaves its arguments as they were. -/
theorem frameR3 : Cert.quiescent_Reference3Ideal := fun m g _ =>
  (θ_run Cert.Reference3Ideal.defs _ _).mono
    (fun r h => ⟨fun c => (h c).2, sem_eq_zero_of_no_sems (sig := Cert.Reference3Ideal.sig) (by decide) _⟩)
    (Cert.Reference3Ideal.Value.run m g)

/-- The reference 4 runs to its end and leaves its arguments as they were. -/
theorem frameR4 : Cert.quiescent_Reference4Ideal := fun m g _ =>
  (θ_run Cert.Reference4Ideal.defs _ _).mono
    (fun r h => ⟨fun c => (h c).2, sem_eq_zero_of_no_sems (sig := Cert.Reference4Ideal.sig) (by decide) _⟩)
    (Cert.Reference4Ideal.Value.run m g)

/-- The reference 5 runs to its end and leaves its arguments as they were. -/
theorem frameR5 : Cert.quiescent_Reference5Ideal := fun m g _ =>
  (θ_run Cert.Reference5Ideal.defs _ _).mono
    (fun r h => ⟨fun c => (h c).2, sem_eq_zero_of_no_sems (sig := Cert.Reference5Ideal.sig) (by decide) _⟩)
    (Cert.Reference5Ideal.Value.run m g)

/-- The reference 6 runs to its end and leaves its arguments as they were. -/
theorem frameR6 : Cert.quiescent_Reference6Ideal := fun m g _ =>
  (θ_run Cert.Reference6Ideal.defs _ _).mono
    (fun r h => ⟨fun c => (h c).2, sem_eq_zero_of_no_sems (sig := Cert.Reference6Ideal.sig) (by decide) _⟩)
    (Cert.Reference6Ideal.Value.run m g)

/-- The reference 7 runs to its end and leaves its arguments as they were. -/
theorem frameR7 : Cert.quiescent_Reference7Ideal := fun m g _ =>
  (θ_run Cert.Reference7Ideal.defs _ _).mono
    (fun r h => ⟨fun c => (h c).2, sem_eq_zero_of_no_sems (sig := Cert.Reference7Ideal.sig) (by decide) _⟩)
    (Cert.Reference7Ideal.Value.run m g)

/-- The reference 8 runs to its end and leaves its arguments as they were. -/
theorem frameR8 : Cert.quiescent_Reference8Ideal := fun m g _ =>
  (θ_run Cert.Reference8Ideal.defs _ _).mono
    (fun r h => ⟨fun c => (h c).2, sem_eq_zero_of_no_sems (sig := Cert.Reference8Ideal.sig) (by decide) _⟩)
    (Cert.Reference8Ideal.Value.run m g)

/-- The reference 9 runs to its end and leaves its arguments as they were. -/
theorem frameR9 : Cert.quiescent_Reference9Ideal := fun m g _ =>
  (θ_run Cert.Reference9Ideal.defs _ _).mono
    (fun r h => ⟨fun c => (h c).2, sem_eq_zero_of_no_sems (sig := Cert.Reference9Ideal.sig) (by decide) _⟩)
    (Cert.Reference9Ideal.Value.run m g)

/-- The reference 10 runs to its end and leaves its arguments as they were. -/
theorem frameR10 : Cert.quiescent_Reference10Ideal := fun m g _ =>
  (θ_run Cert.Reference10Ideal.defs _ _).mono
    (fun r h => ⟨fun c => (h c).2, sem_eq_zero_of_no_sems (sig := Cert.Reference10Ideal.sig) (by decide) _⟩)
    (Cert.Reference10Ideal.Value.run m g)

/-- The reference 11 runs to its end and leaves its arguments as they were. -/
theorem frameR11 : Cert.quiescent_Reference11Ideal := fun m g _ =>
  (θ_run Cert.Reference11Ideal.defs _ _).mono
    (fun r h => ⟨fun c => (h c).2, sem_eq_zero_of_no_sems (sig := Cert.Reference11Ideal.sig) (by decide) _⟩)
    (Cert.Reference11Ideal.Value.run m g)

/-- The reference 12 runs to its end and leaves its arguments as they were. -/
theorem frameR12 : Cert.quiescent_Reference12Ideal := fun m g _ =>
  (θ_run Cert.Reference12Ideal.defs _ _).mono
    (fun r h => ⟨fun c => (h c).2, sem_eq_zero_of_no_sems (sig := Cert.Reference12Ideal.sig) (by decide) _⟩)
    (Cert.Reference12Ideal.Value.run m g)

/-- The reference 13 runs to its end and leaves its arguments as they were. -/
theorem frameR13 : Cert.quiescent_Reference13Ideal := fun m g _ =>
  (θ_run Cert.Reference13Ideal.defs _ _).mono
    (fun r h => ⟨fun c => (h c).2, sem_eq_zero_of_no_sems (sig := Cert.Reference13Ideal.sig) (by decide) _⟩)
    (Cert.Reference13Ideal.Value.run m g)

/-- The scan: the kernel and the reference end with the same gated and normed output. -/
theorem algebraic1 : Cert.algebraic_KernelIdeal_ReferenceIdeal := Cert.Proofs.Ssd.algebraic

/-- All claims together. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.Kernel.Gen.frame m ρ,
    fun m ρ _ => Cert.KernelIdeal.Gen.frame m ρ,
    frameR,
    fun m ρ _ => Cert.Kernel2.Gen.frame m ρ,
    fun m ρ _ => Cert.Kernel2Ideal.Gen.frame m ρ,
    frameR2,
    fun m ρ _ => Cert.Kernel3.Gen.frame m ρ,
    fun m ρ _ => Cert.Kernel3Ideal.Gen.frame m ρ,
    frameR3,
    fun m ρ _ => Cert.Kernel4.Gen.frame m ρ,
    fun m ρ _ => Cert.Kernel4Ideal.Gen.frame m ρ,
    frameR4,
    fun m ρ _ => Cert.Kernel5.Gen.frame m ρ,
    fun m ρ _ => Cert.Kernel5Ideal.Gen.frame m ρ,
    frameR5,
    fun m ρ _ => Cert.Kernel6.Gen.frame m ρ,
    fun m ρ _ => Cert.Kernel6Ideal.Gen.frame m ρ,
    frameR6,
    fun m ρ _ => Cert.Kernel7.Gen.frame m ρ,
    fun m ρ _ => Cert.Kernel7Ideal.Gen.frame m ρ,
    frameR7,
    fun m ρ _ => Cert.Kernel8.Gen.frame m ρ,
    fun m ρ _ => Cert.Kernel8Ideal.Gen.frame m ρ,
    frameR8,
    fun m ρ _ => Cert.Kernel9.Gen.frame m ρ,
    fun m ρ _ => Cert.Kernel9Ideal.Gen.frame m ρ,
    frameR9,
    fun m ρ _ => Cert.Kernel10.Gen.frame m ρ,
    fun m ρ _ => Cert.Kernel10Ideal.Gen.frame m ρ,
    frameR10,
    fun m ρ _ => Cert.Kernel11.Gen.frame m ρ,
    fun m ρ _ => Cert.Kernel11Ideal.Gen.frame m ρ,
    frameR11,
    fun m ρ _ => Cert.Kernel12.Gen.frame m ρ,
    fun m ρ _ => Cert.Kernel12Ideal.Gen.frame m ρ,
    frameR12,
    fun m ρ _ => Cert.Kernel13.Gen.frame m ρ,
    fun m ρ _ => Cert.Kernel13Ideal.Gen.frame m ρ,
    frameR13,
    trivial,
    algebraic1,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13⟩

end Cert.Proof

end
